-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates_long [hPre_finite_gates_long : Cert.Pre_finite_gates_long.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates_long.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates_long [hPre_finite_gates_long : Cert.Pre_finite_gates_long.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates_long.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_gates_long [hKernel5Ideal : Cert.Kernel5Ideal.Facts] [hPre_finite_gates_long : Cert.Pre_finite_gates_long.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates_long m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_gates_long [hReference5Ideal : Cert.Reference5Ideal.Facts] [hPre_finite_gates_long : Cert.Pre_finite_gates_long.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates_long m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite_gates_long [hKernel5Ideal : Cert.Kernel5Ideal.Facts] [hReference5Ideal : Cert.Reference5Ideal.Facts] [hPre_finite_gates_long : Cert.Pre_finite_gates_long.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates_long m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_gates : Cert.Pre_finite_gates.Facts) (hPre_finite_gates_long : Cert.Pre_finite_gates_long.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates_long (hKernel5Ideal := hKernel5Ideal) (hPre_finite_gates_long := hPre_finite_gates_long)
    ∧ quiescent_Reference5Ideal (hReference5Ideal := hReference5Ideal)
    ∧ quiescent_Reference5Ideal_pre_finite_gates_long (hReference5Ideal := hReference5Ideal) (hPre_finite_gates_long := hPre_finite_gates_long)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates_long (hKernel5Ideal := hKernel5Ideal) (hReference5Ideal := hReference5Ideal) (hPre_finite_gates_long := hPre_finite_gates_long)
-- ==== Pre_finite_gates.lean ====
abbrev S4x8192x1024 : Shape := ⟨3, ![4, 8192, 1024]⟩
abbrev S4x64x1024x128 : Shape := ⟨4, ![4, 64, 1024, 128]⟩
abbrev S4x8192x11264 : Shape := ⟨3, ![4, 8192, 11264]⟩
abbrev S4x8192x128 : Shape := ⟨3, ![4, 8192, 128]⟩
abbrev S4x16x8192 : Shape := ⟨3, ![4, 16, 8192]⟩
abbrev S4x8192x32 : Shape := ⟨3, ![4, 8192, 32]⟩
abbrev S_ : Shape := ⟨0, ![]⟩

class Facts : Prop where
  slices_S4x8192x128_S4x8192x32_0_0_0 : S4x8192x128.Slices ![0, 0, 0] S4x8192x32
  bcast_S_S4x8192x32 : S_.BroadcastsInDim S4x8192x32 (![] : Fin 0 → Fin S4x8192x32.rank)

variable [Facts]

def fn {F : FTy → Type} [FloatOps F] (main_arg0 : FVec F S4x8192x1024 .bf16) (main_arg1 : FVec F S4x64x1024x128 .bf16) (main_arg2 : FVec F S4x8192x11264 .bf16) (main_arg3 : FVec F S4x8192x128 .f32) (main_arg4 : FVec F S4x16x8192 .f32) : IVec S4x8192x32 1 :=
  let main_v0 : FVec F S4x8192x32 .f32 := (extractStridedSlice S4x8192x32 ![0, 0, 0] · slices_S4x8192x128_S4x8192x32_0_0_0) main_arg3
  let main_v1 : FVec F S4x8192x32 .f32 := Host.absf main_v0
  let main_cst : FVec F S_ .f32 := constant S_ .f32 0x7F800000#32
  let main_v2 : FVec F S4x8192x32 .f32 := broadcastInDim S4x8192x32 ![] bcast_S_S4x8192x32 main_cst
  let main_v3 : IVec S4x8192x32 1 := cmpf .olt main_v1 main_v2
  main_v3
-- ==== Pre_finite_gates_long.lean ====
abbrev S2x16384x1024 : Shape := ⟨3, ![2, 16384, 1024]⟩
abbrev S2x128x1024x128 : Shape := ⟨4, ![2, 128, 1024, 128]⟩
abbrev S2x16384x11264 : Shape := ⟨3, ![2, 16384, 11264]⟩
abbrev S2x16384x128 : Shape := ⟨3, ![2, 16384, 128]⟩
abbrev S2x16x16384 : Shape := ⟨3, ![2, 16, 16384]⟩
abbrev S2x16384x32 : Shape := ⟨3, ![2, 16384, 32]⟩
abbrev S_ : Shape := ⟨0, ![]⟩

class Facts : Prop where
  slices_S2x16384x128_S2x16384x32_0_0_0 : S2x16384x128.Slices ![0, 0, 0] S2x16384x32
  bcast_S_S2x16384x32 : S_.BroadcastsInDim S2x16384x32 (![] : Fin 0 → Fin S2x16384x32.rank)

variable [Facts]

def fn {F : FTy → Type} [FloatOps F] (main_arg0 : FVec F S2x16384x1024 .bf16) (main_arg1 : FVec F S2x128x1024x128 .bf16) (main_arg2 : FVec F S2x16384x11264 .bf16) (main_arg3 : FVec F S2x16384x128 .f32) (main_arg4 : FVec F S2x16x16384 .f32) : IVec S2x16384x32 1 :=
  let main_v0 : FVec F S2x16384x32 .f32 := (extractStridedSlice S2x16384x32 ![0, 0, 0] · slices_S2x16384x128_S2x16384x32_0_0_0) main_arg3
  let main_v1 : FVec F S2x16384x32 .f32 := Host.absf main_v0
  let main_cst : FVec F S_ .f32 := constant S_ .f32 0x7F800000#32
  let main_v2 : FVec F S2x16384x32 .f32 := broadcastInDim S2x16384x32 ![] bcast_S_S2x16384x32 main_cst
  let main_v3 : IVec S2x16384x32 1 := cmpf .olt main_v1 main_v2
  main_v3
-- ==== Kernel.lean ====
abbrev S4x8192x1024 : Shape := ⟨3, ![4, 8192, 1024]⟩
abbrev S4x64x1024x128 : Shape := ⟨4, ![4, 64, 1024, 128]⟩
abbrev S4x8192x11264 : Shape := ⟨3, ![4, 8192, 11264]⟩
abbrev S4x8192x128 : Shape := ⟨3, ![4, 8192, 128]⟩
abbrev S4x16x8192 : Shape := ⟨3, ![4, 16, 8192]⟩
abbrev S4x8192x2048 : Shape := ⟨3, ![4, 8192, 2048]⟩
abbrev S1x128x1024 : Shape := ⟨3, ![1, 128, 1024]⟩
abbrev S1x1x1024x128 : Shape := ⟨4, ![1, 1, 1024, 128]⟩
abbrev S1x128x2048 : Shape := ⟨3, ![1, 128, 2048]⟩
abbrev S1x128x128 : Shape := ⟨3, ![1, 128, 128]⟩
abbrev S1x16x128 : Shape := ⟨3, ![1, 16, 128]⟩
abbrev S2x8x128x384 : Shape := ⟨4, ![2, 8, 128, 384]⟩
abbrev S2x8x128 : Shape := ⟨3, ![2, 8, 128]⟩
abbrev S16x128x128 : Shape := ⟨3, ![16, 128, 128]⟩
abbrev S16x128x256 : Shape := ⟨3, ![16, 128, 256]⟩
abbrev S16x8x128 : Shape := ⟨3, ![16, 8, 128]⟩
abbrev S128x128 : Shape := ⟨2, ![128, 128]⟩
abbrev S128x128x1 : Shape := ⟨3, ![128, 128, 1]⟩
abbrev S1x1x128 : Shape := ⟨3, ![1, 1, 128]⟩
abbrev S1x128 : Shape := ⟨2, ![1, 128]⟩
abbrev S1x1x1 : Shape := ⟨3, ![1, 1, 1]⟩
abbrev S1x1 : Shape := ⟨2, ![1, 1]⟩
abbrev S1x1x128x128 : Shape := ⟨4, ![1, 1, 128, 128]⟩
abbrev S8x128 : Shape := ⟨2, ![8, 128]⟩
abbrev S1x8x128 : Shape := ⟨3, ![1, 8, 128]⟩
abbrev S1x128x256 : Shape := ⟨3, ![1, 128, 256]⟩
abbrev S128x256 : Shape := ⟨2, ![128, 256]⟩
abbrev S1x1x128x384 : Shape := ⟨4, ![1, 1, 128, 384]⟩
abbrev S128x384 : Shape := ⟨2, ![128, 384]⟩
abbrev S256x384 : Shape := ⟨2, ![256, 384]⟩

abbrev nBuf : Space → Nat
  | .hbm => 7
  | .vmem => 31
  | .smem => 0
  | _ => 0

abbrev bufTy : (tb : Table) → Fin (tcTables nBuf tb) → BufTy
  | .hbm, ⟨0, _⟩ => ⟨S4x8192x1024, .bf16⟩
  | .hbm, ⟨1, _⟩ => ⟨S4x64x1024x128, .bf16⟩
  | .hbm, ⟨2, _⟩ => ⟨S4x8192x11264, .bf16⟩
  | .hbm, ⟨3, _⟩ => ⟨S4x8192x128, .f32⟩
  | .hbm, ⟨4, _⟩ => ⟨S4x16x8192, .f32⟩
  | .hbm, ⟨5, _⟩ => ⟨S4x8192x2048, .bf16⟩
  | .hbm, ⟨6, _⟩ => ⟨S4x8192x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S1x128x2048, .bf16⟩
  | .local _ .vmem, ⟨21, _⟩ => ⟨S1x128x2048, .bf16⟩
  | .local _ .vmem, ⟨22, _⟩ => ⟨S1x128x2048, .bf16⟩
  | .local _ .vmem, ⟨23, _⟩ => ⟨S1x128x2048, .bf16⟩
  | .local _ .vmem, ⟨24, _⟩ => ⟨S2x8x128x384, .f32⟩
  | .local _ .vmem, ⟨25, _⟩ => ⟨S2x8x128, .f32⟩
  | .local _ .vmem, ⟨26, _⟩ => ⟨S16x128x128, .f32⟩
  | .local _ .vmem, ⟨27, _⟩ => ⟨S16x128x256, .bf16⟩
  | .local _ .vmem, ⟨28, _⟩ => ⟨S16x128x128, .f32⟩
  | .local _ .vmem, ⟨29, _⟩ => ⟨S16x128x128, .bf16⟩
  | .local _ .vmem, ⟨30, _⟩ => ⟨S16x8x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 64], ![false, false]⟩

def k0_cond4 (i : grid0.Coords) : BitVec 1 :=
  let arg1 : BitVec 32 := BitVec.ofNat 32 (i 1).val
  let c_m2_i32 : BitVec 32 := 4294967294#32
  let v9 : BitVec 1 := Scalar.cmpi .sge arg1 c_m2_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S4x8192x1024 : Shape := ⟨3, ![4, 8192, 1024]⟩
abbrev S4x64x1024x128 : Shape := ⟨4, ![4, 64, 1024, 128]⟩
abbrev S4x8192x11264 : Shape := ⟨3, ![4, 8192, 11264]⟩
abbrev S4x8192x128 : Shape := ⟨3, ![4, 8192, 128]⟩
abbrev S4x16x8192 : Shape := ⟨3, ![4, 16, 8192]⟩
abbrev S4x8192x2048 : Shape := ⟨3, ![4, 8192, 2048]⟩
abbrev S1x128x1024 : Shape := ⟨3, ![1, 128, 1024]⟩
abbrev S1x1x1024x128 : Shape := ⟨4, ![1, 1, 1024, 128]⟩
abbrev S1x128x2048 : Shape := ⟨3, ![1, 128, 2048]⟩
abbrev S1x128x128 : Shape := ⟨3, ![1, 128, 128]⟩
abbrev S1x16x128 : Shape := ⟨3, ![1, 16, 128]⟩
abbrev S2x8x128x384 : Shape := ⟨4, ![2, 8, 128, 384]⟩
abbrev S2x8x128 : Shape := ⟨3, ![2, 8, 128]⟩
abbrev S16x128x128 : Shape := ⟨3, ![16, 128, 128]⟩
abbrev S16x128x256 : Shape := ⟨3, ![16, 128, 256]⟩
abbrev S16x8x128 : Shape := ⟨3, ![16, 8, 128]⟩
abbrev S128x128 : Shape := ⟨2, ![128, 128]⟩
abbrev S128x128x1 : Shape := ⟨3, ![128, 128, 1]⟩
abbrev S1x1x128 : Shape := ⟨3, ![1, 1, 128]⟩
abbrev S1x128 : Shape := ⟨2, ![1, 128]⟩
abbrev S1x1x1 : Shape := ⟨3, ![1, 1, 1]⟩
abbrev S1x1 : Shape := ⟨2, ![1, 1]⟩
abbrev S1x1x128x128 : Shape := ⟨4, ![1, 1, 128, 128]⟩
abbrev S8x128 : Shape := ⟨2, ![8, 128]⟩
abbrev S1x8x128 : Shape := ⟨3, ![1, 8, 128]⟩
abbrev S1x128x256 : Shape := ⟨3, ![1, 128, 256]⟩
abbrev S128x256 : Shape := ⟨2, ![128, 256]⟩
abbrev S1x1x128x384 : Shape := ⟨4, ![1, 1, 128, 384]⟩
abbrev S128x384 : Shape := ⟨2, ![128, 384]⟩
abbrev S256x384 : Shape := ⟨2, ![256, 384]⟩

abbrev nBuf : Space → Nat
  | .hbm => 7
  | .vmem => 31
  | .smem => 0
  | _ => 0

abbrev bufTy : (tb : Table) → Fin (tcTables nBuf tb) → BufTy
  | .hbm, ⟨0, _⟩ => ⟨S4x8192x1024, .bf16⟩
  | .hbm, ⟨1, _⟩ => ⟨S4x64x1024x128, .bf16⟩
  | .hbm, ⟨2, _⟩ => ⟨S4x8192x11264, .bf16⟩
  | .hbm, ⟨3, _⟩ => ⟨S4x8192x128, .f32⟩
  | .hbm, ⟨4, _⟩ => ⟨S4x16x8192, .f32⟩
  | .hbm, ⟨5, _⟩ => ⟨S4x8192x2048, .bf16⟩
  | .hbm, ⟨6, _⟩ => ⟨S4x8192x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S1x128x2048, .bf16⟩
  | .local _ .vmem, ⟨21, _⟩ => ⟨S1x128x2048, .bf16⟩
  | .local _ .vmem, ⟨22, _⟩ => ⟨S1x128x2048, .bf16⟩
  | .local _ .vmem, ⟨23, _⟩ => ⟨S1x128x2048, .bf16⟩
  | .local _ .vmem, ⟨24, _⟩ => ⟨S2x8x128x384, .f32⟩
  | .local _ .vmem, ⟨25, _⟩ => ⟨S2x8x128, .f32⟩
  | .local _ .vmem, ⟨26, _⟩ => ⟨S16x128x128, .f32⟩
  | .local _ .vmem, ⟨27, _⟩ => ⟨S16x128x256, .bf16⟩
  | .local _ .vmem, ⟨28, _⟩ => ⟨S16x128x128, .f32⟩
  | .local _ .vmem, ⟨29, _⟩ => ⟨S16x128x128, .bf16⟩
  | .local _ .vmem, ⟨30, _⟩ => ⟨S16x8x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 64], ![false, false]⟩

def k0_cond4 (i : grid0.Coords) : BitVec 1 :=
  let arg1 : BitVec 32 := BitVec.ofNat 32 (i 1).val
  let c_m2_i32 : BitVec 32 := 4294967294#32
  let v9 : BitVec 1 := Scalar.cmpi .sge arg1 c_m2_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x8192x1024 : Shape := ⟨3, ![4, 8192, 1024]⟩
abbrev S4x64x1024x128 : Shape := ⟨4, ![4, 64, 1024, 128]⟩
abbrev S4x8192x11264 : Shape := ⟨3, ![4, 8192, 11264]⟩
abbrev S4x8192x128 : Shape := ⟨3, ![4, 8192, 128]⟩
abbrev S4x16x8192 : Shape := ⟨3, ![4, 16, 8192]⟩
abbrev S4x8192x8x128 : Shape := ⟨4, ![4, 8192, 8, 128]⟩
abbrev S4x64x128x1024 : Shape := ⟨4, ![4, 64, 128, 1024]⟩
abbrev S4x8192x2048 : Shape := ⟨3, ![4, 8192, 2048]⟩
abbrev S4x8192x8x256 : Shape := ⟨4, ![4, 8192, 8, 256]⟩
abbrev S4x8192x8 : Shape := ⟨3, ![4, 8192, 8]⟩
abbrev S4x8192x16 : Shape := ⟨3, ![4, 8192, 16]⟩
abbrev S8x8192x8x128 : Shape := ⟨4, ![8, 8192, 8, 128]⟩
abbrev S8x8192x8x256 : Shape := ⟨4, ![8, 8192, 8, 256]⟩
abbrev S8x8192x8 : Shape := ⟨3, ![8, 8192, 8]⟩
abbrev S128x128 : Shape := ⟨2, ![128, 128]⟩
abbrev S_ : Shape := ⟨0, ![]⟩
abbrev S8x8x256x128 : Shape := ⟨4, ![8, 8, 256, 128]⟩
abbrev S8x8x128 : Shape := ⟨3, ![8, 8, 128]⟩
abbrev S8x8 : Shape := ⟨2, ![8, 8]⟩
abbrev S8x64x128x8x128 : Shape := ⟨5, ![8, 64, 128, 8, 128]⟩
abbrev S64x8x8x128x128 : Shape := ⟨5, ![64, 8, 8, 128, 128]⟩
abbrev S8x64x128x8x256 : Shape := ⟨5, ![8, 64, 128, 8, 256]⟩
abbrev S64x8x8x128x256 : Shape := ⟨5, ![64, 8, 8, 128, 256]⟩
abbrev S8x64x128x8 : Shape := ⟨4, ![8, 64, 128, 8]⟩
abbrev S64x8x8x128 : Shape := ⟨4, ![64, 8, 8, 128]⟩
abbrev S1x8x8x128x128 : Shape := ⟨5, ![1, 8, 8, 128, 128]⟩
abbrev S8x8x128x128 : Shape := ⟨4, ![8, 8, 128, 128]⟩
abbrev S1x8x8x128x256 : Shape := ⟨5, ![1, 8, 8, 128, 256]⟩
abbrev S8x8x128x256 : Shape := ⟨4, ![8, 8, 128, 256]⟩
abbrev S1x8x8x128 : Shape := ⟨4, ![1, 8, 8, 128]⟩
abbrev S8x8x128x1 : Shape := ⟨4, ![8, 8, 128, 1]⟩
abbrev S8x8x1x128 : Shape := ⟨4, ![8, 8, 1, 128]⟩
abbrev S8x8x1 : Shape := ⟨3, ![8, 8, 1]⟩
abbrev S8x8x1x1 : Shape := ⟨4, ![8, 8, 1, 1]⟩

abbrev nBuf : Space → Nat
  | .hbm => 191
  | .vmem => 0
  | .smem => 0
  | _ => 0

abbrev hbmTy0_0 (i : Nat) : BufTy := match i % 128 with
  | 0 => ⟨S4x8192x1024, .bf16⟩
  | 1 => ⟨S4x64x1024x128, .bf16⟩
  | 2 => ⟨S4x8192x11264, .bf16⟩
  | 3 => ⟨S4x8192x128, .f32⟩
  | 4 => ⟨S4x16x8192, .f32⟩
  | 5 => ⟨S4x8192x1024, .f32⟩
  | 6 => ⟨S4x8192x8x128, .f32⟩
  | 7 => ⟨S4x64x1024x128, .f32⟩
  | 8 => ⟨S4x64x128x1024, .f32⟩
  | 9 => ⟨S4x8192x8x128, .f32⟩
  | 10 => ⟨S4x8192x2048, .bf16⟩
  | 11 => ⟨S4x8192x2048, .f32⟩
  | 12 => ⟨S4x8192x8x256, .f32⟩
  | 13 => ⟨S4x8192x8, .f32⟩
  | 14 => ⟨S4x8192x8, .f32⟩
  | 15 => ⟨S4x8192x8, .f32⟩
  | 16 => ⟨S4x8192x8, .f32⟩
  | 17 => ⟨S4x8192x16, .f32⟩
  | 18 => ⟨S4x8192x8, .f32⟩
  | 19 => ⟨S4x8192x8, .f32⟩
  | 20 => ⟨S4x8192x8x128, .f32⟩
  | 21 => ⟨S8x8192x8x128, .f32⟩
  | 22 => ⟨S4x8192x8x128, .f32⟩
  | 23 => ⟨S8x8192x8x128, .f32⟩
  | 24 => ⟨S4x8192x8x256, .f32⟩
  | 25 => ⟨S8x8192x8x256, .f32⟩
  | 26 => ⟨S4x8192x8, .f32⟩
  | 27 => ⟨S8x8192x8, .f32⟩
  | 28 => ⟨S4x8192x8, .f32⟩
  | 29 => ⟨S8x8192x8, .f32⟩
  | 30 => ⟨S4x8192x8, .f32⟩
  | 31 => ⟨S8x8192x8, .f32⟩
  | 32 => ⟨S128x128, .i32⟩
  | 33 => ⟨S128x128, .i32⟩
  | 34 => ⟨S128x128, .i1⟩
  | 35 => ⟨S_, .f32⟩
  | 36 => ⟨S8x8x256x128, .f32⟩
  | 37 => ⟨S_, .f32⟩
  | 38 => ⟨S8x8x128, .f32⟩
  | 39 => ⟨S_, .f32⟩
  | 40 => ⟨S8x8, .f32⟩
  | 41 => ⟨S8x64x128x8x128, .f32⟩
  | 42 => ⟨S64x8x8x128x128, .f32⟩
  | 43 => ⟨S8x64x128x8x128, .f32⟩
  | 44 => ⟨S64x8x8x128x128, .f32⟩
  | 45 => ⟨S8x64x128x8x256, .f32⟩
  | 46 => ⟨S64x8x8x128x256, .f32⟩
  | 47 => ⟨S8x64x128x8, .f32⟩
  | 48 => ⟨S64x8x8x128, .f32⟩
  | 49 => ⟨S8x64x128x8, .f32⟩
  | 50 => ⟨S64x8x8x128, .f32⟩
  | 51 => ⟨S8x64x128x8, .f32⟩
  | 52 => ⟨S64x8x8x128, .f32⟩
  | 53 => ⟨S_, .f32⟩
  | 54 => ⟨S64x8x8x128x256, .f32⟩
  | 55 => ⟨S_, .i32⟩
  | 56 => ⟨S64x8x8x128x128, .f32⟩
  | 57 => ⟨S64x8x8x128x128, .f32⟩
  | 58 => ⟨S64x8x8x128x256, .f32⟩
  | 59 => ⟨S64x8x8x128, .f32⟩
  | 60 => ⟨S64x8x8x128, .f32⟩
  | 61 => ⟨S64x8x8x128, .f32⟩
  | 62 => ⟨S128x128, .i1⟩
  | 63 => ⟨S_, .i32⟩
  | 64 => ⟨S8x8x256x128, .f32⟩
  | 65 => ⟨S8x8x128, .f32⟩
  | 66 => ⟨S8x8, .f32⟩
  | 67 => ⟨S64x8x8x128x256, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x8x8x128x128, .f32⟩
  | 75 => ⟨S8x8x128x128, .f32⟩
  | 76 => ⟨S_, .i32⟩
  | 77 => ⟨S_, .i32⟩
  | 78 => ⟨S_, .i32⟩
  | 79 => ⟨S_, .i32⟩
  | 80 => ⟨S1x8x8x128x128, .f32⟩
  | 81 => ⟨S8x8x128x128, .f32⟩
  | 82 => ⟨S_, .i32⟩
  | 83 => ⟨S_, .i32⟩
  | 84 => ⟨S_, .i32⟩
  | 85 => ⟨S_, .i32⟩
  | 86 => ⟨S1x8x8x128x256, .f32⟩
  | 87 => ⟨S8x8x128x256, .f32⟩
  | 88 => ⟨S_, .i32⟩
  | 89 => ⟨S_, .i32⟩
  | 90 => ⟨S_, .i32⟩
  | 91 => ⟨S1x8x8x128, .f32⟩
  | 92 => ⟨S8x8x128, .f32⟩
  | 93 => ⟨S_, .i32⟩
  | 94 => ⟨S_, .i32⟩
  | 95 => ⟨S_, .i32⟩
  | 96 => ⟨S1x8x8x128, .f32⟩
  | 97 => ⟨S8x8x128, .f32⟩
  | 98 => ⟨S_, .i32⟩
  | 99 => ⟨S_, .i32⟩
  | 100 => ⟨S_, .i32⟩
  | 101 => ⟨S1x8x8x128, .f32⟩
  | 102 => ⟨S8x8x128, .f32⟩
  | 103 => ⟨S8x8x128x1, .f32⟩
  | 104 => ⟨S8x8x1x128, .f32⟩
  | 105 => ⟨S8x8x128x128, .f32⟩
  | 106 => ⟨S8x8x128x128, .f32⟩
  | 107 => ⟨S8x8x128x128, .f32⟩
  | 108 => ⟨S_, .f32⟩
  | 109 => ⟨S_, .f32⟩
  | 110 => ⟨S8x8x128x128, .i1⟩
  | 111 => ⟨S8x8x128x128, .f32⟩
  | 112 => ⟨S8x8x128x128, .f32⟩
  | 113 => ⟨S8x8x1, .f32⟩
  | 114 => ⟨S8x8x128, .f32⟩
  | 115 => ⟨S8x8x128, .f32⟩
  | 116 => ⟨S8x8x128, .f32⟩
  | 117 => ⟨S8x8x128, .f32⟩
  | 118 => ⟨S8x8x128, .f32⟩
  | 119 => ⟨S8x8x128, .f32⟩
  | 120 => ⟨S8x8x128x128, .f32⟩
  | 121 => ⟨S8x8x128x1, .f32⟩
  | 122 => ⟨S8x8x128x128, .f32⟩
  | 123 => ⟨S8x8x128x128, .f32⟩
  | 124 => ⟨S8x8x128x128, .f32⟩
  | 125 => ⟨S8x8x128x128, .f32⟩
  | 126 => ⟨S8x8x128x1, .f32⟩
  | 127 => ⟨S8x8x128x256, .f32⟩
  | _ => ⟨S4x8192x1024, .bf16⟩

abbrev hbmTy0_1 (i : Nat) : BufTy := match i % 128 with
  | 0 => ⟨S8x8x128x256, .f32⟩
  | 1 => ⟨S8x8x128x256, .f32⟩
  | 2 => ⟨S8x8x128x256, .f32⟩
  | 3 => ⟨S8x8x128x256, .f32⟩
  | 4 => ⟨S8x8x128, .f32⟩
  | 5 => ⟨S8x8x128, .f32⟩
  | 6 => ⟨S_, .f32⟩
  | 7 => ⟨S8x8x128, .f32⟩
  | 8 => ⟨S8x8x128, .f32⟩
  | 9 => ⟨S8x8x128, .f32⟩
  | 10 => ⟨S8x8x128, .f32⟩
  | 11 => ⟨S8x8x128, .f32⟩
  | 12 => ⟨S8x8x128, .f32⟩
  | 13 => ⟨S8x8x128x1, .f32⟩
  | 14 => ⟨S8x8x128x256, .f32⟩
  | 15 => ⟨S8x8x128x256, .f32⟩
  | 16 => ⟨S8x8x1, .f32⟩
  | 17 => ⟨S8x8, .f32⟩
  | 18 => ⟨S8x8x1, .f32⟩
  | 19 => ⟨S8x8x128, .f32⟩
  | 20 => ⟨S8x8x128, .f32⟩
  | 21 => ⟨S8x8, .f32⟩
  | 22 => ⟨S8x8x1, .f32⟩
  | 23 => ⟨S8x8, .f32⟩
  | 24 => ⟨S8x8, .f32⟩
  | 25 => ⟨S8x8, .f32⟩
  | 26 => ⟨S8x8, .f32⟩
  | 27 => ⟨S8x8, .f32⟩
  | 28 => ⟨S8x8, .f32⟩
  | 29 => ⟨S8x8x1, .f32⟩
  | 30 => ⟨S8x8x128, .f32⟩
  | 31 => ⟨S8x8x128, .f32⟩
  | 32 => ⟨S8x8x128, .f32⟩
  | 33 => ⟨S8x8x1x1, .f32⟩
  | 34 => ⟨S8x8x256x128, .f32⟩
  | 35 => ⟨S8x8x256x128, .f32⟩
  | 36 => ⟨S8x8x128x1, .f32⟩
  | 37 => ⟨S8x8x128x256, .f32⟩
  | 38 => ⟨S8x8x128x256, .f32⟩
  | 39 => ⟨S8x8x256x128, .f32⟩
  | 40 => ⟨S8x8x256x128, .f32⟩
  | 41 => ⟨S8x8x1, .f32⟩
  | 42 => ⟨S8x8x128, .f32⟩
  | 43 => ⟨S8x8x128, .f32⟩
  | 44 => ⟨S8x8x128, .f32⟩
  | 45 => ⟨S8x8x128, .f32⟩
  | 46 => ⟨S1x8x8x128x256, .f32⟩
  | 47 => ⟨S_, .i32⟩
  | 48 => ⟨S_, .i32⟩
  | 49 => ⟨S_, .i32⟩
  | 50 => ⟨S_, .i32⟩
  | 51 => ⟨S64x8x8x128x256, .f32⟩
  | 52 => ⟨S_, .i32⟩
  | 53 => ⟨S_, .i32⟩
  | 54 => ⟨S8x64x128x8x256, .f32⟩
  | 55 => ⟨S8x8192x8x256, .f32⟩
  | 56 => ⟨S4x8192x8x256, .f32⟩
  | 57 => ⟨S4x8192x8x256, .f32⟩
  | 58 => ⟨S4x8192x8x256, .f32⟩
  | 59 => ⟨S4x8192x2048, .f32⟩
  | 60 => ⟨S4x8192x2048, .bf16⟩
  | 61 => ⟨S4x8192x2048, .f32⟩
  | 62 => ⟨S4x8192x2048, .bf16⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_c : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev main_v46_6 : Ref sig .tc := ⟨.hbm, 62, rfl⟩
abbrev main_v46_7 : Ref sig .tc := ⟨.hbm, 63, rfl⟩
abbrev main_v46_8 : Ref sig .tc := ⟨.hbm, 64, rfl⟩
abbrev main_v46_9 : Ref sig .tc := ⟨.hbm, 65, rfl⟩
abbrev main_v46_10 : Ref sig .tc := ⟨.hbm, 66, rfl⟩
abbrev main_v46_11 : Ref sig .tc := ⟨.hbm, 67, rfl⟩
abbrev main_while0c_c_14 : Ref sig .tc := ⟨.hbm, 68, rfl⟩
abbrev main_while0c_v56 : Ref sig .tc := ⟨.hbm, 69, rfl⟩
abbrev main_while0b_call6_c : Ref sig .tc := ⟨.hbm, 70, rfl⟩
abbrev main_while0b_call6_c_0 : Ref sig .tc := ⟨.hbm, 71, rfl⟩
abbrev main_while0b_call6_c_1 : Ref sig .tc := ⟨.hbm, 72, rfl⟩
abbrev main_while0b_call6_c_2 : Ref sig .tc := ⟨.hbm, 73, rfl⟩
abbrev main_while0b_call6_v0 : Ref sig .tc := ⟨.hbm, 74, rfl⟩
abbrev main_while0b_v56 : Ref sig .tc := ⟨.hbm, 75, rfl⟩
abbrev main_while0b_call7_c : Ref sig .tc := ⟨.hbm, 76, rfl⟩
abbrev main_while0b_call7_c_0 : Ref sig .tc := ⟨.hbm, 77, rfl⟩
abbrev main_while0b_call7_c_1 : Ref sig .tc := ⟨.hbm, 78, rfl⟩
abbrev main_while0b_call7_c_2 : Ref sig .tc := ⟨.hbm, 79, rfl⟩
abbrev main_while0b_call7_v0 : Ref sig .tc := ⟨.hbm, 80, rfl⟩
abbrev main_while0b_v57 : Ref sig .tc := ⟨.hbm, 81, rfl⟩
abbrev main_while0b_call8_c : Ref sig .tc := ⟨.hbm, 82, rfl⟩
abbrev main_while0b_call8_c_0 : Ref sig .tc := ⟨.hbm, 83, rfl⟩
abbrev main_while0b_call8_c_1 : Ref sig .tc := ⟨.hbm, 84, rfl⟩
abbrev main_while0b_call8_c_2 : Ref sig .tc := ⟨.hbm, 85, rfl⟩
abbrev main_while0b_call8_v0 : Ref sig .tc := ⟨.hbm, 86, rfl⟩
abbrev main_while0b_v58 : Ref sig .tc := ⟨.hbm, 87, rfl⟩
abbrev main_while0b_call9_c : Ref sig .tc := ⟨.hbm, 88, rfl⟩
abbrev main_while0b_call9_c_0 : Ref sig .tc := ⟨.hbm, 89, rfl⟩
abbrev main_while0b_call9_c_1 : Ref sig .tc := ⟨.hbm, 90, rfl⟩
abbrev main_while0b_call9_v0 : Ref sig .tc := ⟨.hbm, 91, rfl⟩
abbrev main_while0b_v59 : Ref sig .tc := ⟨.hbm, 92, rfl⟩
abbrev main_while0b_call10_c : Ref sig .tc := ⟨.hbm, 93, rfl⟩
abbrev main_while0b_call10_c_0 : Ref sig .tc := ⟨.hbm, 94, rfl⟩
abbrev main_while0b_call10_c_1 : Ref sig .tc := ⟨.hbm, 95, rfl⟩
abbrev main_while0b_call10_v0 : Ref sig .tc := ⟨.hbm, 96, rfl⟩
abbrev main_while0b_v60 : Ref sig .tc := ⟨.hbm, 97, rfl⟩
abbrev main_while0b_call11_c : Ref sig .tc := ⟨.hbm, 98, rfl⟩
abbrev main_while0b_call11_c_0 : Ref sig .tc := ⟨.hbm, 99, rfl⟩
abbrev main_while0b_call11_c_1 : Ref sig .tc := ⟨.hbm, 100, rfl⟩
abbrev main_while0b_call11_v0 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_cst_14 : Ref sig .tc := ⟨.hbm, 108, rfl⟩
abbrev main_while0b_call12_v0 : Ref sig .tc := ⟨.hbm, 109, rfl⟩
abbrev main_while0b_call12_v1 : Ref sig .tc := ⟨.hbm, 110, rfl⟩
abbrev main_while0b_call12_v2 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_cst_15 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_call13_v0 : Ref sig .tc := ⟨.hbm, 174, rfl⟩
abbrev main_while0b_call13_c : Ref sig .tc := ⟨.hbm, 175, rfl⟩
abbrev main_while0b_call13_c_0 : Ref sig .tc := ⟨.hbm, 176, rfl⟩
abbrev main_while0b_call13_c_1 : Ref sig .tc := ⟨.hbm, 177, rfl⟩
abbrev main_while0b_call13_c_2 : Ref sig .tc := ⟨.hbm, 178, rfl⟩
abbrev main_while0b_v128 : Ref sig .tc := ⟨.hbm, 179, rfl⟩
abbrev main_while0b_c_16 : Ref sig .tc := ⟨.hbm, 180, rfl⟩
abbrev main_while0b_v129 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 10
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S1x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S32768x5632 : Shape := ⟨2, ![32768, 5632]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x11264, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2048x11296 : Shape := ⟨2, ![2048, 11296]⟩
abbrev S2048x6144 : Shape := ⟨2, ![2048, 6144]⟩
abbrev S2048x4096 : Shape := ⟨2, ![2048, 4096]⟩
abbrev S2048x1024 : Shape := ⟨2, ![2048, 1024]⟩
abbrev S2048x11264 : Shape := ⟨2, ![2048, 11264]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S32768x11264 : Shape := ⟨2, ![32768, 11264]⟩
abbrev S32768x1024 : Shape := ⟨2, ![32768, 1024]⟩
abbrev S32768x128 : Shape := ⟨2, ![32768, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11296, .f32⟩
  | .hbm, ⟨3, _⟩ => ⟨S2048x6144, .f32⟩
  | .hbm, ⟨4, _⟩ => ⟨S2048x4096, .f32⟩
  | .hbm, ⟨5, _⟩ => ⟨S2048x1024, .f32⟩
  | .hbm, ⟨6, _⟩ => ⟨S2048x11264, .f32⟩
  | .hbm, ⟨7, _⟩ => ⟨S2048x11264, .bf16⟩
  | .hbm, ⟨8, _⟩ => ⟨S2048x32, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S1x2048, .f32⟩
  | .hbm, ⟨14, _⟩ => ⟨S32768x11264, .bf16⟩
  | .hbm, ⟨15, _⟩ => ⟨S32768x1024, .f32⟩
  | .hbm, ⟨16, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S32768x2048 : Shape := ⟨2, ![32768, 2048]⟩
abbrev S2048 : Shape := ⟨1, ![2048]⟩
abbrev S2048x11296 : Shape := ⟨2, ![2048, 11296]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11296 : Shape := ⟨2, ![32768, 11296]⟩
abbrev S32768x1024 : Shape := ⟨2, ![32768, 1024]⟩
abbrev S32768x6144 : Shape := ⟨2, ![32768, 6144]⟩
abbrev S32768x4096 : Shape := ⟨2, ![32768, 4096]⟩
abbrev S32768x11264 : Shape := ⟨2, ![32768, 11264]⟩
abbrev S32768x32 : Shape := ⟨2, ![32768, 32]⟩
abbrev S32768x128 : Shape := ⟨2, ![32768, 128]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11296, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x11296, .f32⟩
  | .hbm, ⟨20, _⟩ => ⟨S32768x1024, .f32⟩
  | .hbm, ⟨21, _⟩ => ⟨S32768x6144, .f32⟩
  | .hbm, ⟨22, _⟩ => ⟨S32768x4096, .f32⟩
  | .hbm, ⟨23, _⟩ => ⟨S32768x11264, .f32⟩
  | .hbm, ⟨24, _⟩ => ⟨S32768x32, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S32768x11264, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S32768x2048 : Shape := ⟨2, ![32768, 2048]⟩
abbrev S32768x11264 : Shape := ⟨2, ![32768, 11264]⟩
abbrev S32768x1024 : Shape := ⟨2, ![32768, 1024]⟩
abbrev S2048 : Shape := ⟨1, ![2048]⟩
abbrev S2048x2048 : Shape := ⟨2, ![2048, 2048]⟩
abbrev S1024x2048 : Shape := ⟨2, ![1024, 2048]⟩
abbrev S4096 : Shape := ⟨1, ![4096]⟩
abbrev S1x2048 : Shape := ⟨2, ![1, 2048]⟩
abbrev S1x4096 : Shape := ⟨2, ![1, 4096]⟩
abbrev S256x2048 : Shape := ⟨2, ![256, 2048]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 23
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x11264, .bf16⟩
  | .hbm, ⟨3, _⟩ => ⟨S32768x1024, .f32⟩
  | .hbm, ⟨4, _⟩ => ⟨S32768x2048, .f32⟩
  | .hbm, ⟨5, _⟩ => ⟨S2048, .f32⟩
  | .hbm, ⟨6, _⟩ => ⟨S2048x2048, .f32⟩
  | .hbm, ⟨7, _⟩ => ⟨S1024x2048, .f32⟩
  | .hbm, ⟨8, _⟩ => ⟨S4096, .f32⟩
  | .hbm, ⟨9, _⟩ => ⟨S2048x2048, .f32⟩
  | .hbm, ⟨10, _⟩ => ⟨S2048, .f32⟩
  | .hbm, ⟨11, _⟩ => ⟨S1x2048, .f32⟩
  | .hbm, ⟨12, _⟩ => ⟨S1x4096, .f32⟩
  | .hbm, ⟨13, _⟩ => ⟨S2048x2048, .bf16⟩
  | .hbm, ⟨14, _⟩ => ⟨S1024x2048, .bf16⟩
  | .hbm, ⟨15, _⟩ => ⟨S2048x2048, .bf16⟩
  | .hbm, ⟨16, _⟩ => ⟨S1x2048, .f32⟩
  | .hbm, ⟨17, _⟩ => ⟨S32768x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x1024, .f32⟩
  | .local _ .vmem, ⟨8, _⟩ => ⟨S256x1024, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S2048x2048, .bf16⟩
  | .local _ .vmem, ⟨18, _⟩ => ⟨S1024x2048, .bf16⟩
  | .local _ .vmem, ⟨19, _⟩ => ⟨S2048x2048, .bf16⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x2048 : Shape := ⟨2, ![32768, 2048]⟩
abbrev S32768x11264 : Shape := ⟨2, ![32768, 11264]⟩
abbrev S32768x1024 : Shape := ⟨2, ![32768, 1024]⟩
abbrev S2048 : Shape := ⟨1, ![2048]⟩
abbrev S2048x2048 : Shape := ⟨2, ![2048, 2048]⟩
abbrev S1024x2048 : Shape := ⟨2, ![1024, 2048]⟩
abbrev S4096 : Shape := ⟨1, ![4096]⟩
abbrev S32768x4096 : Shape := ⟨2, ![32768, 4096]⟩
abbrev S32768x8x256 : Shape := ⟨3, ![32768, 8, 256]⟩
abbrev S_ : Shape := ⟨0, ![]⟩
abbrev S32768x8 : Shape := ⟨2, ![32768, 8]⟩
abbrev S32768x8x1 : Shape := ⟨3, ![32768, 8, 1]⟩
abbrev S1x2048 : Shape := ⟨2, ![1, 2048]⟩
abbrev S1x4096 : Shape := ⟨2, ![1, 4096]⟩
abbrev S32768 : Shape := ⟨1, ![32768]⟩
abbrev S32768x1 : Shape := ⟨2, ![32768, 1]⟩

abbrev nBuf : Space → Nat
  | .hbm => 81
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x11264, .bf16⟩
  | .hbm, ⟨3, _⟩ => ⟨S32768x1024, .f32⟩
  | .hbm, ⟨4, _⟩ => ⟨S32768x2048, .f32⟩
  | .hbm, ⟨5, _⟩ => ⟨S2048, .f32⟩
  | .hbm, ⟨6, _⟩ => ⟨S2048x2048, .f32⟩
  | .hbm, ⟨7, _⟩ => ⟨S1024x2048, .f32⟩
  | .hbm, ⟨8, _⟩ => ⟨S4096, .f32⟩
  | .hbm, ⟨9, _⟩ => ⟨S2048x2048, .f32⟩
  | .hbm, ⟨10, _⟩ => ⟨S2048, .f32⟩
  | .hbm, ⟨11, _⟩ => ⟨S32768x2048, .bf16⟩
  | .hbm, ⟨12, _⟩ => ⟨S32768x2048, .f32⟩
  | .hbm, ⟨13, _⟩ => ⟨S32768x4096, .bf16⟩
  | .hbm, ⟨14, _⟩ => ⟨S32768x4096, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x8x256, .f32⟩
  | .hbm, ⟨19, _⟩ => ⟨S32768x8x256, .f32⟩
  | .hbm, ⟨20, _⟩ => ⟨S_, .f32⟩
  | .hbm, ⟨21, _⟩ => ⟨S32768x8, .f32⟩
  | .hbm, ⟨22, _⟩ => ⟨S32768x8x1, .f32⟩
  | .hbm, ⟨23, _⟩ => ⟨S_, .f32⟩
  | .hbm, ⟨24, _⟩ => ⟨S32768x8x1, .f32⟩
  | .hbm, ⟨25, _⟩ => ⟨S32768x8x1, .f32⟩
  | .hbm, ⟨26, _⟩ => ⟨S_, .f32⟩
  | .hbm, ⟨27, _⟩ => ⟨S32768x8x1, .f32⟩
  | .hbm, ⟨28, _⟩ => ⟨S32768x8x1, .f32⟩
  | .hbm, ⟨29, _⟩ => ⟨S32768x8x1, .f32⟩
  | .hbm, ⟨30, _⟩ => ⟨S32768x8x256, .f32⟩
  | .hbm, ⟨31, _⟩ => ⟨S32768x8x256, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S1x4096, .f32⟩
  | .hbm, ⟨48, _⟩ => ⟨S32768x4096, .f32⟩
  | .hbm, ⟨49, _⟩ => ⟨S32768x4096, .f32⟩
  | .hbm, ⟨50, _⟩ => ⟨S32768x4096, .f32⟩
  | .hbm, ⟨51, _⟩ => ⟨S32768x4096, .f32⟩
  | .hbm, ⟨52, _⟩ => ⟨S_, .f32⟩
  | .hbm, ⟨53, _⟩ => ⟨S32768x4096, .f32⟩
  | .hbm, ⟨54, _⟩ => ⟨S32768x4096, .f32⟩
  | .hbm, ⟨55, _⟩ => ⟨S_, .f32⟩
  | .hbm, ⟨56, _⟩ => ⟨S32768x4096, .f32⟩
  | .hbm, ⟨57, _⟩ => ⟨S32768x4096, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1, .f32⟩
  | .hbm, ⟨75, _⟩ => ⟨S32768x2048, .f32⟩
  | .hbm, ⟨76, _⟩ => ⟨S32768x2048, .f32⟩
  | .hbm, ⟨77, _⟩ => ⟨S1x2048, .f32⟩
  | .hbm, ⟨78, _⟩ => ⟨S32768x2048, .f32⟩
  | .hbm, ⟨79, _⟩ => ⟨S32768x2048, .f32⟩
  | .hbm, ⟨80, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x128x1024x128 : Shape := ⟨4, ![2, 128, 1024, 128]⟩
abbrev S2x16384x11264 : Shape := ⟨3, ![2, 16384, 11264]⟩
abbrev S2x16384x128 : Shape := ⟨3, ![2, 16384, 128]⟩
abbrev S2x16x16384 : Shape := ⟨3, ![2, 16, 16384]⟩
abbrev S2x16384x2048 : Shape := ⟨3, ![2, 16384, 2048]⟩
abbrev S1x128x1024 : Shape := ⟨3, ![1, 128, 1024]⟩
abbrev S1x1x1024x128 : Shape := ⟨4, ![1, 1, 1024, 128]⟩
abbrev S1x128x2048 : Shape := ⟨3, ![1, 128, 2048]⟩
abbrev S1x128x128 : Shape := ⟨3, ![1, 128, 128]⟩
abbrev S1x16x128 : Shape := ⟨3, ![1, 16, 128]⟩
abbrev S2x8x128x384 : Shape := ⟨4, ![2, 8, 128, 384]⟩
abbrev S2x8x128 : Shape := ⟨3, ![2, 8, 128]⟩
abbrev S16x128x128 : Shape := ⟨3, ![16, 128, 128]⟩
abbrev S16x128x256 : Shape := ⟨3, ![16, 128, 256]⟩
abbrev S16x8x128 : Shape := ⟨3, ![16, 8, 128]⟩
abbrev S128x128 : Shape := ⟨2, ![128, 128]⟩
abbrev S128x128x1 : Shape := ⟨3, ![128, 128, 1]⟩
abbrev S1x1x128 : Shape := ⟨3, ![1, 1, 128]⟩
abbrev S1x128 : Shape := ⟨2, ![1, 128]⟩
abbrev S1x1x1 : Shape := ⟨3, ![1, 1, 1]⟩
abbrev S1x1 : Shape := ⟨2, ![1, 1]⟩
abbrev S1x1x128x128 : Shape := ⟨4, ![1, 1, 128, 128]⟩
abbrev S8x128 : Shape := ⟨2, ![8, 128]⟩
abbrev S1x8x128 : Shape := ⟨3, ![1, 8, 128]⟩
abbrev S1x128x256 : Shape := ⟨3, ![1, 128, 256]⟩
abbrev S128x256 : Shape := ⟨2, ![128, 256]⟩
abbrev S1x1x128x384 : Shape := ⟨4, ![1, 1, 128, 384]⟩
abbrev S128x384 : Shape := ⟨2, ![128, 384]⟩
abbrev S256x384 : Shape := ⟨2, ![256, 384]⟩

abbrev nBuf : Space → Nat
  | .hbm => 7
  | .vmem => 31
  | .smem => 0
  | _ => 0

abbrev bufTy : (tb : Table) → Fin (tcTables nBuf tb) → BufTy
  | .hbm, ⟨0, _⟩ => ⟨S2x16384x1024, .bf16⟩
  | .hbm, ⟨1, _⟩ => ⟨S2x128x1024x128, .bf16⟩
  | .hbm, ⟨2, _⟩ => ⟨S2x16384x11264, .bf16⟩
  | .hbm, ⟨3, _⟩ => ⟨S2x16384x128, .f32⟩
  | .hbm, ⟨4, _⟩ => ⟨S2x16x16384, .f32⟩
  | .hbm, ⟨5, _⟩ => ⟨S2x16384x2048, .bf16⟩
  | .hbm, ⟨6, _⟩ => ⟨S2x16384x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S1x128x2048, .bf16⟩
  | .local _ .vmem, ⟨21, _⟩ => ⟨S1x128x2048, .bf16⟩
  | .local _ .vmem, ⟨22, _⟩ => ⟨S1x128x2048, .bf16⟩
  | .local _ .vmem, ⟨23, _⟩ => ⟨S1x128x2048, .bf16⟩
  | .local _ .vmem, ⟨24, _⟩ => ⟨S2x8x128x384, .f32⟩
  | .local _ .vmem, ⟨25, _⟩ => ⟨S2x8x128, .f32⟩
  | .local _ .vmem, ⟨26, _⟩ => ⟨S16x128x128, .f32⟩
  | .local _ .vmem, ⟨27, _⟩ => ⟨S16x128x256, .bf16⟩
  | .local _ .vmem, ⟨28, _⟩ => ⟨S16x128x128, .f32⟩
  | .local _ .vmem, ⟨29, _⟩ => ⟨S16x128x128, .bf16⟩
  | .local _ .vmem, ⟨30, _⟩ => ⟨S16x8x128, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 128], ![false, false]⟩

def k0_cond4 (i : grid0.Coords) : BitVec 1 :=
  let arg1 : BitVec 32 := BitVec.ofNat 32 (i 1).val
  let c_m2_i32 : BitVec 32 := 4294967294#32
  let v9 : BitVec 1 := Scalar.cmpi .sge arg1 c_m2_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S2x16384x1024 : Shape := ⟨3, ![2, 16384, 1024]⟩
abbrev S2x128x1024x128 : Shape := ⟨4, ![2, 128, 1024, 128]⟩
abbrev S2x16384x11264 : Shape := ⟨3, ![2, 16384, 11264]⟩
abbrev S2x16384x128 : Shape := ⟨3, ![2, 16384, 128]⟩
abbrev S2x16x16384 : Shape := ⟨3, ![2, 16, 16384]⟩
abbrev S2x16384x8x128 : Shape := ⟨4, ![2, 16384, 8, 128]⟩
abbrev S2x128x128x1024 : Shape := ⟨4, ![2, 128, 128, 1024]⟩
abbrev S2x16384x2048 : Shape := ⟨3, ![2, 16384, 2048]⟩
abbrev S2x16384x8x256 : Shape := ⟨4, ![2, 16384, 8, 256]⟩
abbrev S2x16384x8 : Shape := ⟨3, ![2, 16384, 8]⟩
abbrev S2x16384x16 : Shape := ⟨3, ![2, 16384, 16]⟩
abbrev S4x16384x8x128 : Shape := ⟨4, ![4, 16384, 8, 128]⟩
abbrev S4x16384x8x256 : Shape := ⟨4, ![4, 16384, 8, 256]⟩
abbrev S4x16384x8 : Shape := ⟨3, ![4, 16384, 8]⟩
abbrev S128x128 : Shape := ⟨2, ![128, 128]⟩
abbrev S_ : Shape := ⟨0, ![]⟩
abbrev S4x8x256x128 : Shape := ⟨4, ![4, 8, 256, 128]⟩
abbrev S4x8x128 : Shape := ⟨3, ![4, 8, 128]⟩
abbrev S4x8 : Shape := ⟨2, ![4, 8]⟩
abbrev S4x128x128x8x128 : Shape := ⟨5, ![4, 128, 128, 8, 128]⟩
abbrev S128x4x8x128x128 : Shape := ⟨5, ![128, 4, 8, 128, 128]⟩
abbrev S4x128x128x8x256 : Shape := ⟨5, ![4, 128, 128, 8, 256]⟩
abbrev S128x4x8x128x256 : Shape := ⟨5, ![128, 4, 8, 128, 256]⟩
abbrev S4x128x128x8 : Shape := ⟨4, ![4, 128, 128, 8]⟩
abbrev S128x4x8x128 : Shape := ⟨4, ![128, 4, 8, 128]⟩
abbrev S1x4x8x128x128 : Shape := ⟨5, ![1, 4, 8, 128, 128]⟩
abbrev S4x8x128x128 : Shape := ⟨4, ![4, 8, 128, 128]⟩
abbrev S1x4x8x128x256 : Shape := ⟨5, ![1, 4, 8, 128, 256]⟩
abbrev S4x8x128x256 : Shape := ⟨4, ![4, 8, 128, 256]⟩
abbrev S1x4x8x128 : Shape := ⟨4, ![1, 4, 8, 128]⟩
abbrev S4x8x128x1 : Shape := ⟨4, ![4, 8, 128, 1]⟩
abbrev S4x8x1x128 : Shape := ⟨4, ![4, 8, 1, 128]⟩
abbrev S4x8x1 : Shape := ⟨3, ![4, 8, 1]⟩
abbrev S4x8x1x1 : Shape := ⟨4, ![4, 8, 1, 1]⟩

abbrev nBuf : Space → Nat
  | .hbm => 191
  | .vmem => 0
  | .smem => 0
  | _ => 0

abbrev hbmTy0_0 (i : Nat) : BufTy := match i % 128 with
  | 0 => ⟨S2x16384x1024, .bf16⟩
  | 1 => ⟨S2x128x1024x128, .bf16⟩
  | 2 => ⟨S2x16384x11264, .bf16⟩
  | 3 => ⟨S2x16384x128, .f32⟩
  | 4 => ⟨S2x16x16384, .f32⟩
  | 5 => ⟨S2x16384x1024, .f32⟩
  | 6 => ⟨S2x16384x8x128, .f32⟩
  | 7 => ⟨S2x128x1024x128, .f32⟩
  | 8 => ⟨S2x128x128x1024, .f32⟩
  | 9 => ⟨S2x16384x8x128, .f32⟩
  | 10 => ⟨S2x16384x2048, .bf16⟩
  | 11 => ⟨S2x16384x2048, .f32⟩
  | 12 => ⟨S2x16384x8x256, .f32⟩
  | 13 => ⟨S2x16384x8, .f32⟩
  | 14 => ⟨S2x16384x8, .f32⟩
  | 15 => ⟨S2x16384x8, .f32⟩
  | 16 => ⟨S2x16384x8, .f32⟩
  | 17 => ⟨S2x16384x16, .f32⟩
  | 18 => ⟨S2x16384x8, .f32⟩
  | 19 => ⟨S2x16384x8, .f32⟩
  | 20 => ⟨S2x16384x8x128, .f32⟩
  | 21 => ⟨S4x16384x8x128, .f32⟩
  | 22 => ⟨S2x16384x8x128, .f32⟩
  | 23 => ⟨S4x16384x8x128, .f32⟩
  | 24 => ⟨S2x16384x8x256, .f32⟩
  | 25 => ⟨S4x16384x8x256, .f32⟩
  | 26 => ⟨S2x16384x8, .f32⟩
  | 27 => ⟨S4x16384x8, .f32⟩
  | 28 => ⟨S2x16384x8, .f32⟩
  | 29 => ⟨S4x16384x8, .f32⟩
  | 30 => ⟨S2x16384x8, .f32⟩
  | 31 => ⟨S4x16384x8, .f32⟩
  | 32 => ⟨S128x128, .i32⟩
  | 33 => ⟨S128x128, .i32⟩
  | 34 => ⟨S128x128, .i1⟩
  | 35 => ⟨S_, .f32⟩
  | 36 => ⟨S4x8x256x128, .f32⟩
  | 37 => ⟨S_, .f32⟩
  | 38 => ⟨S4x8x128, .f32⟩
  | 39 => ⟨S_, .f32⟩
  | 40 => ⟨S4x8, .f32⟩
  | 41 => ⟨S4x128x128x8x128, .f32⟩
  | 42 => ⟨S128x4x8x128x128, .f32⟩
  | 43 => ⟨S4x128x128x8x128, .f32⟩
  | 44 => ⟨S128x4x8x128x128, .f32⟩
  | 45 => ⟨S4x128x128x8x256, .f32⟩
  | 46 => ⟨S128x4x8x128x256, .f32⟩
  | 47 => ⟨S4x128x128x8, .f32⟩
  | 48 => ⟨S128x4x8x128, .f32⟩
  | 49 => ⟨S4x128x128x8, .f32⟩
  | 50 => ⟨S128x4x8x128, .f32⟩
  | 51 => ⟨S4x128x128x8, .f32⟩
  | 52 => ⟨S128x4x8x128, .f32⟩
  | 53 => ⟨S_, .f32⟩
  | 54 => ⟨S128x4x8x128x256, .f32⟩
  | 55 => ⟨S_, .i32⟩
  | 56 => ⟨S128x4x8x128x128, .f32⟩
  | 57 => ⟨S128x4x8x128x128, .f32⟩
  | 58 => ⟨S128x4x8x128x256, .f32⟩
  | 59 => ⟨S128x4x8x128, .f32⟩
  | 60 => ⟨S128x4x8x128, .f32⟩
  | 61 => ⟨S128x4x8x128, .f32⟩
  | 62 => ⟨S128x128, .i1⟩
  | 63 => ⟨S_, .i32⟩
  | 64 => ⟨S4x8x256x128, .f32⟩
  | 65 => ⟨S4x8x128, .f32⟩
  | 66 => ⟨S4x8, .f32⟩
  | 67 => ⟨S128x4x8x128x256, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x4x8x128x128, .f32⟩
  | 75 => ⟨S4x8x128x128, .f32⟩
  | 76 => ⟨S_, .i32⟩
  | 77 => ⟨S_, .i32⟩
  | 78 => ⟨S_, .i32⟩
  | 79 => ⟨S_, .i32⟩
  | 80 => ⟨S1x4x8x128x128, .f32⟩
  | 81 => ⟨S4x8x128x128, .f32⟩
  | 82 => ⟨S_, .i32⟩
  | 83 => ⟨S_, .i32⟩
  | 84 => ⟨S_, .i32⟩
  | 85 => ⟨S_, .i32⟩
  | 86 => ⟨S1x4x8x128x256, .f32⟩
  | 87 => ⟨S4x8x128x256, .f32⟩
  | 88 => ⟨S_, .i32⟩
  | 89 => ⟨S_, .i32⟩
  | 90 => ⟨S_, .i32⟩
  | 91 => ⟨S1x4x8x128, .f32⟩
  | 92 => ⟨S4x8x128, .f32⟩
  | 93 => ⟨S_, .i32⟩
  | 94 => ⟨S_, .i32⟩
  | 95 => ⟨S_, .i32⟩
  | 96 => ⟨S1x4x8x128, .f32⟩
  | 97 => ⟨S4x8x128, .f32⟩
  | 98 => ⟨S_, .i32⟩
  | 99 => ⟨S_, .i32⟩
  | 100 => ⟨S_, .i32⟩
  | 101 => ⟨S1x4x8x128, .f32⟩
  | 102 => ⟨S4x8x128, .f32⟩
  | 103 => ⟨S4x8x128x1, .f32⟩
  | 104 => ⟨S4x8x1x128, .f32⟩
  | 105 => ⟨S4x8x128x128, .f32⟩
  | 106 => ⟨S4x8x128x128, .f32⟩
  | 107 => ⟨S4x8x128x128, .f32⟩
  | 108 => ⟨S_, .f32⟩
  | 109 => ⟨S_, .f32⟩
  | 110 => ⟨S4x8x128x128, .i1⟩
  | 111 => ⟨S4x8x128x128, .f32⟩
  | 112 => ⟨S4x8x128x128, .f32⟩
  | 113 => ⟨S4x8x1, .f32⟩
  | 114 => ⟨S4x8x128, .f32⟩
  | 115 => ⟨S4x8x128, .f32⟩
  | 116 => ⟨S4x8x128, .f32⟩
  | 117 => ⟨S4x8x128, .f32⟩
  | 118 => ⟨S4x8x128, .f32⟩
  | 119 => ⟨S4x8x128, .f32⟩
  | 120 => ⟨S4x8x128x128, .f32⟩
  | 121 => ⟨S4x8x128x1, .f32⟩
  | 122 => ⟨S4x8x128x128, .f32⟩
  | 123 => ⟨S4x8x128x128, .f32⟩
  | 124 => ⟨S4x8x128x128, .f32⟩
  | 125 => ⟨S4x8x128x128, .f32⟩
  | 126 => ⟨S4x8x128x1, .f32⟩
  | 127 => ⟨S4x8x128x256, .f32⟩
  | _ => ⟨S2x16384x1024, .bf16⟩

abbrev hbmTy0_1 (i : Nat) : BufTy := match i % 128 with
  | 0 => ⟨S4x8x128x256, .f32⟩
  | 1 => ⟨S4x8x128x256, .f32⟩
  | 2 => ⟨S4x8x128x256, .f32⟩
  | 3 => ⟨S4x8x128x256, .f32⟩
  | 4 => ⟨S4x8x128, .f32⟩
  | 5 => ⟨S4x8x128, .f32⟩
  | 6 => ⟨S_, .f32⟩
  | 7 => ⟨S4x8x128, .f32⟩
  | 8 => ⟨S4x8x128, .f32⟩
  | 9 => ⟨S4x8x128, .f32⟩
  | 10 => ⟨S4x8x128, .f32⟩
  | 11 => ⟨S4x8x128, .f32⟩
  | 12 => ⟨S4x8x128, .f32⟩
  | 13 => ⟨S4x8x128x1, .f32⟩
  | 14 => ⟨S4x8x128x256, .f32⟩
  | 15 => ⟨S4x8x128x256, .f32⟩
  | 16 => ⟨S4x8x1, .f32⟩
  | 17 => ⟨S4x8, .f32⟩
  | 18 => ⟨S4x8x1, .f32⟩
  | 19 => ⟨S4x8x128, .f32⟩
  | 20 => ⟨S4x8x128, .f32⟩
  | 21 => ⟨S4x8, .f32⟩
  | 22 => ⟨S4x8x1, .f32⟩
  | 23 => ⟨S4x8, .f32⟩
  | 24 => ⟨S4x8, .f32⟩
  | 25 => ⟨S4x8, .f32⟩
  | 26 => ⟨S4x8, .f32⟩
  | 27 => ⟨S4x8, .f32⟩
  | 28 => ⟨S4x8, .f32⟩
  | 29 => ⟨S4x8x1, .f32⟩
  | 30 => ⟨S4x8x128, .f32⟩
  | 31 => ⟨S4x8x128, .f32⟩
  | 32 => ⟨S4x8x128, .f32⟩
  | 33 => ⟨S4x8x1x1, .f32⟩
  | 34 => ⟨S4x8x256x128, .f32⟩
  | 35 => ⟨S4x8x256x128, .f32⟩
  | 36 => ⟨S4x8x128x1, .f32⟩
  | 37 => ⟨S4x8x128x256, .f32⟩
  | 38 => ⟨S4x8x128x256, .f32⟩
  | 39 => ⟨S4x8x256x128, .f32⟩
  | 40 => ⟨S4x8x256x128, .f32⟩
  | 41 => ⟨S4x8x1, .f32⟩
  | 42 => ⟨S4x8x128, .f32⟩
  | 43 => ⟨S4x8x128, .f32⟩
  | 44 => ⟨S4x8x128, .f32⟩
  | 45 => ⟨S4x8x128, .f32⟩
  | 46 => ⟨S1x4x8x128x256, .f32⟩
  | 47 => ⟨S_, .i32⟩
  | 48 => ⟨S_, .i32⟩
  | 49 => ⟨S_, .i32⟩
  | 50 => ⟨S_, .i32⟩
  | 51 => ⟨S128x4x8x128x256, .f32⟩
  | 52 => ⟨S_, .i32⟩
  | 53 => ⟨S_, .i32⟩
  | 54 => ⟨S4x128x128x8x256, .f32⟩
  | 55 => ⟨S4x16384x8x256, .f32⟩
  | 56 => ⟨S2x16384x8x256, .f32⟩
  | 57 => ⟨S2x16384x8x256, .f32⟩
  | 58 => ⟨S2x16384x8x256, .f32⟩
  | 59 => ⟨S2x16384x2048, .f32⟩
  | 60 => ⟨S2x16384x2048, .bf16⟩
  | 61 => ⟨S2x16384x2048, .f32⟩
  | 62 => ⟨S2x16384x2048, .bf16⟩
  | _ => ⟨S2x16384x1024, .bf16⟩

abbrev hbmTy (i : Nat) : BufTy := match i / 128 with
  | 0 => hbmTy0_0 i
  | 1 => hbmTy0_1 i
  | _ => ⟨S2x16384x1024, .bf16⟩

abbrev bufTy : (tb : Table) → Fin (tcTables nBuf tb) → BufTy
  | .hbm, ⟨i, _⟩ => hbmTy i
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_c : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev main_v46_6 : Ref sig .tc := ⟨.hbm, 62, rfl⟩
abbrev main_v46_7 : Ref sig .tc := ⟨.hbm, 63, rfl⟩
abbrev main_v46_8 : Ref sig .tc := ⟨.hbm, 64, rfl⟩
abbrev main_v46_9 : Ref sig .tc := ⟨.hbm, 65, rfl⟩
abbrev main_v46_10 : Ref sig .tc := ⟨.hbm, 66, rfl⟩
abbrev main_v46_11 : Ref sig .tc := ⟨.hbm, 67, rfl⟩
abbrev main_while0c_c_14 : Ref sig .tc := ⟨.hbm, 68, rfl⟩
abbrev main_while0c_v56 : Ref sig .tc := ⟨.hbm, 69, rfl⟩
abbrev main_while0b_call6_c : Ref sig .tc := ⟨.hbm, 70, rfl⟩
abbrev main_while0b_call6_c_0 : Ref sig .tc := ⟨.hbm, 71, rfl⟩
abbrev main_while0b_call6_c_1 : Ref sig .tc := ⟨.hbm, 72, rfl⟩
abbrev main_while0b_call6_c_2 : Ref sig .tc := ⟨.hbm, 73, rfl⟩
abbrev main_while0b_call6_v0 : Ref sig .tc := ⟨.hbm, 74, rfl⟩
abbrev main_while0b_v56 : Ref sig .tc := ⟨.hbm, 75, rfl⟩
abbrev main_while0b_call7_c : Ref sig .tc := ⟨.hbm, 76, rfl⟩
abbrev main_while0b_call7_c_0 : Ref sig .tc := ⟨.hbm, 77, rfl⟩
abbrev main_while0b_call7_c_1 : Ref sig .tc := ⟨.hbm, 78, rfl⟩
abbrev main_while0b_call7_c_2 : Ref sig .tc := ⟨.hbm, 79, rfl⟩
abbrev main_while0b_call7_v0 : Ref sig .tc := ⟨.hbm, 80, rfl⟩
abbrev main_while0b_v57 : Ref sig .tc := ⟨.hbm, 81, rfl⟩
abbrev main_while0b_call8_c : Ref sig .tc := ⟨.hbm, 82, rfl⟩
abbrev main_while0b_call8_c_0 : Ref sig .tc := ⟨.hbm, 83, rfl⟩
abbrev main_while0b_call8_c_1 : Ref sig .tc := ⟨.hbm, 84, rfl⟩
abbrev main_while0b_call8_c_2 : Ref sig .tc := ⟨.hbm, 85, rfl⟩
abbrev main_while0b_call8_v0 : Ref sig .tc := ⟨.hbm, 86, rfl⟩
abbrev main_while0b_v58 : Ref sig .tc := ⟨.hbm, 87, rfl⟩
abbrev main_while0b_call9_c : Ref sig .tc := ⟨.hbm, 88, rfl⟩
abbrev main_while0b_call9_c_0 : Ref sig .tc := ⟨.hbm, 89, rfl⟩
abbrev main_while0b_call9_c_1 : Ref sig .tc := ⟨.hbm, 90, rfl⟩
abbrev main_while0b_call9_v0 : Ref sig .tc := ⟨.hbm, 91, rfl⟩
abbrev main_while0b_v59 : Ref sig .tc := ⟨.hbm, 92, rfl⟩
abbrev main_while0b_call10_c : Ref sig .tc := ⟨.hbm, 93, rfl⟩
abbrev main_while0b_call10_c_0 : Ref sig .tc := ⟨.hbm, 94, rfl⟩
abbrev main_while0b_call10_c_1 : Ref sig .tc := ⟨.hbm, 95, rfl⟩
abbrev main_while0b_call10_v0 : Ref sig .tc := ⟨.hbm, 96, rfl⟩
abbrev main_while0b_v60 : Ref sig .tc := ⟨.hbm, 97, rfl⟩
abbrev main_while0b_call11_c : Ref sig .tc := ⟨.hbm, 98, rfl⟩
abbrev main_while0b_call11_c_0 : Ref sig .tc := ⟨.hbm, 99, rfl⟩
abbrev main_while0b_call11_c_1 : Ref sig .tc := ⟨.hbm, 100, rfl⟩
abbrev main_while0b_call11_v0 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_cst_14 : Ref sig .tc := ⟨.hbm, 108, rfl⟩
abbrev main_while0b_call12_v0 : Ref sig .tc := ⟨.hbm, 109, rfl⟩
abbrev main_while0b_call12_v1 : Ref sig .tc := ⟨.hbm, 110, rfl⟩
abbrev main_while0b_call12_v2 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_cst_15 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_call13_v0 : Ref sig .tc := ⟨.hbm, 174, rfl⟩
abbrev main_while0b_call13_c : Ref sig .tc := ⟨.hbm, 175, rfl⟩
abbrev main_while0b_call13_c_0 : Ref sig .tc := ⟨.hbm, 176, rfl⟩
abbrev main_while0b_call13_c_1 : Ref sig .tc := ⟨.hbm, 177, rfl⟩
abbrev main_while0b_call13_c_2 : Ref sig .tc := ⟨.hbm, 178, rfl⟩
abbrev main_while0b_v128 : Ref sig .tc := ⟨.hbm, 179, rfl⟩
abbrev main_while0b_c_16 : Ref sig .tc := ⟨.hbm, 180, rfl⟩
abbrev main_while0b_v129 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩

abbrev nD : Nat := 1
abbrev τ : Topo := Topo.v7x

variable {F : FTy → Type} [FloatOps F]

abbrev main_while0_count : Scf.Loop 32 := ⟨0#32, 128#32, 1#32⟩
-- ==== Proof.Units.lean ====
module

public import proofs.«01_k».proof.Proof.Gen.KernelIdeal.Frame

@[expose] public section

/-!
# The mLSTM kernel's chains, one spelling for all sixteen

The body runs sixteen chains (two directions of eight heads) through three phases. Here each
phase's stores are spelt once, as functions of the chain's number and of what the chain loads;
`Pieces.lean` meets the pieces of the run with them.
-/

set_option maxRecDepth 16384

noncomputable section

namespace Cert.Proof.Units

open Idealize.ShloMosaic Idealize.ShloMosaic.TcCoe Idealize.ShloMosaic.Tactic
open Cert.KernelIdeal Cert.KernelIdeal.Gen

variable {F : FTy → Type} [FloatOps F]

/-- Whether chain `c` runs backwards. -/
def bwd (c : Fin 16) : Bool := Nat.ble 8 c.val

/-- The chain's head. -/
def head (c : Fin 16) : Nat := c.val % 8

/-- The lane of the gate block that holds the chain's cumulative log-forget gate. -/
def laneB (c : Fin 16) : BitVec 32 := BitVec.ofNat 32 (c.val / 8 * 16 + c.val % 8)

/-- One lane of a gate block, given to every lane. -/
def lane (x : Vec F S1x128x128 .f32) (n : IVec S128x128 32) : FVec F S128x128 .f32 :=
  dynamicGather 1 (shapeCast S128x128 x shapeCasts_S1x128x128_S128x128)
    (shapeCast S128x128 (shapeCast S128x128x1
      (select (cmpi .slt n (broadcast S128x128 0#32)) (addi n (broadcast S128x128 128#32)) n)
      shapeCasts_S128x128_S128x128x1) shapeCasts_S128x128x1_S128x128)

/-- The last row of the chunk in the chain's order. -/
def lastRow : Bool → FVec F S128x128 .f32 → FVec F S1x128 .f32
  | false, x => extractStridedSlice S1x128 ![127, 0] x slices_S128x128_o127_0_S1x128
  | true, x => extractStridedSlice S1x128 ![0, 0] x slices_S128x128_o0_0_S1x128

/-- The causal mask in the chain's order. -/
def mask : Bool → IVec S128x128 1
  | false => cmpi .sle (iota .tc S128x128 32 [1] iota_S128x128_d1_w32) (iota .tc S128x128 32 [0] iota_S128x128_d0_w32)
  | true => cmpi .sge (iota .tc S128x128 32 [1] iota_S128x128_d1_w32) (iota .tc S128x128 32 [0] iota_S128x128_d0_w32)

/-- The cumulative log-forget gate of the chain, in every lane. -/
def gateB (c : Fin 16) (x : Vec F S1x128x128 .f32) : FVec F S128x128 .f32 := lane x (broadcast S128x128 (laneB c))

/-- The stabiliser the chain's scan has at each row. -/
def gateMx (c : Fin 16) (x : Vec F S1x128x128 .f32) (mv : Vec F S1x1x1 .f32) : FVec F S128x128 .f32 :=
  maximumf (lane x (addi (broadcast S128x128 (laneB c)) (broadcast S128x128 8#32)))
    (broadcastTo S128x128 (shapeCast S1x1 mv shapeCasts_S1x1x1_S1x1) broadcasts_S1x1_S128x128)

/-- The decay weights. -/
def payP (c : Fin 16) (x : Vec F S1x128x128 .f32) (w : Vec F S1x1x128 .f32) (mv : Vec F S1x1x1 .f32) : FVec F S1x128x128 .f32 :=
  shapeCast S1x128x128 (exp (subf (broadcastTo S128x128 (shapeCast S1x128 w shapeCasts_S1x1x128_S1x128) broadcasts_S1x128_S128x128)
    (gateMx c x mv))) shapeCasts_S128x128_S1x128x128

/-- The queries weighted for the state. -/
def payLq (c : Fin 16) (x : Vec F S1x128x128 .f32) (mv : Vec F S1x1x1 .f32) (q : Vec F S1x128x128 .bf16) : FVec F S1x128x128 .bf16 :=
  shapeCast S1x128x128 (truncf .bf16 (mulf (extf .f32 (shapeCast S128x128 q shapeCasts_S1x128x128_S128x128) bitsLt_bf16_f32)
    (exp (subf (broadcastTo S128x128 (shapeCast S1x1 mv shapeCasts_S1x1x1_S1x1) broadcasts_S1x1_S128x128) (gateMx c x mv))))
    bitsLt_bf16_f32) shapeCasts_S128x128_S1x128x128

/-- The floor of the denominators. -/
def payE (c : Fin 16) (x : Vec F S1x128x128 .f32) (mv : Vec F S1x1x1 .f32) : FVec F S1x128x128 .f32 :=
  shapeCast S1x128x128 (exp (subf (broadcast S128x128 (Scalar.ofBits .f32 0x00000000#32)) (addf (gateB c x) (gateMx c x mv))))
    shapeCasts_S128x128_S1x128x128

/-- The keys weighted for the state's update. -/
def payKw (c : Fin 16) (x : Vec F S1x128x128 .f32) (w : Vec F S1x1x128 .f32) (mv : Vec F S1x1x1 .f32)
    (k : Vec F S1x1x128x128 .bf16) : FVec F S1x128x128 .bf16 :=
  shapeCast S1x128x128 (truncf .bf16 (mulf (extf .f32 (shapeCast S128x128 k shapeCasts_S1x1x128x128_S128x128) bitsLt_bf16_f32)
    (broadcastTo S128x128 (exp (subf (shapeCast S1x128 w shapeCasts_S1x1x128_S1x128) (lastRow (bwd c) (gateMx c x mv))))
      broadcasts_S1x128_S128x128)) bitsLt_bf16_f32) shapeCasts_S128x128_S1x128x128

/-- The state's decay. -/
def payWc (c : Fin 16) (x : Vec F S1x128x128 .f32) (mv : Vec F S1x1x1 .f32) : FVec F S1x8x128 .f32 :=
  shapeCast S1x8x128 (broadcastTo S8x128 (shapeCast S1x128 (exp (subf
    (broadcastTo S1x128 (shapeCast S1x1 mv shapeCasts_S1x1x1_S1x1) broadcasts_S1x1_S1x128) (lastRow (bwd c) (gateMx c x mv))))
    shapeCasts_S1x128_S1x128) broadcasts_S1x128_S8x128) shapeCasts_S8x128_S1x8x128

/-- The stabiliser carried to the next chunk. -/
def payM (c : Fin 16) (x : Vec F S1x128x128 .f32) (mv : Vec F S1x1x1 .f32) : FVec F S1x1x128 .f32 :=
  shapeCast S1x1x128 (addf (lastRow (bwd c) (gateB c x)) (lastRow (bwd c) (gateMx c x mv))) shapeCasts_S1x128_S1x1x128

/-- The weighted, masked scores. -/
def payS (c : Fin 16) (q : Vec F S1x128x128 .bf16) (k : Vec F S1x1x128x128 .bf16) (p : Vec F S1x128x128 .f32) :
    FVec F S1x128x128 .bf16 :=
  shapeCast S1x128x128 (truncf .bf16 (select (mask (bwd c))
    (mulf (matmul dot_S128x128_S128x128_S128x128_1_0_0_1_n_n none (shapeCast S128x128 q shapeCasts_S1x128x128_S128x128)
      (shapeCast S128x128 k shapeCasts_S1x1x128x128_S128x128) (constant S128x128 .f32 0x00000000#32))
      (shapeCast S128x128 p shapeCasts_S1x128x128_S128x128))
    (broadcast S128x128 (Scalar.ofBits .f32 0x00000000#32))) bitsLt_bf16_f32) shapeCasts_S128x128_S1x128x128

/-- The values with a block of ones beside them. -/
def vext (v : Vec F S1x128x256 .bf16) : FVec F S128x384 .bf16 :=
  concatenate S128x384 1 [⟨S128x256, shapeCast S128x256 v shapeCasts_S1x128x256_S128x256⟩,
    ⟨S128x128, broadcast S128x128 (Scalar.ofBits .bf16 0x3F80#16 : F .bf16)⟩] concatenates_S128x256_S128x128_S128x384_d1

/-- The numerators and the denominators. -/
def readout (v : Vec F S1x128x256 .bf16) (st : Vec F S1x1x128x384 .f32) (lhs : Vec F S1x128x256 .bf16) : FVec F S128x384 .f32 :=
  matmul dot_S128x256_S256x384_S128x384_1_0_0_1_n_n none (shapeCast S128x256 lhs shapeCasts_S1x128x256_S128x256)
    (concatenate S256x384 0 [⟨S128x384, vext v⟩,
      ⟨S128x384, truncf .bf16 (shapeCast S128x384 st shapeCasts_S1x1x128x384_S128x384) bitsLt_bf16_f32⟩]
      concatenates_S128x384_S128x384_S256x384_d0) (constant S128x384 .f32 0x00000000#32)

/-- The reciprocal denominators. -/
def recip (v : Vec F S1x128x256 .bf16) (st : Vec F S1x1x128x384 .f32) (lhs : Vec F S1x128x256 .bf16)
    (e : Vec F S1x128x128 .f32) : FVec F S128x128 .f32 :=
  divf (broadcast S128x128 (Scalar.ofBits .f32 0x3F800000#32)) (maximumf
    (absf (extractStridedSlice S128x128 ![0, 256] (readout v st lhs) slices_S128x384_o0_256_S128x128))
    (shapeCast S128x128 e shapeCasts_S1x128x128_S128x128))

/-- The chain's hidden rows. -/
def payH (v : Vec F S1x128x256 .bf16) (st : Vec F S1x1x128x384 .f32) (lhs : Vec F S1x128x256 .bf16)
    (e : Vec F S1x128x128 .f32) : FVec F S1x128x256 .bf16 :=
  shapeCast S1x128x256 (truncf .bf16 (mulf
    (extractStridedSlice S128x256 ![0, 0] (readout v st lhs) slices_S128x384_o0_0_S128x256)
    (concatenate S128x256 1 [⟨S128x128, recip v st lhs e⟩, ⟨S128x128, recip v st lhs e⟩]
      concatenates_S128x128_S128x128_S128x256_d1)) bitsLt_bf16_f32) shapeCasts_S128x256_S1x128x256

/-- The chain's next state. -/
def paySt (v : Vec F S1x128x256 .bf16) (st : Vec F S1x1x128x384 .f32) (kw : Vec F S1x128x128 .bf16)
    (wc : Vec F S1x1x1 .f32) : FVec F S1x1x128x384 .f32 :=
  shapeCast S1x1x128x384 (addf (mulf (broadcastTo S128x384 (shapeCast S1x1 wc shapeCasts_S1x1x1_S1x1) broadcasts_S1x1_S128x384)
      (shapeCast S128x384 st shapeCasts_S1x1x128x384_S128x384))
    (matmul dot_S128x128_S128x384_S128x384_1_0_0_1_n_n none (shapeCast S128x128 kw shapeCasts_S1x128x128_S128x128) (vext v)
      (constant S128x384 .f32 0x00000000#32))) shapeCasts_S128x384_S1x1x128x384

/-! ## What the chains load, and the pieces they store -/

/-- What one chunk's chains load. -/
structure Loads (F : FTy → Type) where
  gates : Fin 16 → Vec F S1x128x128 .f32
  row : Fin 16 → Vec F S1x1x128 .f32
  stab : Fin 16 → Vec F S1x1x1 .f32
  q : Fin 16 → Vec F S1x128x128 .bf16
  k : Fin 16 → Vec F S1x1x128x128 .bf16
  v : Fin 16 → Vec F S1x128x256 .bf16
  st : Fin 16 → Vec F S1x1x128x384 .f32

/-- The chains, last first. -/
def order : List (Fin 16) := [15, 14, 13, 12, 11, 10, 9, 8, 7, 6, 5, 4, 3, 2, 1, 0]
def orderF : List (Fin 16) := [7, 6, 5, 4, 3, 2, 1, 0]
def orderB : List (Fin 16) := [15, 14, 13, 12, 11, 10, 9, 8]

theorem inb_chain (c : Fin 16) : ∀ a, (![c.val, 0, 0] : Fin 3 → ℕ) a + S1x128x128.size a ≤ S16x128x128.size a := by
  revert c; decide
theorem inb_lhsS (c : Fin 16) : ∀ a, (![c.val, 0, 0] : Fin 3 → ℕ) a + S1x128x128.size a ≤ S16x128x256.size a := by
  revert c; decide
theorem inb_lhsQ (c : Fin 16) : ∀ a, (![c.val, 0, 128] : Fin 3 → ℕ) a + S1x128x128.size a ≤ S16x128x256.size a := by
  revert c; decide
theorem inb_lhs (c : Fin 16) : ∀ a, (![c.val, 0, 0] : Fin 3 → ℕ) a + S1x128x256.size a ≤ S16x128x256.size a := by
  revert c; decide
theorem inb_wc (c : Fin 16) : ∀ a, (![c.val, 0, 0] : Fin 3 → ℕ) a + S1x8x128.size a ≤ S16x8x128.size a := by
  revert c; decide
theorem inb_wc1 (c : Fin 16) : ∀ a, (![c.val, 0, 0] : Fin 3 → ℕ) a + S1x1x1.size a ≤ S16x8x128.size a := by
  revert c; decide
theorem inb_m (c : Fin 16) : ∀ a, (![c.val / 8, c.val % 8, 0] : Fin 3 → ℕ) a + S1x1x128.size a ≤ S2x8x128.size a := by
  revert c; decide
theorem inb_m1 (c : Fin 16) : ∀ a, (![c.val / 8, c.val % 8, 0] : Fin 3 → ℕ) a + S1x1x1.size a ≤ S2x8x128.size a := by
  revert c; decide
theorem inb_st (c : Fin 16) : ∀ a, (![c.val / 8, c.val % 8, 0, 0] : Fin 4 → ℕ) a + S1x1x128x384.size a ≤ S2x8x128x384.size a := by
  revert c; decide
theorem inb_h (c : Fin 16) : ∀ a, (![0, 0, c.val % 8 * 256] : Fin 3 → ℕ) a + S1x128x256.size a ≤ S1x128x2048.size a := by
  revert c; decide
theorem inb_q (c : Fin 16) : ∀ a, (![0, 0, c.val % 8 * 128] : Fin 3 → ℕ) a + S1x128x128.size a ≤ S1x128x1024.size a := by
  revert c; decide
theorem inb_k (c : Fin 16) : ∀ a, (![0, 0, c.val % 8 * 128, 0] : Fin 4 → ℕ) a + S1x1x128x128.size a ≤ S1x1x1024x128.size a := by
  revert c; decide
theorem inb_row (c : Fin 16) : ∀ a, (![0, c.val, 0] : Fin 3 → ℕ) a + S1x1x128.size a ≤ S1x16x128.size a := by
  revert c; decide

abbrev rChain (c : Fin 16) : Rect S16x128x128 := Rect.unit ![c.val, 0, 0] S1x128x128.size (inb_chain c)
abbrev rLhsS (c : Fin 16) : Rect S16x128x256 := Rect.unit ![c.val, 0, 0] S1x128x128.size (inb_lhsS c)
abbrev rLhsQ (c : Fin 16) : Rect S16x128x256 := Rect.unit ![c.val, 0, 128] S1x128x128.size (inb_lhsQ c)
abbrev rLhs (c : Fin 16) : Rect S16x128x256 := Rect.unit ![c.val, 0, 0] S1x128x256.size (inb_lhs c)
abbrev rWc (c : Fin 16) : Rect S16x8x128 := Rect.unit ![c.val, 0, 0] S1x8x128.size (inb_wc c)
abbrev rWc1 (c : Fin 16) : Rect S16x8x128 := Rect.unit ![c.val, 0, 0] S1x1x1.size (inb_wc1 c)
abbrev rM (c : Fin 16) : Rect S2x8x128 := Rect.unit ![c.val / 8, c.val % 8, 0] S1x1x128.size (inb_m c)
abbrev rM1 (c : Fin 16) : Rect S2x8x128 := Rect.unit ![c.val / 8, c.val % 8, 0] S1x1x1.size (inb_m1 c)
abbrev rSt (c : Fin 16) : Rect S2x8x128x384 := Rect.unit ![c.val / 8, c.val % 8, 0, 0] S1x1x128x384.size (inb_st c)
abbrev rH (c : Fin 16) : Rect S1x128x2048 := Rect.unit ![0, 0, c.val % 8 * 256] S1x128x256.size (inb_h c)
abbrev rQ (c : Fin 16) : Rect S1x128x1024 := Rect.unit ![0, 0, c.val % 8 * 128] S1x128x128.size (inb_q c)
abbrev rK (c : Fin 16) : Rect S1x1x1024x128 := Rect.unit ![0, 0, c.val % 8 * 128, 0] S1x1x128x128.size (inb_k c)
abbrev rRow (c : Fin 16) : Rect S1x16x128 := Rect.unit ![0, c.val, 0] S1x1x128.size (inb_row c)

variable (R : Loads F)

def piecesP : List (View.Piece (Elt F) S16x128x128 .f32) :=
  order.map fun c => ⟨rChain c, payP c (R.gates c) (R.row c) (R.stab c)⟩
def piecesE : List (View.Piece (Elt F) S16x128x128 .f32) :=
  order.map fun c => ⟨rChain c, payE c (R.gates c) (R.stab c)⟩
def piecesKw : List (View.Piece (Elt F) S16x128x128 .bf16) :=
  order.map fun c => ⟨rChain c, payKw c (R.gates c) (R.row c) (R.stab c) (R.k c)⟩
def piecesWc : List (View.Piece (Elt F) S16x8x128 .f32) :=
  order.map fun c => ⟨rWc c, payWc c (R.gates c) (R.stab c)⟩
def piecesM : List (View.Piece (Elt F) S2x8x128 .f32) :=
  order.map fun c => ⟨rM c, payM c (R.gates c) (R.stab c)⟩

variable (a16 : Memref sig .tc .vmem S16x128x128 .f32) (a17 : Memref sig .tc .vmem S16x128x256 .bf16)
  (a18 : Memref sig .tc .vmem S16x128x128 .f32) (a19 : Memref sig .tc .vmem S16x128x128 .bf16)
  (a20 : Memref sig .tc .vmem S16x8x128 .f32)

def piecesLhs : List (View.Piece (Elt F) S16x128x256 .bf16) :=
  (order.map fun c => ⟨rLhsS c, payS c (R.q c) (R.k c) (a16.view.readCov (piecesP R) (rChain c).toLoadRect)⟩) ++
    (order.map fun c => ⟨rLhsQ c, payLq c (R.gates c) (R.stab c) (R.q c)⟩)
def piecesH (o : List (Fin 16)) : List (View.Piece (Elt F) S1x128x2048 .bf16) :=
  o.map fun c => ⟨rH c, payH (R.v c) (R.st c) (a17.view.readCov (piecesLhs R a16) (rLhs c).toLoadRect)
    (a18.view.readCov (piecesE R) (rChain c).toLoadRect)⟩
def piecesSt : List (View.Piece (Elt F) S2x8x128x384 .f32) :=
  order.map fun c => ⟨rSt c, paySt (R.v c) (R.st c) (a19.view.readCov (piecesKw R) (rChain c).toLoadRect)
    (a20.view.readCov (piecesWc R) (rWc1 c).toLoadRect)⟩

end Cert.Proof.Units

end
-- ==== Proof.UnitsAt.lean ====
module

public import proofs.«01_k».proof.Proof.Units
public import Idealize.ShloMosaic.Lib.Pointwise

@[expose] public section

/-!
# The chains' phases read at an index
-/

set_option maxRecDepth 16384

noncomputable section

namespace Cert.Proof.Units

open Idealize.ShloMosaic Idealize.ShloMosaic.TcCoe
open Cert.KernelIdeal Cert.KernelIdeal.Gen

/-- The lane of the gate block that holds the chain's cumulative log-forget gate. -/
def lb (c : Fin 16) : Fin 128 := ⟨c.val / 8 * 16 + c.val % 8, by omega⟩
/-- The lane that holds the chain's running maximum. -/
def la (c : Fin 16) : Fin 128 := ⟨c.val / 8 * 16 + c.val % 8 + 8, by omega⟩
/-- The last row of a chunk in the chain's order. -/
def lastOf (c : Fin 16) : Fin 128 := bif bwd c then 0 else 127

theorem lane_at (x : Vec Ideal S1x128x128 .f32) (n : IVec S128x128 32) (t s : Fin 128) (l : Fin 128)
    (h : n (ix2 t s) = BitVec.ofNat 32 l.val) : lane x n (ix2 t s) = x (ix3 0 t l) := by
  have e : ∀ l : Fin 128, (BitVec.toNat (Scalar.select (IntOp.cmpi .slt (BitVec.ofNat 32 l.val) 0#32)
      (IntOp.addi (BitVec.ofNat 32 l.val) 128#32) (BitVec.ofNat 32 l.val))) % 128 = l.val := by
    decide +kernel
  pointwise [lane]
  simp only [h, e]

theorem gateB_at (c : Fin 16) (x : Vec Ideal S1x128x128 .f32) (t s : Fin 128) :
    gateB c x (ix2 t s) = x (ix3 0 t (lb c)) :=
  lane_at x _ t s _ rfl

theorem gateMx_at (c : Fin 16) (x : Vec Ideal S1x128x128 .f32) (mv : Vec Ideal S1x1x1 .f32) (t s : Fin 128) :
    gateMx c x mv (ix2 t s) = max (x (ix3 0 t (la c))) (mv (ix3 0 0 0)) := by
  have h : lane x (addi (broadcast S128x128 (laneB c)) (broadcast S128x128 8#32)) (ix2 t s) = x (ix3 0 t (la c)) :=
    lane_at x _ t s _ ((by decide : ∀ c : Fin 16, laneB c + 8#32 = BitVec.ofNat 32 (la c).val) c)
  unfold gateMx
  rw [← h]
  pointwise []

theorem lastRow_at (c : Fin 16) (x : FVec Ideal S128x128 .f32) (z : Fin 1) (s : Fin 128) :
    lastRow (bwd c) x (ix2 z s) = x (ix2 (lastOf c) s) := by
  unfold lastOf
  cases bwd c <;> pointwise [lastRow] <;> rfl

theorem payP_at (c : Fin 16) (x : Vec Ideal S1x128x128 .f32) (w : Vec Ideal S1x1x128 .f32) (mv : Vec Ideal S1x1x1 .f32) (z : Fin 1) (t s : Fin 128) :
    payP c x w mv (ix3 z t s) = Ideal.exp (w (ix3 0 0 s) - max (x (ix3 0 t (la c))) (mv (ix3 0 0 0))) := by
  rw [← gateMx_at c x mv t s]
  pointwise [payP]

theorem payE_at (c : Fin 16) (x : Vec Ideal S1x128x128 .f32) (mv : Vec Ideal S1x1x1 .f32) (z : Fin 1) (t s : Fin 128) :
    payE c x mv (ix3 z t s) = Ideal.exp (0 - (x (ix3 0 t (lb c)) + max (x (ix3 0 t (la c))) (mv (ix3 0 0 0)))) := by
  rw [← gateMx_at c x mv t s, ← gateB_at c x t s]
  pointwise [payE]

theorem payLq_at (c : Fin 16) (x : Vec Ideal S1x128x128 .f32) (mv : Vec Ideal S1x1x1 .f32) (q : Vec Ideal S1x128x128 .bf16) (z : Fin 1) (t s : Fin 128) :
    payLq c x mv q (ix3 z t s) = q (ix3 0 t s) * Ideal.exp (mv (ix3 0 0 0) - max (x (ix3 0 t (la c))) (mv (ix3 0 0 0))) := by
  rw [← gateMx_at c x mv t s]
  pointwise [payLq]

theorem payKw_at (c : Fin 16) (x : Vec Ideal S1x128x128 .f32) (w : Vec Ideal S1x1x128 .f32) (mv : Vec Ideal S1x1x1 .f32) (k : Vec Ideal S1x1x128x128 .bf16) (z : Fin 1) (d s : Fin 128) :
    payKw c x w mv k (ix3 z d s) = k (ix4 0 0 d s) * Ideal.exp (w (ix3 0 0 s) - max (x (ix3 0 (lastOf c) (la c))) (mv (ix3 0 0 0))) := by
  rw [← gateMx_at c x mv (lastOf c) s, ← lastRow_at c (gateMx c x mv) 0]
  pointwise [payKw]

theorem payWc_at (c : Fin 16) (x : Vec Ideal S1x128x128 .f32) (mv : Vec Ideal S1x1x1 .f32) (z : Fin 1) (d : Fin 8) (s : Fin 128) :
    payWc c x mv (ix3 z d s) = Ideal.exp (mv (ix3 0 0 0) - max (x (ix3 0 (lastOf c) (la c))) (mv (ix3 0 0 0))) := by
  rw [← gateMx_at c x mv (lastOf c) s, ← lastRow_at c (gateMx c x mv) 0]
  pointwise [payWc]

theorem payM_at (c : Fin 16) (x : Vec Ideal S1x128x128 .f32) (mv : Vec Ideal S1x1x1 .f32) (z : Fin 1) (d : Fin 1) (s : Fin 128) :
    payM c x mv (ix3 z d s) = x (ix3 0 (lastOf c) (lb c)) + max (x (ix3 0 (lastOf c) (la c))) (mv (ix3 0 0 0)) := by
  rw [← gateMx_at c x mv (lastOf c) s, ← gateB_at c x (lastOf c) s, ← lastRow_at c (gateMx c x mv) 0, ← lastRow_at c (gateB c x) 0]
  pointwise [payM]

/-- Whether row `s` is at or before row `t` in the chain's order. -/
def upTo (c : Fin 16) (t s : Fin 128) : Bool := bif bwd c then decide (t ≤ s) else decide (s ≤ t)

theorem mask_at (c : Fin 16) (t s : Fin 128) : mask (bwd c) (ix2 t s) = if upTo c t s then 1#1 else 0#1 := by
  have h1 : ∀ t s : Fin 128, IntOp.cmpi .sle (BitVec.ofNat 32 s.val) (BitVec.ofNat 32 t.val) = if decide (s ≤ t) then 1#1 else 0#1 := by
    decide +kernel
  have h2 : ∀ t s : Fin 128, IntOp.cmpi .sge (BitVec.ofNat 32 s.val) (BitVec.ofNat 32 t.val) = if decide (t ≤ s) then 1#1 else 0#1 := by
    decide +kernel
  unfold upTo
  cases h : bwd c
  · refine Eq.trans ?_ (h1 t s)
    pointwise [mask]
  · refine Eq.trans ?_ (h2 t s)
    pointwise [mask]

theorem payS_at (c : Fin 16) (q : Vec Ideal S1x128x128 .bf16) (k : Vec Ideal S1x1x128x128 .bf16) (p : Vec Ideal S1x128x128 .f32) (z : Fin 1) (t s : Fin 128) :
    payS c q k p (ix3 z t s) = if upTo c t s then (∑ d : Fin 128, q (ix3 0 t d) * k (ix4 0 0 d s)) * p (ix3 0 t s) else 0 := by
  pointwise [payS]
  rw [mask_at]
  cases upTo c t s <;> rfl

theorem vext_at (v : Vec Ideal S1x128x256 .bf16) (s : Fin 128) (j : Fin 384) :
    vext v (ix2 s j) = if h : j.val < 256 then v (ix3 0 s ⟨j.val, h⟩) else 1 := by
  pointwise [vext]

theorem readout_at (v : Vec Ideal S1x128x256 .bf16) (st : Vec Ideal S1x1x128x384 .f32) (lhs : Vec Ideal S1x128x256 .bf16) (t : Fin 128) (j : Fin 384) :
    readout v st lhs (ix2 t j) = (∑ s : Fin 128, lhs (ix3 0 t ⟨s.val, by omega⟩) * vext v (ix2 s j))
      + ∑ d : Fin 128, lhs (ix3 0 t ⟨128 + d.val, by omega⟩) * st (ix4 0 0 d j) := by
  pointwise [readout]

theorem payH_at (v : Vec Ideal S1x128x256 .bf16) (st : Vec Ideal S1x1x128x384 .f32) (lhs : Vec Ideal S1x128x256 .bf16)
    (e : Vec Ideal S1x128x128 .f32) (z : Fin 1) (t : Fin 128) (j : Fin 256) :
    payH v st lhs e (ix3 z t j) = readout v st lhs (ix2 t ⟨j.val, by omega⟩) *
      Ideal.div 1 (max (FloatOps.absf (F := Ideal) (φ := .f32) (readout v st lhs (ix2 t ⟨256 + j.val % 128, by omega⟩)))
        (e (ix3 0 t ⟨j.val % 128, by omega⟩))) := by
  pointwise [payH, recip]
  congr 1
  by_cases h : j.val < 128
  · rw [dif_pos h]
    have e1 : j.val % 128 = j.val := Nat.mod_eq_of_lt h
    simp only [e1]
  · rw [dif_neg h]
    have e1 : j.val % 128 = j.val - 128 := by omega
    simp only [e1]

theorem paySt_at (v : Vec Ideal S1x128x256 .bf16) (st : Vec Ideal S1x1x128x384 .f32) (kw : Vec Ideal S1x128x128 .bf16)
    (wc : Vec Ideal S1x1x1 .f32) (z z' : Fin 1) (d : Fin 128) (j : Fin 384) :
    paySt v st kw wc (ix4 z z' d j) = wc (ix3 0 0 0) * st (ix4 0 0 d j) + ∑ s : Fin 128, kw (ix3 0 d s) * vext v (ix2 s j) := by
  pointwise [paySt]

end Cert.Proof.Units

end
-- ==== Proof.Chain.lean ====
module

public import Idealize.ShloMosaic.Lib.Pointwise

@[expose] public section

/-!
# One chunk of one chain

The kernel's chunk and the reference's chunk, each as functions of what the chain reads, and their
agreement when the cumulative gates, the running maxima and the stabiliser are finite. The kernel
takes the stabiliser relative to the cumulative gate (`max a m`), the reference absolutely
(`max (b + m) (b + a)`); every exponent they form is the same difference.
-/

noncomputable section

namespace Cert.Proof.Chain

open Idealize.ShloMosaic

/-! ## The kernel's chunk -/

section Kernel

variable (up : Fin 128 → Fin 128 → Bool) (last : Fin 128) (a b : Fin 128 → EReal) (m : EReal) (w : Fin 128 → EReal)
  (q k : Fin 128 → Fin 128 → EReal) (v : Fin 128 → Fin 384 → EReal) (st : Fin 128 → Fin 384 → EReal)

def kS (t s : Fin 128) : EReal :=
  if up t s then (∑ d : Fin 128, q t d * k d s) * Ideal.exp (w s - max (a t) m) else 0
def kRes (t : Fin 128) (j : Fin 384) : EReal :=
  (∑ s : Fin 128, kS up a m w q k t s * v s j) + ∑ d : Fin 128, q t d * Ideal.exp (m - max (a t) m) * st d j
def kH (t : Fin 128) (j : Fin 256) : EReal :=
  kRes up a m w q k v st t ⟨j.val, by omega⟩ * Ideal.div 1 (max
    (FloatOps.absf (F := Ideal) (φ := .f32) (kRes up a m w q k v st t ⟨256 + j.val % 128, by omega⟩))
    (Ideal.exp (0 - (b t + max (a t) m))))
def kSt (d : Fin 128) (j : Fin 384) : EReal :=
  Ideal.exp (m - max (a last) m) * st d j + ∑ s : Fin 128, k d s * Ideal.exp (w s - max (a last) m) * v s j
def kM : EReal := b last + max (a last) m

end Kernel

/-! ## The reference's chunk -/

section Reference

variable (a b : Fin 128 → EReal) (m : EReal) (w : Fin 128 → EReal)
  (q k : Fin 128 → Fin 128 → EReal) (v : Fin 128 → Fin 256 → EReal) (C : Fin 256 → Fin 128 → EReal) (N : Fin 128 → EReal)

def rMt (t : Fin 128) : EReal := max (b t + m) (b t + a t)
def rS (t s : Fin 128) : EReal :=
  (∑ d : Fin 128, q t d * k s d) * Ideal.exp ((if s.val ≤ t.val then b t + w s else ⊥) - rMt a b m t)
def rNum (t : Fin 128) (j : Fin 256) : EReal :=
  Ideal.exp (b t + m - rMt a b m t) * (∑ d : Fin 128, q t d * C j d) + ∑ s : Fin 128, rS a b m w q k t s * v s j
def rNq (t : Fin 128) : EReal :=
  Ideal.exp (b t + m - rMt a b m t) * (∑ d : Fin 128, N d * q t d) + ∑ s : Fin 128, rS a b m w q k t s
def rOut (t : Fin 128) (j : Fin 256) : EReal :=
  Ideal.div (rNum a b m w q k v C t j)
    (max (FloatOps.absf (F := Ideal) (φ := .f32) (rNq a b m w q k N t)) (Ideal.exp (-rMt a b m t)))
def rM' : EReal := max (b 127 + m) (b 127 + a 127)
def rWs (s : Fin 128) : EReal := Ideal.exp (b 127 + w s - rM' a b m)
def rC' (j : Fin 256) (d : Fin 128) : EReal :=
  Ideal.exp (b 127 + m - rM' a b m) * C j d + ∑ s : Fin 128, rWs a b m w s * v s j * k s d
def rN' (d : Fin 128) : EReal :=
  Ideal.exp (b 127 + m - rM' a b m) * N d + ∑ s : Fin 128, rWs a b m w s * k s d

end Reference

/-! ## Their agreement -/

theorem mul_sum_real (c : ℝ) (hc : 0 ≤ c) {n : ℕ} (f : Fin n → EReal) : (c : EReal) * ∑ i, f i = ∑ i, (c : EReal) * f i := by
  have h : ∀ s : Finset (Fin n), (c : EReal) * ∑ i ∈ s, f i = ∑ i ∈ s, (c : EReal) * f i := by
    intro s
    induction s using Finset.induction_on with
    | empty => simp
    | insert x s hx ih =>
      rw [Finset.sum_insert hx, Finset.sum_insert hx,
        EReal.left_distrib_of_nonneg_of_ne_top (by exact_mod_cast hc) (EReal.coe_ne_top c), ih]
  exact h _

theorem coe_max (x y : ℝ) : max (x : EReal) (y : EReal) = ((max x y : ℝ) : EReal) :=
  (EReal.coe_strictMono.monotone.map_max).symm

theorem exp_coe (x : ℝ) : Ideal.exp (x : EReal) = ((Real.exp x : ℝ) : EReal) := rfl

/-- A weight's exponent does not see the cumulative gate. -/
theorem shift (x y : ℝ) (w : EReal) : ((x : EReal) + w - ((x + y : ℝ) : EReal)) = w - (y : EReal) := by
  induction w with
  | bot => rfl
  | coe w => norm_cast; ring_nf
  | top => rfl

theorem bot_sub (x : ℝ) : (⊥ : EReal) - (x : EReal) = ⊥ := rfl

theorem rMt_eq (a b : Fin 128 → ℝ) (m : ℝ) (t : Fin 128) :
    rMt (fun t => (a t : EReal)) (fun t => (b t : EReal)) (m : EReal) t = ((b t + max (a t) m : ℝ) : EReal) := by
  unfold rMt
  rw [← EReal.coe_add, ← EReal.coe_add, coe_max, max_comm, max_add_add_left]

theorem div_one_mul (x y : EReal) (hy : 0 < y) : x * Ideal.div 1 y = Ideal.div x y := by
  unfold Ideal.div
  rw [if_neg hy.ne', if_neg hy.ne', one_mul]

section Agree

variable (σ : Equiv.Perm (Fin 128)) (up : Fin 128 → Fin 128 → Bool)
  (hup : ∀ t s, up (σ t) (σ s) = decide (s.val ≤ t.val))
  (a b : Fin 128 → ℝ) (m : ℝ) (w : Fin 128 → EReal)
  (q k : Fin 128 → Fin 128 → EReal) (v : Fin 128 → Fin 256 → EReal) (C : Fin 256 → Fin 128 → EReal) (N : Fin 128 → EReal)

/-- The values with a block of ones beside them. -/
def ext (v : Fin 128 → Fin 256 → EReal) (s : Fin 128) (j : Fin 384) : EReal := if h : j.val < 256 then v s ⟨j.val, h⟩ else 1
/-- The memory transposed, with the normaliser in every lane beside it. -/
def stOf (C : Fin 256 → Fin 128 → EReal) (N : Fin 128 → EReal) (d : Fin 128) (j : Fin 384) : EReal :=
  if h : j.val < 256 then C ⟨j.val, h⟩ d else N d

include hup in
theorem S_eq (t s : Fin 128) :
    kS up (fun t => ((a t : ℝ) : EReal)) m w q k (σ t) (σ s) = rS (fun t => ((a (σ t) : ℝ) : EReal)) (fun t => ((b (σ t) : ℝ) : EReal)) m (fun s => w (σ s)) (fun t => q (σ t)) (fun s d => k d (σ s)) t s := by
  unfold kS rS
  rw [hup, rMt_eq (fun t => a (σ t)) (fun t => b (σ t)) m t]
  by_cases h : s.val ≤ t.val
  · rw [if_pos (by simpa using h), if_pos h, shift, coe_max]
  · rw [if_neg (by simpa using h), if_neg h, bot_sub]
    exact (mul_zero _).symm

theorem exp_inter (t : Fin 128) :
    Ideal.exp (((b t : ℝ) : EReal) + (m : EReal) - ((b t + max (a t) m : ℝ) : EReal)) = ((Real.exp (m - max (a t) m) : ℝ) : EReal) := by
  rw [shift, ← EReal.coe_sub, exp_coe]

include hup in
theorem num_eq (t : Fin 128) (j : Fin 256) :
    kRes up (fun t => ((a t : ℝ) : EReal)) m w q k (ext v) (stOf C N) (σ t) ⟨j.val, by omega⟩
      = rNum (fun t => ((a (σ t) : ℝ) : EReal)) (fun t => ((b (σ t) : ℝ) : EReal)) m (fun s => w (σ s)) (fun t => q (σ t)) (fun s d => k d (σ s)) (fun s => v (σ s)) C t j := by
  unfold kRes rNum
  rw [rMt_eq (fun t => a (σ t)) (fun t => b (σ t)) m t, exp_inter (fun t => a (σ t)) (fun t => b (σ t)) m t,
    mul_sum_real _ (Real.exp_pos _).le, add_comm]
  congr 1
  · refine Finset.sum_congr rfl fun d _ => ?_
    rw [coe_max, ← EReal.coe_sub, exp_coe]
    simp only [stOf, j.isLt, dif_pos]
    rw [mul_comm (q (σ t) d), mul_assoc]
  · rw [← Equiv.sum_comp σ]
    refine Finset.sum_congr rfl fun s _ => ?_
    rw [S_eq σ up hup a b m w q k]
    simp only [ext, j.isLt, dif_pos]

include hup in
theorem nq_eq (t : Fin 128) (j : Fin 384) (hj : 256 ≤ j.val) :
    kRes up (fun t => ((a t : ℝ) : EReal)) m w q k (ext v) (stOf C N) (σ t) j
      = rNq (fun t => ((a (σ t) : ℝ) : EReal)) (fun t => ((b (σ t) : ℝ) : EReal)) m (fun s => w (σ s)) (fun t => q (σ t)) (fun s d => k d (σ s)) N t := by
  have hj' : ¬ j.val < 256 := by omega
  unfold kRes rNq
  rw [rMt_eq (fun t => a (σ t)) (fun t => b (σ t)) m t, exp_inter (fun t => a (σ t)) (fun t => b (σ t)) m t,
    mul_sum_real _ (Real.exp_pos _).le, add_comm]
  congr 1
  · refine Finset.sum_congr rfl fun d _ => ?_
    rw [coe_max, ← EReal.coe_sub, exp_coe]
    simp only [stOf, hj', dif_neg, not_false_eq_true]
    rw [mul_comm (q (σ t) d), mul_assoc, mul_comm (q (σ t) d)]
  · rw [← Equiv.sum_comp σ]
    refine Finset.sum_congr rfl fun s _ => ?_
    rw [S_eq σ up hup a b m w q k]
    simp only [ext, hj', dif_neg, not_false_eq_true, mul_one]

include hup in
/-- The hidden rows agree. -/
theorem out_eq (t : Fin 128) (j : Fin 256) :
    kH up (fun t => ((a t : ℝ) : EReal)) (fun t => ((b t : ℝ) : EReal)) m w q k (ext v) (stOf C N) (σ t) j
      = rOut (fun t => ((a (σ t) : ℝ) : EReal)) (fun t => ((b (σ t) : ℝ) : EReal)) m (fun s => w (σ s)) (fun t => q (σ t)) (fun s d => k d (σ s)) (fun s => v (σ s)) C N t j := by
  unfold kH rOut
  rw [num_eq σ up hup a b m w q k v C N, nq_eq σ up hup a b m w q k v C N _ _ (by simp),
    rMt_eq (fun t => a (σ t)) (fun t => b (σ t)) m t]
  have e : (0 : EReal) - (((b (σ t) : ℝ) : EReal) + max ((a (σ t) : ℝ) : EReal) (m : EReal)) = -((b (σ t) + max (a (σ t)) m : ℝ) : EReal) := by
    rw [coe_max, ← EReal.coe_add, zero_sub]
  rw [e]
  refine div_one_mul _ _ (lt_of_lt_of_le ?_ (le_max_right _ _))
  rw [← EReal.coe_neg, exp_coe]
  exact_mod_cast Real.exp_pos _

variable (last : Fin 128) (hlast : σ 127 = last)

include hlast in
/-- The carried stabilisers agree, and are finite. -/
theorem m_eq : kM last (fun t => ((a t : ℝ) : EReal)) (fun t => ((b t : ℝ) : EReal)) m = rM' (fun t => ((a (σ t) : ℝ) : EReal)) (fun t => ((b (σ t) : ℝ) : EReal)) m ∧ kM last (fun t => ((a t : ℝ) : EReal)) (fun t => ((b t : ℝ) : EReal)) m = ((b last + max (a last) m : ℝ) : EReal) := by
  have h : kM last (fun t => ((a t : ℝ) : EReal)) (fun t => ((b t : ℝ) : EReal)) m = ((b last + max (a last) m : ℝ) : EReal) := by
    unfold kM; rw [coe_max, ← EReal.coe_add]
  refine ⟨?_, h⟩
  rw [h, ← hlast]
  exact (rMt_eq (fun t => a (σ t)) (fun t => b (σ t)) m 127).symm

include hlast in
theorem mem_eq (d : Fin 128) (j : Fin 256) :
    kSt last (fun t => ((a t : ℝ) : EReal)) m w k (ext v) (stOf C N) d ⟨j.val, by omega⟩
      = rC' (fun t => ((a (σ t) : ℝ) : EReal)) (fun t => ((b (σ t) : ℝ) : EReal)) m (fun s => w (σ s)) (fun s d => k d (σ s)) (fun s => v (σ s)) C j d := by
  unfold kSt rC' rWs
  rw [← (m_eq σ a b m last hlast).1, (m_eq σ a b m last hlast).2]
  beta_reduce
  rw [hlast, shift, coe_max]
  congr 1
  · simp only [stOf, j.isLt, dif_pos]
  · rw [← Equiv.sum_comp σ]
    refine Finset.sum_congr rfl fun s _ => ?_
    rw [shift]
    simp only [ext, j.isLt, dif_pos]
    rw [mul_comm (k d (σ s)), mul_assoc, mul_assoc, mul_comm (k d (σ s))]

include hlast in
theorem norm_eq (d : Fin 128) (j : Fin 384) (hj : 256 ≤ j.val) :
    kSt last (fun t => ((a t : ℝ) : EReal)) m w k (ext v) (stOf C N) d j
      = rN' (fun t => ((a (σ t) : ℝ) : EReal)) (fun t => ((b (σ t) : ℝ) : EReal)) m (fun s => w (σ s)) (fun s d => k d (σ s)) N d := by
  have hj' : ¬ j.val < 256 := by omega
  unfold kSt rN' rWs
  rw [← (m_eq σ a b m last hlast).1, (m_eq σ a b m last hlast).2]
  beta_reduce
  rw [hlast, shift, coe_max]
  congr 1
  · simp only [stOf, hj', dif_neg, not_false_eq_true]
  · rw [← Equiv.sum_comp σ]
    refine Finset.sum_congr rfl fun s _ => ?_
    rw [shift]
    simp only [ext, hj', dif_neg, not_false_eq_true, mul_one]
    rw [mul_comm]

include hlast in
/-- The next states agree. -/
theorem st_eq (d : Fin 128) (j : Fin 384) :
    kSt last (fun t => ((a t : ℝ) : EReal)) m w k (ext v) (stOf C N) d j
      = stOf (rC' (fun t => ((a (σ t) : ℝ) : EReal)) (fun t => ((b (σ t) : ℝ) : EReal)) m (fun s => w (σ s)) (fun s d => k d (σ s)) (fun s => v (σ s)) C)
          (rN' (fun t => ((a (σ t) : ℝ) : EReal)) (fun t => ((b (σ t) : ℝ) : EReal)) m (fun s => w (σ s)) (fun s d => k d (σ s)) N) d j := by
  by_cases h : j.val < 256
  · rw [show j = ⟨(⟨j.val, h⟩ : Fin 256).val, by omega⟩ from rfl, mem_eq σ a b m w k v C N last hlast]
    simp only [stOf, h, dif_pos]
  · rw [norm_eq σ a b m w k v C N last hlast d j (by omega)]
    simp only [stOf, h, dif_neg, not_false_eq_true]

end Agree

end Cert.Proof.Chain

end
-- ==== Proof.Canon.lean ====
module

public import proofs.«01_k».proof.Proof.UnitsAt
public import proofs.«01_k».proof.Proof.Chain

@[expose] public section

/-!
# What the chains' pieces leave

Each buffer the pieces fill, read at an index: the chain's entry is the chain's own payload, since
the chains' rectangles are disjoint.
-/

set_option maxRecDepth 16384

noncomputable section

namespace Cert.Proof.Canon

open Idealize.ShloMosaic Idealize.ShloMosaic.TcCoe Idealize.ShloMosaic.Tactic
open Cert.KernelIdeal Cert.KernelIdeal.Gen Cert.Proof.Units Cert.Proof.Chain
open Idealize.ShloMosaic.View (canon)

section General

variable {S : Shape} {e : EltTy}

/-- Pieces that miss an index do not matter there. -/
theorem canon_skip : ∀ (L M : List (View.Piece (Elt Ideal) S e)) (y : S.Idx), (∀ p ∈ L, y ∉ p.1.set) →
    canon (L ++ M) y = canon M y
  | [], _, _, _ => rfl
  | p :: L, M, y, h => by
    rw [List.cons_append, View.canon_cons_of_not_mem _ _ (h p List.mem_cons_self)]
    exact canon_skip L M y fun p hp => h p (List.mem_cons_of_mem _ hp)

/-- Of pieces with disjoint rectangles, the one that holds an index decides it. -/
theorem canon_take (r : Fin 16 → Rect S) (f : ∀ c, (r c).shape.Idx → Elt Ideal e) (M : List (View.Piece (Elt Ideal) S e))
    (c : Fin 16) (x : (r c).shape.Idx) : ∀ (o : List (Fin 16)), c ∈ o → (∀ c' ∈ o, ∀ x', (r c').emb x' = (r c).emb x → c' = c) →
    canon ((o.map fun c => (⟨r c, f c⟩ : View.Piece (Elt Ideal) S e)) ++ M) ((r c).emb x) = f c x
  | [], h, _ => absurd h List.not_mem_nil
  | c' :: o, h, hd => by
    by_cases hc : c' = c
    · subst hc
      exact View.canon_cons_emb _ _ _ _
    · rw [List.map_cons, List.cons_append, View.canon_cons_of_not_mem]
      · exact canon_take r f M c x o (List.mem_of_ne_of_mem (Ne.symm hc) h) fun c' hc' => hd c' (List.mem_cons_of_mem _ hc')
      · intro hm
        obtain ⟨x', hx'⟩ := (r c').exists_idx_of_mem hm
        exact hc (hd c' List.mem_cons_self x' hx')

theorem canon_take' (r : Fin 16 → Rect S) (f : ∀ c, (r c).shape.Idx → Elt Ideal e)
    (c : Fin 16) (x : (r c).shape.Idx) (o : List (Fin 16)) (h : c ∈ o) (hd : ∀ c' ∈ o, ∀ x', (r c').emb x' = (r c).emb x → c' = c) :
    canon (o.map fun c => (⟨r c, f c⟩ : View.Piece (Elt Ideal) S e)) ((r c).emb x) = f c x := by
  have := canon_take r f [] c x o h hd
  rwa [List.append_nil] at this

end General

theorem mem_order (c : Fin 16) : c ∈ order := by revert c; decide

/-! ## The rectangles' coordinates -/

theorem chain_inj {c c' : Fin 16} {x x'} (h : (rChain c').emb x' = (rChain c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhs_inj {c c' : Fin 16} {x x'} (h : (rLhsS c').emb x' = (rLhsS c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhsQ_inj {c c' : Fin 16} {x x'} (h : (rLhsQ c').emb x' = (rLhsQ c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhsQ_not_S {c c' : Fin 16} {x} : (rLhsQ c).emb x ∉ (rLhsS c').set := by
  intro hm
  obtain ⟨x', h⟩ := (rLhsS c').exists_idx_of_mem hm
  have e : 0 + 1 * (x' 2).val = 128 + 1 * (x 2).val := congrArg Fin.val (congrFun h 2)
  have h1 : (x' 2).val < 128 := (x' 2).isLt
  omega

theorem wc_inj {c c' : Fin 16} {x x'} (h : (rWc c').emb x' = (rWc c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem m_inj {c c' : Fin 16} {x x'} (h : (rM c').emb x' = (rM c).emb x) : c' = c := by
  have e : c'.val / 8 + 1 * (x' 0).val = c.val / 8 + 1 * (x 0).val := congrArg Fin.val (congrFun h 0)
  have e' : c'.val % 8 + 1 * (x' 1).val = c.val % 8 + 1 * (x 1).val := congrArg Fin.val (congrFun h 1)
  have h1 : (x' 0).val < 1 := (x' 0).isLt
  have h2 : (x 0).val < 1 := (x 0).isLt
  have h3 : (x' 1).val < 1 := (x' 1).isLt
  have h4 : (x 1).val < 1 := (x 1).isLt
  exact Fin.ext (by omega)

theorem st_inj {c c' : Fin 16} {x x'} (h : (rSt c').emb x' = (rSt c).emb x) : c' = c := by
  have e : c'.val / 8 + 1 * (x' 0).val = c.val / 8 + 1 * (x 0).val := congrArg Fin.val (congrFun h 0)
  have e' : c'.val % 8 + 1 * (x' 1).val = c.val % 8 + 1 * (x 1).val := congrArg Fin.val (congrFun h 1)
  have h1 : (x' 0).val < 1 := (x' 0).isLt
  have h2 : (x 0).val < 1 := (x 0).isLt
  have h3 : (x' 1).val < 1 := (x' 1).isLt
  have h4 : (x 1).val < 1 := (x 1).isLt
  exact Fin.ext (by omega)

theorem h_inj {c c' : Fin 16} (hb : c'.val / 8 = c.val / 8) {x x'} (h : (rH c').emb x' = (rH c).emb x) : c' = c := by
  have e : c'.val % 8 * 256 + 1 * (x' 2).val = c.val % 8 * 256 + 1 * (x 2).val := congrArg Fin.val (congrFun h 2)
  have h1 : (x' 2).val < 256 := (x' 2).isLt
  have h2 : (x 2).val < 256 := (x 2).isLt
  exact Fin.ext (by omega)

/-! ## The scratch buffers' reads -/

variable (R : Loads Ideal) (c : Fin 16)

def aOf (t : Fin 128) : EReal := R.gates c (ix3 0 t (la c))
def bOf (t : Fin 128) : EReal := R.gates c (ix3 0 t (lb c))
def mOf : EReal := R.stab c (ix3 0 0 0)
def wOf (s : Fin 128) : EReal := R.row c (ix3 0 0 s)
def qOf (t d : Fin 128) : EReal := R.q c (ix3 0 t d)
def kOf (d s : Fin 128) : EReal := R.k c (ix4 0 0 d s)
def vOf (s : Fin 128) (j : Fin 256) : EReal := R.v c (ix3 0 s j)
def stO (d : Fin 128) (j : Fin 384) : EReal := R.st c (ix4 0 0 d j)

variable (a16 : Memref sig .tc .vmem S16x128x128 .f32) (a17 : Memref sig .tc .vmem S16x128x256 .bf16)
  (a18 : Memref sig .tc .vmem S16x128x128 .f32) (a19 : Memref sig .tc .vmem S16x128x128 .bf16)
  (a20 : Memref sig .tc .vmem S16x8x128 .f32)

theorem readP : a16.view.readCov (piecesP R) (rChain c).toLoadRect = payP c (R.gates c) (R.row c) (R.stab c) := by
  rw [View.readCov_eq_canon']
  exact funext fun x => canon_take' rChain _ c x order (mem_order c) fun _ _ _ h => chain_inj h

theorem readE : a18.view.readCov (piecesE R) (rChain c).toLoadRect = payE c (R.gates c) (R.stab c) := by
  rw [View.readCov_eq_canon']
  exact funext fun x => canon_take' rChain _ c x order (mem_order c) fun _ _ _ h => chain_inj h

theorem readKw : a19.view.readCov (piecesKw R) (rChain c).toLoadRect = payKw c (R.gates c) (R.row c) (R.stab c) (R.k c) := by
  rw [View.readCov_eq_canon']
  exact funext fun x => canon_take' rChain _ c x order (mem_order c) fun _ _ _ h => chain_inj h

theorem readWc : a20.view.readCov (piecesWc R) (rWc1 c).toLoadRect (ix3 0 0 0) = payWc c (R.gates c) (R.stab c) (ix3 0 0 0) := by
  have h : (rWc1 c).toLoadRect.idx (ix3 0 0 0) = (rWc c).emb (ix3 0 0 0) := by
    funext a
    match a with
    | 0 => rfl
    | 1 => rfl
    | 2 => rfl
  rw [View.readCov_eq_canon']
  refine (congrArg (canon (piecesWc R)) h).trans ?_
  exact canon_take' rWc _ c (ix3 0 0 0) order (mem_order c) fun _ _ _ h => wc_inj h

theorem readLhsS (t s : Fin 128) : a17.view.readCov (piecesLhs R a16) (rLhs c).toLoadRect (ix3 0 t ⟨s.val, by omega⟩)
    = payS c (R.q c) (R.k c) (payP c (R.gates c) (R.row c) (R.stab c)) (ix3 0 t s) := by
  rw [View.readCov_eq_canon', ← readP R c a16]
  have h : (rLhs c).toLoadRect.idx (ix3 0 t ⟨s.val, by omega⟩) = (rLhsS c).emb (ix3 0 t s) := by
    funext a
    match a with
    | 0 => rfl
    | 1 => rfl
    | 2 => rfl
  refine (congrArg (canon (piecesLhs R a16)) h).trans ?_
  exact canon_take rLhsS _ _ c (ix3 0 t s) order (mem_order c) fun _ _ _ h => lhs_inj h

theorem readLhsQ (t d : Fin 128) : a17.view.readCov (piecesLhs R a16) (rLhs c).toLoadRect (ix3 0 t ⟨128 + d.val, by omega⟩)
    = payLq c (R.gates c) (R.stab c) (R.q c) (ix3 0 t d) := by
  rw [View.readCov_eq_canon']
  have h : (rLhs c).toLoadRect.idx (ix3 0 t ⟨128 + d.val, by omega⟩) = (rLhsQ c).emb (ix3 0 t d) := by
    funext a
    match a with
    | 0 => rfl
    | 1 => rfl
    | 2 => exact Fin.ext (by show 0 + 1 * (128 + d.val) = 128 + 1 * d.val; omega)
  refine (congrArg (canon (piecesLhs R a16)) h).trans ?_
  unfold piecesLhs
  rw [canon_skip]
  · exact canon_take' rLhsQ _ c (ix3 0 t d) order (mem_order c) fun _ _ _ h => lhsQ_inj h
  · intro p hp
    obtain ⟨c', _, rfl⟩ := List.mem_map.mp hp
    exact lhsQ_not_S

/-! ## The outputs and the carried buffers -/

theorem res_eq (t : Fin 128) (j : Fin 384) :
    readout (R.v c) (R.st c) (a17.view.readCov (piecesLhs R a16) (rLhs c).toLoadRect) (ix2 t j)
      = kRes (upTo c) (aOf R c) (mOf R c) (wOf R c) (qOf R c) (kOf R c) (ext (vOf R c)) (stO R c) t j := by
  rw [readout_at]
  unfold kRes kS
  congr 1
  · refine Finset.sum_congr rfl fun s _ => ?_
    rw [readLhsS, payS_at, payP_at, vext_at]
    rfl
  · refine Finset.sum_congr rfl fun d _ => ?_
    rw [readLhsQ, payLq_at]
    rfl

theorem hidden_at (o : List (Fin 16)) (hc : c ∈ o) (ho : ∀ c' ∈ o, c'.val / 8 = c.val / 8) (t : Fin 128) (j : Fin 256) :
    canon (piecesH R a16 a17 a18 o) (ix3 0 t ⟨c.val % 8 * 256 + j.val, by omega⟩)
      = kH (upTo c) (aOf R c) (bOf R c) (mOf R c) (wOf R c) (qOf R c) (kOf R c) (ext (vOf R c)) (stO R c) t j := by
  have h : (ix3 0 t ⟨c.val % 8 * 256 + j.val, by omega⟩ : S1x128x2048.Idx) = (rH c).emb (ix3 0 t j) := by
    funext a
    match a with
    | 0 => rfl
    | 1 => exact Fin.ext (by show t.val = 0 + 1 * t.val; omega)
    | 2 => exact Fin.ext (by show c.val % 8 * 256 + j.val = c.val % 8 * 256 + 1 * j.val; omega)
  rw [h]
  refine (canon_take' rH _ c (ix3 0 t j) o hc fun c' hc' _ h => h_inj (ho c' hc') h).trans ?_
  rw [payH_at, res_eq, res_eq, readE, payE_at]
  rfl

theorem state_at (M : List (View.Piece (Elt Ideal) S2x8x128x384 .f32)) (d : Fin 128) (j : Fin 384) :
    canon (piecesSt R a19 a20 ++ M) (ix4 ⟨c.val / 8, by omega⟩ ⟨c.val % 8, by omega⟩ d j)
      = kSt (lastOf c) (aOf R c) (mOf R c) (wOf R c) (kOf R c) (ext (vOf R c)) (stO R c) d j := by
  have h : (ix4 ⟨c.val / 8, by omega⟩ ⟨c.val % 8, by omega⟩ d j : S2x8x128x384.Idx) = (rSt c).emb (ix4 0 0 d j) := by
    funext a
    match a with
    | 0 => rfl
    | 1 => rfl
    | 2 => exact Fin.ext (by show d.val = 0 + 1 * d.val; omega)
    | 3 => exact Fin.ext (by show j.val = 0 + 1 * j.val; omega)
  rw [h]
  refine (canon_take rSt _ M c (ix4 0 0 d j) order (mem_order c) fun _ _ _ h => st_inj h).trans ?_
  rw [paySt_at, readWc, payWc_at, readKw]
  unfold kSt
  congr 1
  refine Finset.sum_congr rfl fun s _ => ?_
  rw [payKw_at, vext_at]
  rfl

theorem stab_at (M : List (View.Piece (Elt Ideal) S2x8x128 .f32)) (l : Fin 128) :
    canon (piecesM R ++ M) (ix3 ⟨c.val / 8, by omega⟩ ⟨c.val % 8, by omega⟩ l) = kM (lastOf c) (aOf R c) (bOf R c) (mOf R c) := by
  have h : (ix3 ⟨c.val / 8, by omega⟩ ⟨c.val % 8, by omega⟩ l : S2x8x128.Idx) = (rM c).emb (ix3 0 0 l) := by
    funext a
    match a with
    | 0 => rfl
    | 1 => rfl
    | 2 => exact Fin.ext (by show l.val = 0 + 1 * l.val; omega)
  rw [h]
  refine (canon_take rM _ M c (ix3 0 0 l) order (mem_order c) fun _ _ _ h => m_inj h).trans ?_
  rw [payM_at]
  rfl

/-! ## The first chunk's reads of the carried buffers -/

theorem order_drop (c : Fin 16) : ∀ c' ∈ order.drop (16 - c.val), c' ≠ c := by revert c; decide

theorem stab_zero (v : View sig .tc .vmem S2x8x128 .f32) :
    v.readCov ((piecesM R ++ ([⟨Rect.unit ![0, 0, 0] S2x8x128.size inb_S2x8x128_S2x8x128_0_0_0, k0_pay2 (F := Ideal)⟩] : List (View.Piece (Elt Ideal) S2x8x128 .f32))).drop (16 - c.val))
      (rM1 c).toLoadRect (ix3 0 0 0) = 0 := by
  have hl : (piecesM R).length = 16 := rfl
  rw [View.readCov_eq_canon', List.drop_append_of_le_length (by rw [hl]; omega)]
  unfold piecesM
  rw [← List.map_drop]
  refine (canon_skip _ _ _ ?_).trans ?_
  rotate_left
  · have h : (rM1 c).toLoadRect.idx (ix3 0 0 0) = (Rect.unit ![0, 0, 0] S2x8x128.size inb_S2x8x128_S2x8x128_0_0_0).emb
        (ix3 ⟨c.val / 8, by omega⟩ ⟨c.val % 8, by omega⟩ 0 : S2x8x128.Idx) := by
      funext a
      match a with
      | 0 => exact Fin.ext (by show c.val / 8 + 1 * 0 = 0 + 1 * (c.val / 8); omega)
      | 1 => exact Fin.ext (by show c.val % 8 + 1 * 0 = 0 + 1 * (c.val % 8); omega)
      | 2 => rfl
    refine (congrArg (canon _) h).trans ?_
    refine (View.canon_cons_emb _ _ _ _).trans ?_
    pointwise [k0_pay2]
  · intro p hp
    obtain ⟨c', hc', rfl⟩ := List.mem_map.mp hp
    intro hm
    obtain ⟨x', h⟩ := (rM c').exists_idx_of_mem hm
    have e : (rM1 c).toLoadRect.idx (ix3 0 0 0) = (rM c).emb (ix3 0 0 0) := by
      funext a
      match a with
      | 0 => rfl
      | 1 => rfl
      | 2 => rfl
    exact order_drop c c' hc' (m_inj (c := c) (x := ix3 0 0 0) (h.trans e))

theorem state_zero (v : View sig .tc .vmem S2x8x128x384 .f32) (d : Fin 128) (j : Fin 384) :
    v.readCov ((piecesSt R a19 a20 ++ ([⟨Rect.unit ![0, 0, 0, 0] S2x8x128x384.size inb_S2x8x128x384_S2x8x128x384_0_0_0_0, k0_pay1 (F := Ideal)⟩] : List (View.Piece (Elt Ideal) S2x8x128x384 .f32))).drop (16 - c.val))
      (rSt c).toLoadRect (ix4 0 0 d j) = 0 := by
  have hl : (piecesSt R a19 a20).length = 16 := rfl
  rw [View.readCov_eq_canon', List.drop_append_of_le_length (by rw [hl]; omega)]
  unfold piecesSt
  rw [← List.map_drop]
  refine (canon_skip _ _ _ ?_).trans ?_
  rotate_left
  · have h : (rSt c).toLoadRect.idx (ix4 0 0 d j) = (Rect.unit ![0, 0, 0, 0] S2x8x128x384.size inb_S2x8x128x384_S2x8x128x384_0_0_0_0).emb
        (ix4 ⟨c.val / 8, by omega⟩ ⟨c.val % 8, by omega⟩ d j : S2x8x128x384.Idx) := by
      funext a
      match a with
      | 0 => exact Fin.ext (by show c.val / 8 + 1 * 0 = 0 + 1 * (c.val / 8); omega)
      | 1 => exact Fin.ext (by show c.val % 8 + 1 * 0 = 0 + 1 * (c.val % 8); omega)
      | 2 => rfl
      | 3 => exact Fin.ext (by show 0 + 1 * j.val = 0 + 1 * j.val; rfl)
    refine (congrArg (canon _) h).trans ?_
    refine (View.canon_cons_emb _ _ _ _).trans ?_
    pointwise [k0_pay1]
  · intro p hp
    obtain ⟨c', hc', rfl⟩ := List.mem_map.mp hp
    intro hm
    obtain ⟨x', h⟩ := (rSt c').exists_idx_of_mem hm
    exact order_drop c c' hc' (st_inj (c := c) (x := ix4 0 0 d j) h)

end Cert.Proof.Canon

end
-- ==== Proof.Pieces.lean ====
module

public import proofs.«01_k».proof.Proof.Units

@[expose] public section

/-!
# The pieces of the run are the chains' pieces
-/

set_option maxRecDepth 16384
set_option maxHeartbeats 4000000

noncomputable section

namespace Cert.Proof.Pieces

open Idealize.ShloMosaic Idealize.ShloMosaic.TcCoe Idealize.ShloMosaic.Tactic
open Cert.KernelIdeal Cert.KernelIdeal.Gen Cert.Proof.Units

variable {F : FTy → Type} [FloatOps F]

variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec F S1x128x1024 .bf16) (x1 : Vec F S1x128x1024 .bf16) (x2 : Vec F S1x1x1024x128 .bf16) (x3 : Vec F S1x1x1024x128 .bf16) (x4 : Vec F S1x128x2048 .bf16) (x5 : Vec F S1x128x2048 .bf16) (x6 : Vec F S1x128x128 .f32) (x7 : Vec F S1x128x128 .f32) (x8 : Vec F S1x16x128 .f32) (x9 : Vec F S1x16x128 .f32)

/-- What the chains load of the input blocks, over any stabilisers and states. -/
def loads (stab : Fin 16 → Vec F S1x1x1 .f32) (st : Fin 16 → Vec F S1x1x128x384 .f32) : Loads F where
  gates c := bif bwd c
    then View.readAt (Elt F) arg9.view (Rect.unit ![0, 0, 0] S1x128x128.size inb_S1x128x128_S1x128x128_0_0_0).toLoadRect (harg9.unread x7)
    else View.readAt (Elt F) arg8.view (Rect.unit ![0, 0, 0] S1x128x128.size inb_S1x128x128_S1x128x128_0_0_0).toLoadRect (harg8.unread x6)
  row c := bif bwd c then View.readAt (Elt F) arg11.view (rRow c).toLoadRect (harg11.unread x9)
    else View.readAt (Elt F) arg10.view (rRow c).toLoadRect (harg10.unread x8)
  stab := stab
  q c := bif bwd c then View.readAt (Elt F) arg3.view (rQ c).toLoadRect (harg3.unread x1)
    else View.readAt (Elt F) arg2.view (rQ c).toLoadRect (harg2.unread x0)
  k c := bif bwd c then View.readAt (Elt F) arg5.view (rK c).toLoadRect (harg5.unread x3)
    else View.readAt (Elt F) arg4.view (rK c).toLoadRect (harg4.unread x2)
  v c := bif bwd c then View.readAt (Elt F) arg7.view (rH c).toLoadRect (harg7.unread x5)
    else View.readAt (Elt F) arg6.view (rH c).toLoadRect (harg6.unread x4)
  st := st

section Carried
variable (hc0 : ¬cond0_0 i) (hc1 : cond0_1 i) (hc2 : cond0_2 i) (hc3 : cond0_3 i)
  (xs0 : Vec F S2x8x128x384 .f32) (xs1 : Vec F S2x8x128 .f32)

/-- What the chains load after a first point: the scratches hold what the point before left. -/
def loadsB : Loads F :=
  loads arg2 harg2 arg3 harg3 arg4 harg4 arg5 harg5 arg6 harg6 arg7 harg7 arg8 harg8 arg9 harg9 arg10 harg10 arg11 harg11 x0 x1 x2 x3 x4 x5 x6 x7 x8 x9 (fun c => View.readAt (Elt F) arg15.view (rM1 c).toLoadRect (harg15.unread xs1))
    (fun c => View.readAt (Elt F) arg14.view (rSt c).toLoadRect (harg14.unread xs0))

theorem stabB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.2.2.1 = piecesM (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) := by sl_kernel_rfl

theorem fwdB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).1 = piecesH (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg16 arg17 arg18 orderF := by sl_kernel_rfl
theorem bwdB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.1 = piecesH (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg16 arg17 arg18 orderB := by sl_kernel_rfl
theorem stateB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.2.1 = piecesSt (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg19 arg20 := by sl_kernel_rfl

end Carried

section First
variable (hc0 : cond0_0 i) (hc1 : cond0_1 i) (hc2 : cond0_2 i) (hc3 : cond0_3 i)

/-- What the chains load at a first point: each reads its own part of the scratches the point filled with zeros. -/
def loadsA : Loads F :=
  loads arg2 harg2 arg3 harg3 arg4 harg4 arg5 harg5 arg6 harg6 arg7 harg7 arg8 harg8 arg9 harg9 arg10 harg10 arg11 harg11 x0 x1 x2 x3 x4 x5 x6 x7 x8 x9 (fun j => arg15.view.readCov ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.2.1.drop (16 - j.val)) (rM1 j).toLoadRect)
    (fun j => arg14.view.readCov ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.1.drop (16 - j.val)) (rSt j).toLoadRect)

theorem stabA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.2.1 = piecesM (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ++
    [⟨Rect.unit ![0, 0, 0] S2x8x128.size inb_S2x8x128_S2x8x128_0_0_0, k0_pay2⟩] := by sl_kernel_rfl
theorem stateA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.1 = piecesSt (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg19 arg20 ++
    [⟨Rect.unit ![0, 0, 0, 0] S2x8x128x384.size inb_S2x8x128x384_S2x8x128x384_0_0_0_0, k0_pay1⟩] := by sl_kernel_rfl
theorem fwdA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).1 = piecesH (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg16 arg17 arg18 orderF := by sl_kernel_rfl
theorem bwdA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.1 = piecesH (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg16 arg17 arg18 orderB := by sl_kernel_rfl

end First

end Cert.Proof.Pieces

end
-- ==== Proof.Point.lean ====
/-
  The input blocks of a point, as each chain sees them, and what the point leaves at an index: the chain's unit of
  `Cert.Proof.Chain` over its blocks, its stabiliser and its state.
-/
module
public import proofs.«01_k».proof.Proof.Canon
public import proofs.«01_k».proof.Proof.Pieces
public import Idealize.ShloMosaic.Lib.Pipeline.ValueKit

@[expose] public section

set_option maxRecDepth 16384
set_option maxHeartbeats 4000000

noncomputable section

namespace Cert.Proof.Point

open Idealize.ShloMosaic Idealize.ShloMosaic.TcCoe Idealize.ShloMosaic.Tactic
open Cert.KernelIdeal Cert.KernelIdeal.Gen Cert.Proof.Units Cert.Proof.Chain Cert.Proof.Canon Cert.Proof.Pieces
open Idealize.ShloMosaic.View (canon)

/-- The chain's direction and head, as the scratches number them. -/
abbrev dr (ch : Fin 16) : Fin 2 := ⟨ch.val / 8, by omega⟩
abbrev hd (ch : Fin 16) : Fin 8 := ⟨ch.val % 8, by omega⟩

section Blocks
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)

def blkA (ch : Fin 16) (t : Fin 128) : EReal := (bif bwd ch then x7 else x6) (ix3 0 t (la ch))
def blkB (ch : Fin 16) (t : Fin 128) : EReal := (bif bwd ch then x7 else x6) (ix3 0 t (lb ch))
def blkW (ch : Fin 16) (s : Fin 128) : EReal := (bif bwd ch then x9 else x8) (ix3 0 ch s)
def blkQ (ch : Fin 16) (t d : Fin 128) : EReal := (bif bwd ch then x1 else x0) (ix3 0 t ⟨ch.val % 8 * 128 + d.val, by omega⟩)
def blkK (ch : Fin 16) (d s : Fin 128) : EReal := (bif bwd ch then x3 else x2) (ix4 0 0 ⟨ch.val % 8 * 128 + d.val, by omega⟩ s)
def blkV (ch : Fin 16) (s : Fin 128) (j : Fin 256) : EReal := (bif bwd ch then x5 else x4) (ix3 0 s ⟨ch.val % 8 * 256 + j.val, by omega⟩)

end Blocks

section Generic
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (stab : Fin 16 → Vec Ideal S1x1x1 .f32) (st : Fin 16 → Vec Ideal S1x1x128x384 .f32) (ch : Fin 16)

theorem loads_a : aOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkA x6 x7 ch := by
  funext t
  unfold aOf blkA loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show 0 + 1 * (la ch).val = (la ch).val; omega)

theorem loads_b : bOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkB x6 x7 ch := by
  funext t
  unfold bOf blkB loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show 0 + 1 * (lb ch).val = (lb ch).val; omega)

theorem loads_w : wOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkW x8 x9 ch := by
  funext t
  unfold wOf blkW loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show ch.val + 1 * 0 = ch.val; omega)
    | 2 => exact Fin.ext (by show 0 + 1 * t.val = t.val; omega)

theorem loads_q : qOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkQ x0 x1 ch := by
  funext t d
  unfold qOf blkQ loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show ch.val % 8 * 128 + 1 * d.val = ch.val % 8 * 128 + d.val; omega)

theorem loads_k : kOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkK x2 x3 ch := by
  funext d t
  unfold kOf blkK loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => rfl
    | 2 => exact Fin.ext (by show ch.val % 8 * 128 + 1 * d.val = ch.val % 8 * 128 + d.val; omega)
    | 3 => exact Fin.ext (by show 0 + 1 * t.val = t.val; omega)

theorem loads_v : vOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkV x4 x5 ch := by
  funext t j
  unfold vOf blkV loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show ch.val % 8 * 256 + 1 * j.val = ch.val % 8 * 256 + j.val; omega)

end Generic

section Carried
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (hc0 : ¬cond0_0 i) (hc1 : cond0_1 i) (hc2 : cond0_2 i) (hc3 : cond0_3 i)
  (xs0 : Vec Ideal S2x8x128x384 .f32) (xs1 : Vec Ideal S2x8x128 .f32) (ch : Fin 16)

theorem carried_m : mOf (loadsB (F := Ideal) arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) ch = xs1 (ix3 (dr ch) (hd ch) 0) := by
  unfold mOf loadsB loads
  dsimp only
  rw [View.readAt_eq_ld, Memref.IsWhole.read_unread]
  refine (View.ld_apply _ _ _).trans (congrArg _ (funext fun a => ?_))
  match a with
  | 0 => rfl
  | 1 => rfl
  | 2 => rfl

theorem carried_st : stO (loadsB (F := Ideal) arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) ch = fun d j => xs0 (ix4 (dr ch) (hd ch) d j) := by
  funext d j
  unfold stO loadsB loads
  dsimp only
  rw [View.readAt_eq_ld, Memref.IsWhole.read_unread]
  refine (View.ld_apply _ _ _).trans (congrArg _ (funext fun a => ?_))
  match a with
  | 0 => rfl
  | 1 => rfl
  | 2 => exact Fin.ext (by show 0 + 1 * d.val = d.val; omega)
  | 3 => exact Fin.ext (by show 0 + 1 * j.val = j.val; omega)

theorem fwdB (hch : ch.val < 8) (t : Fin 128) (j : Fin 256) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 0 t ⟨ch.val % 8 * 256 + j.val, by omega⟩)
    = kH (upTo ch) (blkA x6 x7 ch) (blkB x6 x7 ch) (xs1 (ix3 (dr ch) (hd ch) 0)) (blkW x8 x9 ch) (blkQ x0 x1 ch) (blkK x2 x3 ch) (ext (blkV x4 x5 ch)) (fun d j => xs0 (ix4 (dr ch) (hd ch) d j)) t j := by
  unfold out0_B_10
  rw [View.read_writes_junk_eq_canon, Pieces.fwdB]
  refine (hidden_at _ ch arg16 arg17 arg18 orderF ?_ ?_ t j).trans ?_
  · revert hch; revert ch; decide
  · revert hch; revert ch; decide
  · rw [carried_m, carried_st]
    unfold loadsB
    rw [loads_a, loads_b, loads_w, loads_q, loads_k, loads_v]

theorem bwdB (hch : 8 ≤ ch.val) (t : Fin 128) (j : Fin 256) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 0 t ⟨ch.val % 8 * 256 + j.val, by omega⟩)
    = kH (upTo ch) (blkA x6 x7 ch) (blkB x6 x7 ch) (xs1 (ix3 (dr ch) (hd ch) 0)) (blkW x8 x9 ch) (blkQ x0 x1 ch) (blkK x2 x3 ch) (ext (blkV x4 x5 ch)) (fun d j => xs0 (ix4 (dr ch) (hd ch) d j)) t j := by
  unfold out0_B_11
  rw [View.read_writes_junk_eq_canon, Pieces.bwdB]
  refine (hidden_at _ ch arg16 arg17 arg18 orderB ?_ ?_ t j).trans ?_
  · revert hch; revert ch; decide
  · revert hch; revert ch; decide
  · rw [carried_m, carried_st]
    unfold loadsB
    rw [loads_a, loads_b, loads_w, loads_q, loads_k, loads_v]

theorem stabB (l : Fin 128) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 (dr ch) (hd ch) l)
    = kM (lastOf ch) (blkA x6 x7 ch) (blkB x6 x7 ch) (xs1 (ix3 (dr ch) (hd ch) 0)) := by
  unfold sout0_B_1
  rw [View.read_writes_junk_eq_canon, Pieces.stabB]
  refine ((congrArg (fun L => canon L _) (List.append_nil _)).symm.trans (stab_at _ ch _ l)).trans ?_
  rw [carried_m]
  unfold loadsB
  rw [loads_a, loads_b]

theorem stateB (d : Fin 128) (j : Fin 384) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix4 (dr ch) (hd ch) d j)
    = kSt (lastOf ch) (blkA x6 x7 ch) (xs1 (ix3 (dr ch) (hd ch) 0)) (blkW x8 x9 ch) (blkK x2 x3 ch) (ext (blkV x4 x5 ch)) (fun d j => xs0 (ix4 (dr ch) (hd ch) d j)) d j := by
  unfold sout0_B_0
  rw [View.read_writes_junk_eq_canon, Pieces.stateB]
  refine ((congrArg (fun L => canon L _) (List.append_nil _)).symm.trans (state_at _ ch arg19 arg20 _ d j)).trans ?_
  rw [carried_m, carried_st]
  unfold loadsB
  rw [loads_a, loads_w, loads_k, loads_v]

end Carried

section First
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (hc0 : cond0_0 i) (hc1 : cond0_1 i) (hc2 : cond0_2 i) (hc3 : cond0_3 i) (ch : Fin 16)

theorem first_m : mOf (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch = 0 := by
  refine Eq.trans ?_ (stab_zero (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch arg15.view)
  rw [← Pieces.stabA]
  rfl

theorem first_st : stO (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch = fun _ _ => 0 := by
  funext d j
  refine Eq.trans ?_ (state_zero (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch arg19 arg20 arg14.view d j)
  rw [← Pieces.stateA]
  rfl

theorem fwdA (hch : ch.val < 8) (t : Fin 128) (j : Fin 256) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 0 t ⟨ch.val % 8 * 256 + j.val, by omega⟩)
    = kH (upTo ch) (blkA x6 x7 ch) (blkB x6 x7 ch) 0 (blkW x8 x9 ch) (blkQ x0 x1 ch) (blkK x2 x3 ch) (ext (blkV x4 x5 ch)) (fun _ _ => 0) t j := by
  unfold out0_A_10
  rw [View.read_writes_junk_eq_canon, Pieces.fwdA]
  refine (hidden_at _ ch arg16 arg17 arg18 orderF ?_ ?_ t j).trans ?_
  · revert hch; revert ch; decide
  · revert hch; revert ch; decide
  · rw [first_m, first_st]
    unfold loadsA
    rw [loads_a, loads_b, loads_w, loads_q, loads_k, loads_v]

theorem bwdA (hch : 8 ≤ ch.val) (t : Fin 128) (j : Fin 256) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 0 t ⟨ch.val % 8 * 256 + j.val, by omega⟩)
    = kH (upTo ch) (blkA x6 x7 ch) (blkB x6 x7 ch) 0 (blkW x8 x9 ch) (blkQ x0 x1 ch) (blkK x2 x3 ch) (ext (blkV x4 x5 ch)) (fun _ _ => 0) t j := by
  unfold out0_A_11
  rw [View.read_writes_junk_eq_canon, Pieces.bwdA]
  refine (hidden_at _ ch arg16 arg17 arg18 orderB ?_ ?_ t j).trans ?_
  · revert hch; revert ch; decide
  · revert hch; revert ch; decide
  · rw [first_m, first_st]
    unfold loadsA
    rw [loads_a, loads_b, loads_w, loads_q, loads_k, loads_v]

theorem stabA (l : Fin 128) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 (dr ch) (hd ch) l)
    = kM (lastOf ch) (blkA x6 x7 ch) (blkB x6 x7 ch) 0 := by
  unfold sout0_A_1
  rw [View.read_writes_junk_eq_canon, Pieces.stabA]
  refine ((stab_at _ ch _ l)).trans ?_
  rw [first_m]
  unfold loadsA
  rw [loads_a, loads_b]

theorem stateA (d : Fin 128) (j : Fin 384) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix4 (dr ch) (hd ch) d j)
    = kSt (lastOf ch) (blkA x6 x7 ch) 0 (blkW x8 x9 ch) (blkK x2 x3 ch) (ext (blkV x4 x5 ch)) (fun _ _ => 0) d j := by
  unfold sout0_A_0
  rw [View.read_writes_junk_eq_canon, Pieces.stateA]
  refine ((state_at _ ch arg19 arg20 _ d j)).trans ?_
  rw [first_m, first_st]
  unfold loadsA
  rw [loads_a, loads_w, loads_k, loads_v]

end First

end Cert.Proof.Point
-- ==== Proof.Inputs.lean ====
/-
  A point's input blocks, read at an index, are the arguments at the point's batch and chunk.
-/
module
public import proofs.«01_k».proof.Proof.Gen.KernelIdeal.Value
public import Idealize.ShloMosaic.Lib.Pipeline.ValueKit

@[expose] public section

set_option maxRecDepth 16384

noncomputable section

namespace Cert.Proof.Inputs

open Idealize.ShloMosaic Idealize.ShloMosaic.TcCoe Idealize.ShloMosaic.Tactic
open Cert.KernelIdeal Cert.KernelIdeal.Gen

variable {F : FTy → Type} [FloatOps F] (m : (ℓ : Loc nD τ sig) → Buf (Elt F) ℓ) (c : Dev nD)

theorem idx_fwd : ∀ t : Fin cfg0.N, win0_0.index t = ![t.val / 64, t.val % 64, 0] ∧ win0_2.index t = ![t.val / 64, t.val % 64, 0, 0]
    ∧ win0_4.index t = ![t.val / 64, t.val % 64, 1] ∧ win0_6.index t = ![t.val / 64, t.val % 64, 0]
    ∧ win0_8.index t = ![t.val / 64, 0, t.val % 64] := by decide +kernel

theorem idx_bwd : ∀ t : Fin cfg0.N, win0_1.index t = ![t.val / 64, 63 - t.val % 64, 0] ∧ win0_3.index t = ![t.val / 64, 63 - t.val % 64, 0, 0]
    ∧ win0_5.index t = ![t.val / 64, 63 - t.val % 64, 1] ∧ win0_7.index t = ![t.val / 64, 63 - t.val % 64, 0]
    ∧ win0_9.index t = ![t.val / 64, 0, 63 - t.val % 64] := by decide +kernel

theorem idx_out : ∀ t : Fin cfg0.N, win0_10.index t = ![t.val / 64, t.val % 64, 0] ∧ win0_11.index t = ![t.val / 64, 63 - t.val % 64, 0] := by
  decide +kernel

section At
variable (t : Fin cfg0.N) (bt : Fin 4) (j : Fin 64) (ht : t.val = 64 * bt.val + j.val)
include ht

theorem b0 (r : Fin 128) (l : Fin 1024) : iblk m c 0 t (ix3 0 r l) = m ((c : Thread nD τ).loc main_arg0) (ix3 bt ⟨j.val * 128 + r.val, by omega⟩ l) := by
  have h1 : t.val / 64 = bt.val := by omega
  have h2 : t.val % 64 = j.val := by omega
  blk_ext [iblk, V, idx_fwd t]

theorem b1 (r : Fin 128) (l : Fin 1024) : iblk m c 1 t (ix3 0 r l) = m ((c : Thread nD τ).loc main_arg0) (ix3 bt ⟨(63 - j.val) * 128 + r.val, by omega⟩ l) := by
  have h1 : t.val / 64 = bt.val := by omega
  have h2 : t.val % 64 = j.val := by omega
  blk_ext [iblk, V, idx_bwd t]

theorem b2 (l : Fin 1024) (r : Fin 128) : iblk m c 2 t (ix4 0 0 l r) = m ((c : Thread nD τ).loc main_arg1) (ix4 bt j l r) := by
  have h1 : t.val / 64 = bt.val := by omega
  have h2 : t.val % 64 = j.val := by omega
  blk_ext [iblk, V, idx_fwd t]

theorem b3 (l : Fin 1024) (r : Fin 128) : iblk m c 3 t (ix4 0 0 l r) = m ((c : Thread nD τ).loc main_arg1) (ix4 bt ⟨63 - j.val, by omega⟩ l r) := by
  have h1 : t.val / 64 = bt.val := by omega
  have h2 : t.val % 64 = j.val := by omega
  blk_ext [iblk, V, idx_bwd t]

theorem b4 (r : Fin 128) (l : Fin 2048) : X0_4 m c t (ix3 0 r l) = m ((c : Thread nD τ).loc main_arg2) (ix3 bt ⟨j.val * 128 + r.val, by omega⟩ ⟨2048 + l.val, by omega⟩) := by
  have h1 : t.val / 64 = bt.val := by omega
  have h2 : t.val % 64 = j.val := by omega
  unfold X0_4 Pipeline.Window.fill
  rw [dif_pos (moved0_4 t _)]
  blk_ext [iblk, V, idx_fwd t]

theorem b5 (r : Fin 128) (l : Fin 2048) : X0_5 m c t (ix3 0 r l) = m ((c : Thread nD τ).loc main_arg2) (ix3 bt ⟨(63 - j.val) * 128 + r.val, by omega⟩ ⟨2048 + l.val, by omega⟩) := by
  have h1 : t.val / 64 = bt.val := by omega
  have h2 : t.val % 64 = j.val := by omega
  unfold X0_5 Pipeline.Window.fill
  rw [dif_pos (moved0_5 t _)]
  blk_ext [iblk, V, idx_bwd t]

theorem b6 (r l : Fin 128) : iblk m c 6 t (ix3 0 r l) = m ((c : Thread nD τ).loc main_arg3) (ix3 bt ⟨j.val * 128 + r.val, by omega⟩ l) := by
  have h1 : t.val / 64 = bt.val := by omega
  have h2 : t.val % 64 = j.val := by omega
  blk_ext [iblk, V, idx_fwd t]

theorem b7 (r l : Fin 128) : iblk m c 7 t (ix3 0 r l) = m ((c : Thread nD τ).loc main_arg3) (ix3 bt ⟨(63 - j.val) * 128 + r.val, by omega⟩ l) := by
  have h1 : t.val / 64 = bt.val := by omega
  have h2 : t.val % 64 = j.val := by omega
  blk_ext [iblk, V, idx_bwd t]

theorem b8 (l : Fin 16) (r : Fin 128) : iblk m c 8 t (ix3 0 l r) = m ((c : Thread nD τ).loc main_arg4) (ix3 bt l ⟨j.val * 128 + r.val, by omega⟩) := by
  have h1 : t.val / 64 = bt.val := by omega
  have h2 : t.val % 64 = j.val := by omega
  blk_ext [iblk, V, idx_fwd t]

theorem b9 (l : Fin 16) (r : Fin 128) : iblk m c 9 t (ix3 0 l r) = m ((c : Thread nD τ).loc main_arg4) (ix3 bt l ⟨(63 - j.val) * 128 + r.val, by omega⟩) := by
  have h1 : t.val / 64 = bt.val := by omega
  have h2 : t.val % 64 = j.val := by omega
  blk_ext [iblk, V, idx_bwd t]

end At

end Cert.Proof.Inputs
-- ==== Proof.RefRun.lean ====
/- The reference's run over one trip of its scan: the carried values and the chunked inputs that a valuation holds
   form a `State`, one pass of the loop's body takes it to `step` of it, and the results are read off the state
   after the sixty-four chunks. -/
module

public import proofs.«01_k».proof.Proof.Gen.ReferenceIdeal.Run
public import proofs.«01_k».proof.Proof.Gen.ReferenceIdeal.Step

@[expose] public section

set_option maxRecDepth 16384

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The loop's carried values and chunked inputs, as a valuation holds them. -/
def held (V : Valuation τ sig (Elt F)) : State F where
  main_v46_8 := V (Proc.devRef .tc main_v46_8)
  main_v46_9 := V (Proc.devRef .tc main_v46_9)
  main_v46_10 := V (Proc.devRef .tc main_v46_10)
  main_v46_11 := V (Proc.devRef .tc main_v46_11)
  main_v46_0 := V (Proc.devRef .tc main_v46_0)
  main_v46_1 := V (Proc.devRef .tc main_v46_1)
  main_v46_2 := V (Proc.devRef .tc main_v46_2)
  main_v46_3 := V (Proc.devRef .tc main_v46_3)
  main_v46_4 := V (Proc.devRef .tc main_v46_4)
  main_v46_5 := V (Proc.devRef .tc main_v46_5)

/-- The valuation before chunk `j`: the chunk's number and the triangular mask are in place. -/
structure At (V : Valuation τ sig (Elt F)) (j : ℕ) : Prop where
  count : V (Proc.devRef .tc main_v46_7) = constantI S_ 32 (BitVec.ofNat 32 j)
  mask : V (Proc.devRef .tc main_v46_6) = K_main_v29 (F := F)

variable {V : Valuation τ sig (Elt F)} {j : ℕ}

theorem queries (h : At V j) : res_main_while0b_v56 V = b5 j (held V) := by
  unfold res_main_while0b_v56; rw [h.count]; rfl
theorem keys (h : At V j) : res_main_while0b_v57 V = b11 j (held V) := by
  unfold res_main_while0b_v57; rw [h.count]; rfl
theorem values (h : At V j) : res_main_while0b_v58 V = b17 j (held V) := by
  unfold res_main_while0b_v58; rw [h.count]; rfl
theorem forget (h : At V j) : res_main_while0b_v59 V = b22 j (held V) := by
  unfold res_main_while0b_v59; rw [h.count]; rfl
theorem runmax (h : At V j) : res_main_while0b_v60 V = b27 j (held V) := by
  unfold res_main_while0b_v60; rw [h.count]; rfl
theorem weight (h : At V j) : res_main_while0b_v61 V = b32 j (held V) := by
  unfold res_main_while0b_v61; rw [h.count]; rfl
theorem inter (h : At V j) : res_main_while0b_v70 V = b45 j (held V) := by
  unfold res_main_while0b_v70; rw [forget h]; rfl
theorem stab (h : At V j) : res_main_while0b_v72 V = b47 j (held V) := by
  unfold res_main_while0b_v72; rw [inter h, forget h, runmax h]; rfl
theorem winter (h : At V j) : res_main_while0b_v74 V = b49 j (held V) := by
  unfold res_main_while0b_v74; rw [inter h, stab h]; rfl
theorem scores (h : At V j) : res_main_while0b_v80 V = b55 j (held V) := by
  unfold res_main_while0b_v80; rw [queries h, keys h, forget h, weight h, stab h, h.mask]; rfl
theorem lastForget (h : At V j) : res_main_while0b_v99 V = b75 j (held V) := by
  unfold res_main_while0b_v99; rw [forget h]; rfl
theorem stabNew (h : At V j) : res_main_while0b_v107 V = b83 j (held V) := by
  unfold res_main_while0b_v107; rw [lastForget h, runmax h]; rfl
theorem decay (h : At V j) : res_main_while0b_v110 V = b86 j (held V) := by
  unfold res_main_while0b_v110; rw [lastForget h, stabNew h]; rfl
theorem keyWeight (h : At V j) : res_main_while0b_v114 V = b90 j (held V) := by
  unfold res_main_while0b_v114; rw [lastForget h, weight h, stabNew h]; rfl

theorem memory (h : At V j) : Cert.ReferenceIdeal.Value.step_main_v46_8 V = b98 j (held V) := by
  unfold Cert.ReferenceIdeal.Value.step_main_v46_8; rw [decay h, keyWeight h, values h, keys h]; rfl
theorem normaliser (h : At V j) : Cert.ReferenceIdeal.Value.step_main_v46_9 V = b103 j (held V) := by
  unfold Cert.ReferenceIdeal.Value.step_main_v46_9; rw [decay h, keyWeight h, keys h]; rfl
theorem stabiliser (h : At V j) : Cert.ReferenceIdeal.Value.step_main_v46_10 V = b83 j (held V) := by
  unfold Cert.ReferenceIdeal.Value.step_main_v46_10; rw [stabNew h]; rfl
theorem output (h : At V j) : Cert.ReferenceIdeal.Value.step_main_v46_11 V = b109 j (held V) := by
  unfold Cert.ReferenceIdeal.Value.step_main_v46_11; rw [winter h, queries h, scores h, values h, stab h, h.count]; rfl

theorem held_trip (h : At V j) : held (STEP V) = step j (held V) := by
  unfold step
  simp only [held]
  rw [State.mk.injEq]
  exact ⟨(STEP_main_v46_8 V).trans (memory h), (STEP_main_v46_9 V).trans (normaliser h),
    (STEP_main_v46_10 V).trans (stabiliser h), (STEP_main_v46_11 V).trans (output h), STEP_main_v46_0 V,
    STEP_main_v46_1 V, STEP_main_v46_2 V, STEP_main_v46_3 V, STEP_main_v46_4 V, STEP_main_v46_5 V⟩

theorem at_trip (h : At V j) : At (STEP V) (j + 1) where
  count := by
    rw [STEP_main_v46_7]; unfold step_main_v46_7; rw [h.count]
    funext i
    show BitVec.ofNat 32 j + 1#32 = BitVec.ofNat 32 (j + 1)
    simp only [BitVec.ofNat_add]
  mask := (STEP_main_v46_6 V).trans h.mask

variable (m : (ℓ : Loc nD τ sig) → Buf (Elt F) ℓ) (c : Dev nD)

/-- The state before chunk `n` of device `c`. -/
def state : ℕ → State F
  | 0 => init (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))
  | n + 1 => step n (state n)

set_option maxRecDepth 65536 in
set_option maxHeartbeats 800000 in
theorem entry_at : At (entryContents preI m c) 0 := by
  constructor <;> (simp only [entryContents, afterL_cons, afterL_nil]; after_reads_simp) <;> rfl

set_option maxRecDepth 65536 in
set_option maxHeartbeats 1600000 in
theorem entry_held : held (entryContents preI m c) = state m c 0 := by
  unfold held state init
  rw [State.mk.injEq]
  refine ⟨?_, ?_, ?_, ?_, ?_, ?_, ?_, ?_, ?_, ?_⟩ <;>
    (simp only [entryContents, afterL_cons, afterL_nil]; after_reads_simp) <;> rfl

theorem iter : ∀ k, At (STEP^[k] (entryContents preI m c)) k ∧ held (STEP^[k] (entryContents preI m c)) = state m c k
  | 0 => ⟨entry_at m c, entry_held m c⟩
  | k + 1 => by
    rw [Function.iterate_succ_apply']
    exact ⟨at_trip (iter k).1, by rw [held_trip (iter k).1, (iter k).2]; rfl⟩

theorem result_fwd (V : Valuation τ sig (Elt F)) : out_main_v53 V = R_main_v53 (held V) := by
  unfold out_main_v53 R_main_v53; rfl

theorem result_bwd (V : Valuation τ sig (Elt F)) : out_main_v55 V = R_main_v55 (held V) := by
  unfold out_main_v55 R_main_v55; rfl

theorem run (ρ : Dev nD → PrngReg) :
    θ_run (defs (F := F)) (onTc (τ := τ) (main (F := F))) ⟨m, fun _ => 0, ρ⟩ fun r => ∀ c : Dev nD,
      r.2.mem ((c.tc : Thread nD τ).loc main_v53) = R_main_v53 (state m c 64)
      ∧ r.2.mem ((c.tc : Thread nD τ).loc main_v55) = R_main_v55 (state m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have e := (iter m c 64).2
    exact ⟨(h c).1.trans ((result_fwd _).trans (congrArg _ e)), (h c).2.1.trans ((result_bwd _).trans (congrArg _ e)),
      (h c).2.2⟩) (Value.run m ρ)

end Cert.Proof.RefRun

end
-- ==== Proof.RefStep.lean ====
module

public import Idealize.ShloMosaic.Lib.Pointwise
public import Idealize.ShloMosaic.Lib.DynamicIndex
public import proofs.«01_k».proof.Proof.RefRun
public import proofs.«01_k».proof.Proof.Chain

@[expose] public section

/-!
# One trip of the reference at an index
-/

set_option maxRecDepth 16384

noncomputable section

namespace Cert.Proof.RefStep

open Idealize.ShloMosaic Idealize.ShloMosaic.TcCoe
open Cert.ReferenceIdeal Cert.ReferenceIdeal.Gen Cert.ReferenceIdeal.Step Cert.Proof.Chain

variable (j : Fin 64) (s : State Ideal)

theorem toInt_chunk (j : Fin 64) : (BitVec.ofNat 32 j.val).toInt = ((j.val : ℕ) : ℤ) := by revert j; decide

theorem slices4 (j : Fin 64) : S64x8x8x128.Slices (fun a => (![j.val, 0, 0, 0] : Fin 4 → ℕ) a) S1x8x8x128 := by
  revert j; decide
theorem slicesK (j : Fin 64) : S64x8x8x128x128.Slices (fun a => (![j.val, 0, 0, 0, 0] : Fin 5 → ℕ) a) S1x8x8x128x128 := by
  revert j; decide
theorem slicesV (j : Fin 64) : S64x8x8x128x256.Slices (fun a => (![j.val, 0, 0, 0, 0] : Fin 5 → ℕ) a) S1x8x8x128x256 := by
  revert j; decide

theorem start4 (j : Fin 64) (z : (⟨S_, .i32⟩ : BufTy).Contents (Elt Ideal)) (hz : z = constantI S_ 32 0#32) : ∀ a : Fin 4,
    ((((![(constantI S_ 32 (BitVec.ofNat 32 j.val) : (⟨S_, .i32⟩ : BufTy).Contents (Elt Ideal)), z, z, z] : Fin 4 → (⟨S_, .i32⟩ : BufTy).Contents (Elt Ideal))) a (Shape.Idx.first h_S_)).toInt)
      = (((![j.val, 0, 0, 0] : Fin 4 → ℕ) a : ℕ) : ℤ)
  | 0 => toInt_chunk j
  | 1 => by subst hz; rfl
  | 2 => by subst hz; rfl
  | 3 => by subst hz; rfl

theorem start5 (j : Fin 64) (z : (⟨S_, .i32⟩ : BufTy).Contents (Elt Ideal)) (hz : z = constantI S_ 32 0#32) : ∀ a : Fin 5,
    ((((![(constantI S_ 32 (BitVec.ofNat 32 j.val) : (⟨S_, .i32⟩ : BufTy).Contents (Elt Ideal)), z, z, z, z] : Fin 5 → (⟨S_, .i32⟩ : BufTy).Contents (Elt Ideal))) a (Shape.Idx.first h_S_)).toInt)
      = (((![j.val, 0, 0, 0, 0] : Fin 5 → ℕ) a : ℕ) : ℤ)
  | 0 => toInt_chunk j
  | 1 => by subst hz; rfl
  | 2 => by subst hz; rfl
  | 3 => by subst hz; rfl
  | 4 => by subst hz; rfl

theorem q_at (x h : Fin 8) (t d : Fin 128) : b5 j.val s (ix4 x h t d) = s.main_v46_0 (ix5 j x h t d) := by
  have e : b4 j.val s = extractStridedSlice S1x8x8x128x128 _ s.main_v46_0 (slicesK j) :=
    Host.dynamicSlice_eq_extractStridedSlice _ _ _ _ _ (slicesK j) (start5 j _ rfl)
  unfold b5; rw [e]
  pointwise []

theorem k_at (x h : Fin 8) (t d : Fin 128) : b11 j.val s (ix4 x h t d) = s.main_v46_1 (ix5 j x h t d) := by
  have e : b10 j.val s = extractStridedSlice S1x8x8x128x128 _ s.main_v46_1 (slicesK j) :=
    Host.dynamicSlice_eq_extractStridedSlice _ _ _ _ _ (slicesK j) (start5 j _ rfl)
  unfold b11; rw [e]
  pointwise []

theorem v_at (x h : Fin 8) (t : Fin 128) (d : Fin 256) : b17 j.val s (ix4 x h t d) = s.main_v46_2 (ix5 j x h t d) := by
  have e : b16 j.val s = extractStridedSlice S1x8x8x128x256 _ s.main_v46_2 (slicesV j) :=
    Host.dynamicSlice_eq_extractStridedSlice _ _ _ _ _ (slicesV j) (start5 j _ rfl)
  unfold b17; rw [e]
  pointwise []

theorem b_at (x h : Fin 8) (t : Fin 128) : b22 j.val s (ix3 x h t) = s.main_v46_3 (ix4 j x h t) := by
  have e : b21 j.val s = extractStridedSlice S1x8x8x128 _ s.main_v46_3 (slices4 j) :=
    Host.dynamicSlice_eq_extractStridedSlice _ _ _ _ _ (slices4 j) (start4 j _ rfl)
  unfold b22; rw [e]
  pointwise []

theorem a_at (x h : Fin 8) (t : Fin 128) : b27 j.val s (ix3 x h t) = s.main_v46_4 (ix4 j x h t) := by
  have e : b26 j.val s = extractStridedSlice S1x8x8x128 _ s.main_v46_4 (slices4 j) :=
    Host.dynamicSlice_eq_extractStridedSlice _ _ _ _ _ (slices4 j) (start4 j _ rfl)
  unfold b27; rw [e]
  pointwise []

theorem w_at (x h : Fin 8) (t : Fin 128) : b32 j.val s (ix3 x h t) = s.main_v46_5 (ix4 j x h t) := by
  have e : b31 j.val s = extractStridedSlice S1x8x8x128 _ s.main_v46_5 (slices4 j) :=
    Host.dynamicSlice_eq_extractStridedSlice _ _ _ _ _ (slices4 j) (start4 j _ rfl)
  unfold b32; rw [e]
  pointwise []

/-! ## What a chain's chunk reads -/

variable (x h : Fin 8)

def aR (t : Fin 128) : EReal := s.main_v46_4 (ix4 j x h t)
def bR (t : Fin 128) : EReal := s.main_v46_3 (ix4 j x h t)
def wR (t : Fin 128) : EReal := s.main_v46_5 (ix4 j x h t)
def qR (t d : Fin 128) : EReal := s.main_v46_0 (ix5 j x h t d)
def kR (t d : Fin 128) : EReal := s.main_v46_1 (ix5 j x h t d)
def vR (t : Fin 128) (d : Fin 256) : EReal := s.main_v46_2 (ix5 j x h t d)
def mR : EReal := s.main_v46_10 (ix2 x h)
def CR (j : Fin 256) (d : Fin 128) : EReal := s.main_v46_8 (ix4 x h j d)
def NR (d : Fin 128) : EReal := s.main_v46_9 (ix3 x h d)

theorem b47_at (t : Fin 128) : b47 j.val s (ix3 x h t) = rMt (aR j s x h) (bR j s x h) (mR s x h) t := by
  have e : b47 j.val s (ix3 x h t) = max (b22 j.val s (ix3 x h t) + s.main_v46_10 (ix2 x h)) (b22 j.val s (ix3 x h t) + b27 j.val s (ix3 x h t)) := by
    pointwise [b47, b46, b45, b44, b43]
  rw [e, b_at, a_at]
  rfl

theorem tri_at (t u : Fin 128) : K_main_v29 (F := Ideal) (ix2 t u) = if u.val ≤ t.val then 1#1 else 0#1 := by
  have e : ∀ t u : Fin 128, IntOp.cmpi .sle (BitVec.ofNat 32 u.val) (BitVec.ofNat 32 t.val) = if u.val ≤ t.val then 1#1 else 0#1 := by
    decide +kernel
  rw [← e]
  pointwise [K_main_v29, K_main_v28, K_main_v27]

theorem b42_at (t u : Fin 128) : b42 j.val s (ix4 x h t u) = if u.val ≤ t.val then bR j s x h t + wR j s x h u else ⊥ := by
  have e : b42 j.val s (ix4 x h t u) = Scalar.select (K_main_v29 (F := Ideal) (ix2 t u)) (b22 j.val s (ix3 x h t) + b32 j.val s (ix3 x h u)) ⊥ := by
    have eb : Ideal.ofBits .f32 0xFF800000#32 = ⊥ := by simp [Ideal.ofBits, Ideal.ieee]
    rw [← eb]
    pointwise [b42, b41, b40, b39, b38, b37, b36, b35, b34, b33]
  rw [e, tri_at, b_at, w_at]
  by_cases hh : u.val ≤ t.val
  · rw [if_pos hh, if_pos hh]; rfl
  · rw [if_neg hh, if_neg hh]; rfl

theorem b55_at (t u : Fin 128) : b55 j.val s (ix4 x h t u)
    = rS (aR j s x h) (bR j s x h) (mR s x h) (wR j s x h) (qR j s x h) (kR j s x h) t u := by
  have e : b55 j.val s (ix4 x h t u) = (∑ d : Fin 128, b5 j.val s (ix4 x h t d) * b11 j.val s (ix4 x h u d))
      * Ideal.exp (b42 j.val s (ix4 x h t u) - b47 j.val s (ix3 x h t)) := by
    pointwise [b55, b54, b53, b52, b51, b50]
  rw [e, b42_at, b47_at]
  simp only [q_at, k_at]
  rfl

theorem b49_at (t : Fin 128) : b49 j.val s (ix3 x h t)
    = Ideal.exp (bR j s x h t + mR s x h - rMt (aR j s x h) (bR j s x h) (mR s x h) t) := by
  have e : b49 j.val s (ix3 x h t) = Ideal.exp (b22 j.val s (ix3 x h t) + s.main_v46_10 (ix2 x h) - b47 j.val s (ix3 x h t)) := by
    pointwise [b49, b48, b45, b44, b43]
  rw [e, b47_at, b_at]
  rfl

theorem b61_at (t : Fin 128) (i : Fin 256) : b61 j.val s (ix4 x h t i)
    = rNum (aR j s x h) (bR j s x h) (mR s x h) (wR j s x h) (qR j s x h) (kR j s x h) (vR j s x h) (CR s x h) t i := by
  have e : b61 j.val s (ix4 x h t i) = b49 j.val s (ix3 x h t) * (∑ d : Fin 128, b5 j.val s (ix4 x h t d) * s.main_v46_8 (ix4 x h i d))
      + ∑ u : Fin 128, b55 j.val s (ix4 x h t u) * b17 j.val s (ix4 x h u i) := by
    pointwise [b61, b60, b59, b58, b57, b56]
  rw [e, b49_at]
  simp only [q_at, v_at, b55_at]
  rfl

theorem b66_at (t : Fin 128) : b66 j.val s (ix3 x h t)
    = rNq (aR j s x h) (bR j s x h) (mR s x h) (wR j s x h) (qR j s x h) (kR j s x h) (NR s x h) t := by
  have e : b66 j.val s (ix3 x h t) = b49 j.val s (ix3 x h t) * (∑ d : Fin 128, s.main_v46_9 (ix3 x h d) * b5 j.val s (ix4 x h t d))
      + ∑ u : Fin 128, b55 j.val s (ix4 x h t u) := by
    pointwise [b66, b65, b64, b63, b62]
  rw [e, b49_at]
  simp only [q_at, b55_at]
  rfl

theorem b73_at (t : Fin 128) (i : Fin 256) : b73 j.val s (ix4 x h t i)
    = rOut (aR j s x h) (bR j s x h) (mR s x h) (wR j s x h) (qR j s x h) (kR j s x h) (vR j s x h) (CR s x h) (NR s x h) t i := by
  have e : b73 j.val s (ix4 x h t i) = Ideal.div (b61 j.val s (ix4 x h t i))
      (max (FloatOps.absf (F := Ideal) (φ := .f32) (b66 j.val s (ix3 x h t))) (Ideal.exp (-b47 j.val s (ix3 x h t)))) := by
    pointwise [b73, b72, b71, b70, b69, b68, b67]
  rw [e, b61_at, b66_at, b47_at]
  rfl

theorem b83_at : b83 j.val s (ix2 x h) = rM' (aR j s x h) (bR j s x h) (mR s x h) := by
  have e : b83 j.val s (ix2 x h) = max (b22 j.val s (ix3 x h 127) + s.main_v46_10 (ix2 x h)) (b22 j.val s (ix3 x h 127) + b27 j.val s (ix3 x h 127)) := by
    pointwise [b83, b82, b81, b80, b79, b75, b74]
  rw [e, b_at, a_at]
  rfl

theorem b86_at : b86 j.val s (ix2 x h) = Ideal.exp (bR j s x h 127 + mR s x h - rM' (aR j s x h) (bR j s x h) (mR s x h)) := by
  have e : b86 j.val s (ix2 x h) = Ideal.exp (b22 j.val s (ix3 x h 127) + s.main_v46_10 (ix2 x h) - b83 j.val s (ix2 x h)) := by
    pointwise [b86, b85, b84, b79, b75, b74]
  rw [e, b83_at, b_at]
  rfl

theorem b90_at (t : Fin 128) : b90 j.val s (ix3 x h t) = rWs (aR j s x h) (bR j s x h) (mR s x h) (wR j s x h) t := by
  have e : b90 j.val s (ix3 x h t) = Ideal.exp (b22 j.val s (ix3 x h 127) + b32 j.val s (ix3 x h t) - b83 j.val s (ix2 x h)) := by
    pointwise [b90, b89, b88, b87, b78, b77, b76, b75, b74]
  rw [e, b83_at, b_at, w_at]
  rfl

theorem b98_at (i : Fin 256) (d : Fin 128) : b98 j.val s (ix4 x h i d)
    = rC' (aR j s x h) (bR j s x h) (mR s x h) (wR j s x h) (kR j s x h) (vR j s x h) (CR s x h) i d := by
  have e : b98 j.val s (ix4 x h i d) = b86 j.val s (ix2 x h) * s.main_v46_8 (ix4 x h i d)
      + ∑ u : Fin 128, b90 j.val s (ix3 x h u) * b17 j.val s (ix4 x h u i) * b11 j.val s (ix4 x h u d) := by
    pointwise [b98, b97, b96, b95, b94, b93, b92, b91]
  rw [e, b86_at]
  simp only [k_at, v_at, b90_at]
  rfl

theorem b103_at (d : Fin 128) : b103 j.val s (ix3 x h d)
    = rN' (aR j s x h) (bR j s x h) (mR s x h) (wR j s x h) (kR j s x h) (NR s x h) d := by
  have e : b103 j.val s (ix3 x h d) = b86 j.val s (ix2 x h) * s.main_v46_9 (ix3 x h d)
      + ∑ u : Fin 128, b90 j.val s (ix3 x h u) * b11 j.val s (ix4 x h u d) := by
    pointwise [b103, b102, b101, b100, b99]
  rw [e, b86_at]
  simp only [k_at, b90_at]
  rfl

/-- The hidden rows a trip stores: its own chunk's are its, the others stay. -/
theorem b109_at (n : Fin 64) (t : Fin 128) (i : Fin 256) : b109 j.val s (ix5 n x h t i)
    = if n = j then b73 j.val s (ix4 x h t i) else s.main_v46_11 (ix5 n x h t i) := by
  have hf : S64x8x8x128x256.Slices (fun a => (![j.val, 0, 0, 0, 0] : Fin 5 → ℕ) a) S1x8x8x128x256 := slicesV j
  have e : b109 j.val s = updateSlice s.main_v46_11 (b104 j.val s) _ hf :=
    Host.dynamicUpdateSlice_eq_updateSlice _ _ _ _ _ (fun a => by
      have h1 := hf.2 a
      beta_reduce at h1
      have h2 := start5 j _ rfl a
      unfold b105 b106 b107 b108
      rw [h2]
      omega) hf
  rw [e]
  unfold updateSlice
  by_cases hn : n = j
  · subst hn
    rw [if_pos rfl, dif_pos (fun a => by
      match a with
      | 0 => exact ⟨le_refl _, Nat.lt_succ_self _⟩
      | 1 => exact ⟨Nat.zero_le _, by show x.val < 0 + 8; omega⟩
      | 2 => exact ⟨Nat.zero_le _, by show h.val < 0 + 8; omega⟩
      | 3 => exact ⟨Nat.zero_le _, by show t.val < 0 + 128; omega⟩
      | 4 => exact ⟨Nat.zero_le _, by show i.val < 0 + 256; omega⟩)]
    have e2 : b104 n.val s (ix5 0 x h t i) = b73 n.val s (ix4 x h t i) := by pointwise [b104]
    rw [← e2]
    refine congrArg _ (funext fun a => ?_)
    match a with
    | 0 => exact Fin.ext (by show n.val - n.val = 0; omega)
    | 1 => rfl
    | 2 => rfl
    | 3 => rfl
    | 4 => rfl
  · rw [if_neg hn, dif_neg]
    intro hin
    have h0 : j.val ≤ n.val ∧ n.val < j.val + 1 := hin 0
    exact hn (Fin.ext (by omega))

end Cert.Proof.RefStep

end
-- ==== Proof.RefInit.lean ====
module

public import Idealize.ShloMosaic.Lib.Pointwise
public import proofs.«01_k».proof.Proof.RefRun

@[expose] public section

/-!
# The reference's chunked inputs and results at an index

Copy `x` of the doubled batch is batch `x` read forwards below four, and batch `x - 4` read backwards
from four on; row `t` of chunk `j` is row `128 j + t`.
-/

set_option maxRecDepth 16384

noncomputable section

namespace Cert.Proof.RefInit

open Idealize.ShloMosaic Idealize.ShloMosaic.TcCoe
open Cert.ReferenceIdeal Cert.ReferenceIdeal.Gen Cert.ReferenceIdeal.Step

/-- Row `t` of chunk `j`. -/
def at_ (j : Fin 64) (t : Fin 128) : Fin 8192 := ⟨j.val * 128 + t.val, by omega⟩

theorem at_rev (j : Fin 64) (t : Fin 128) : (at_ j t).rev = at_ j.rev t.rev := by
  apply Fin.ext; simp only [at_, Fin.val_rev]; omega

theorem chunk128 (X : FVec Ideal S8x8192x8x128 .f32) (j : Fin 64) (x h : Fin 8) (t d : Fin 128) :
    transpose S64x8x8x128x128 [1, 0, 3, 2, 4] (shapeCast S8x64x128x8x128 X shapeCasts_S8x8192x8x128_S8x64x128x8x128)
      transposes_S8x64x128x8x128_S64x8x8x128x128_1_0_3_2_4 (ix5 j x h t d) = X (ix4 x (at_ j t) h d) := by
  pointwise []
  rfl

theorem chunk256 (X : FVec Ideal S8x8192x8x256 .f32) (j : Fin 64) (x h : Fin 8) (t : Fin 128) (d : Fin 256) :
    transpose S64x8x8x128x256 [1, 0, 3, 2, 4] (shapeCast S8x64x128x8x256 X shapeCasts_S8x8192x8x256_S8x64x128x8x256)
      transposes_S8x64x128x8x256_S64x8x8x128x256_1_0_3_2_4 (ix5 j x h t d) = X (ix4 x (at_ j t) h d) := by
  pointwise []
  rfl

theorem chunk1 (X : FVec Ideal S8x8192x8 .f32) (j : Fin 64) (x h : Fin 8) (t : Fin 128) :
    transpose S64x8x8x128 [1, 0, 3, 2] (shapeCast S8x64x128x8 X shapeCasts_S8x8192x8_S8x64x128x8)
      transposes_S8x64x128x8_S64x8x8x128_1_0_3_2 (ix4 j x h t) = X (ix3 x (at_ j t) h) := by
  pointwise []
  rfl

variable (bt : Fin 4) (r : Fin 8192) (h : Fin 8)

/-- The forward copy of a batch. -/
def fw (bt : Fin 4) : Fin 8 := ⟨bt.val, by omega⟩
/-- The backward copy of a batch. -/
def bw (bt : Fin 4) : Fin 8 := ⟨4 + bt.val, by omega⟩

theorem both128_fw (X Y : FVec Ideal S4x8192x8x128 .f32) (d : Fin 128) :
    concatenate S8x8192x8x128 0 [⟨S4x8192x8x128, X⟩, ⟨S4x8192x8x128, Host.reverse [1] Y⟩]
      concatenates_S4x8192x8x128_S4x8192x8x128_S8x8192x8x128_d0 (ix4 (fw bt) r h d) = X (ix4 bt r h d) := by
  pointwise []
  simp [fw]
theorem both128_bw (X Y : FVec Ideal S4x8192x8x128 .f32) (d : Fin 128) :
    concatenate S8x8192x8x128 0 [⟨S4x8192x8x128, X⟩, ⟨S4x8192x8x128, Host.reverse [1] Y⟩]
      concatenates_S4x8192x8x128_S4x8192x8x128_S8x8192x8x128_d0 (ix4 (bw bt) r h d) = Y (ix4 bt r.rev h d) := by
  pointwise []
  simp [bw]
theorem both256_fw (X Y : FVec Ideal S4x8192x8x256 .f32) (d : Fin 256) :
    concatenate S8x8192x8x256 0 [⟨S4x8192x8x256, X⟩, ⟨S4x8192x8x256, Host.reverse [1] Y⟩]
      concatenates_S4x8192x8x256_S4x8192x8x256_S8x8192x8x256_d0 (ix4 (fw bt) r h d) = X (ix4 bt r h d) := by
  pointwise []
  simp [fw]
theorem both256_bw (X Y : FVec Ideal S4x8192x8x256 .f32) (d : Fin 256) :
    concatenate S8x8192x8x256 0 [⟨S4x8192x8x256, X⟩, ⟨S4x8192x8x256, Host.reverse [1] Y⟩]
      concatenates_S4x8192x8x256_S4x8192x8x256_S8x8192x8x256_d0 (ix4 (bw bt) r h d) = Y (ix4 bt r.rev h d) := by
  pointwise []
  simp [bw]
theorem both1_fw (X Y : FVec Ideal S4x8192x8 .f32) :
    concatenate S8x8192x8 0 [⟨S4x8192x8, X⟩, ⟨S4x8192x8, Host.reverse [1] Y⟩]
      concatenates_S4x8192x8_S4x8192x8_S8x8192x8_d0 (ix3 (fw bt) r h) = X (ix3 bt r h) := by
  pointwise []
  simp [fw]
theorem both1_bw (X Y : FVec Ideal S4x8192x8 .f32) :
    concatenate S8x8192x8 0 [⟨S4x8192x8, X⟩, ⟨S4x8192x8, Host.reverse [1] Y⟩]
      concatenates_S4x8192x8_S4x8192x8_S8x8192x8_d0 (ix3 (bw bt) r h) = Y (ix3 bt r.rev h) := by
  pointwise []
  simp [bw]

/-! ## The chunked inputs -/

variable (a0 : Vec Ideal S4x8192x1024 .bf16) (a1 : Vec Ideal S4x64x1024x128 .bf16) (a2 : Vec Ideal S4x8192x11264 .bf16)
  (a3 : Vec Ideal S4x8192x128 .f32) (a4 : Vec Ideal S4x16x8192 .f32) (j : Fin 64) (t : Fin 128)

theorem v1_at (d : Fin 128) : A_main_v1 (F := Ideal) a0 a1 a2 a3 a4 (ix4 bt r h d) = a0 (ix3 bt r ⟨h.val * 128 + d.val, by omega⟩) := by
  pointwise [A_main_v1, A_main_v0]
theorem v4_at (d : Fin 128) : A_main_v4 (F := Ideal) a0 a1 a2 a3 a4 (ix4 bt (at_ j t) h d)
    = a1 (ix4 bt j ⟨h.val * 128 + d.val, by omega⟩ t) := by
  have e1 : (⟨(at_ j t).val / 128, by omega⟩ : Fin 64) = j := Fin.ext (by simp only [at_]; omega)
  have e2 : (⟨(at_ j t).val % 128, by omega⟩ : Fin 128) = t := Fin.ext (by simp only [at_]; omega)
  have e : ∀ r : Fin 8192, A_main_v4 (F := Ideal) a0 a1 a2 a3 a4 (ix4 bt r h d)
      = a1 (ix4 bt (⟨r.val / 128, by omega⟩ : Fin 64) ⟨h.val * 128 + d.val, by omega⟩ (⟨r.val % 128, by omega⟩ : Fin 128)) := by
    intro r
    pointwise [A_main_v4, A_main_v3, A_main_v2]
  rw [e, e1, e2]
theorem v7_at (d : Fin 256) : A_main_v7 (F := Ideal) a0 a1 a2 a3 a4 (ix4 bt r h d)
    = a2 (ix3 bt r ⟨2048 + (h.val * 256 + d.val), by omega⟩) := by
  pointwise [A_main_v7, A_main_v6, A_main_v5]
theorem v8_at : A_main_v8 (F := Ideal) a0 a1 a2 a3 a4 (ix3 bt r h) = a3 (ix3 bt r ⟨h.val, by omega⟩) := by
  pointwise [A_main_v8]
theorem v9_at : A_main_v9 (F := Ideal) a0 a1 a2 a3 a4 (ix3 bt r h) = a3 (ix3 bt r ⟨8 + h.val, by omega⟩) := by
  pointwise [A_main_v9]
theorem v10_at : A_main_v10 (F := Ideal) a0 a1 a2 a3 a4 (ix3 bt r h) = a3 (ix3 bt r ⟨16 + h.val, by omega⟩) := by
  pointwise [A_main_v10]
theorem v11_at : A_main_v11 (F := Ideal) a0 a1 a2 a3 a4 (ix3 bt r h) = a3 (ix3 bt r ⟨24 + h.val, by omega⟩) := by
  pointwise [A_main_v11]
theorem v13_at : A_main_v13 (F := Ideal) a0 a1 a2 a3 a4 (ix3 bt r h) = a4 (ix3 bt ⟨h.val, by omega⟩ r) := by
  pointwise [A_main_v13, A_main_v12]
theorem v14_at : A_main_v14 (F := Ideal) a0 a1 a2 a3 a4 (ix3 bt r h) = a4 (ix3 bt ⟨8 + h.val, by omega⟩ r) := by
  pointwise [A_main_v14, A_main_v12]

theorem q_fw (d : Fin 128) : A_main_v34 (F := Ideal) a0 a1 a2 a3 a4 (ix5 j (fw bt) h t d)
    = a0 (ix3 bt (at_ j t) ⟨h.val * 128 + d.val, by omega⟩) :=
  (chunk128 _ _ _ _ _ _).trans <| (both128_fw _ _ _ _ _ _).trans <| by
    exact v1_at _ _ _ _ _ _ _ _ _
theorem q_bw (d : Fin 128) : A_main_v34 (F := Ideal) a0 a1 a2 a3 a4 (ix5 j (bw bt) h t d)
    = a0 (ix3 bt (at_ j.rev t.rev) ⟨h.val * 128 + d.val, by omega⟩) :=
  (chunk128 _ _ _ _ _ _).trans <| (both128_bw _ _ _ _ _ _).trans <| by
    rw [at_rev]; exact v1_at _ _ _ _ _ _ _ _ _
theorem k_fw (d : Fin 128) : A_main_v36 (F := Ideal) a0 a1 a2 a3 a4 (ix5 j (fw bt) h t d)
    = a1 (ix4 bt j ⟨h.val * 128 + d.val, by omega⟩ t) :=
  (chunk128 _ _ _ _ _ _).trans <| (both128_fw _ _ _ _ _ _).trans <| by
    exact v4_at _ _ _ _ _ _ _ _ _ _
theorem k_bw (d : Fin 128) : A_main_v36 (F := Ideal) a0 a1 a2 a3 a4 (ix5 j (bw bt) h t d)
    = a1 (ix4 bt j.rev ⟨h.val * 128 + d.val, by omega⟩ t.rev) :=
  (chunk128 _ _ _ _ _ _).trans <| (both128_bw _ _ _ _ _ _).trans <| by
    rw [at_rev]; exact v4_at _ _ _ _ _ _ _ _ _ _
theorem v_fw (d : Fin 256) : A_main_v38 (F := Ideal) a0 a1 a2 a3 a4 (ix5 j (fw bt) h t d)
    = a2 (ix3 bt (at_ j t) ⟨2048 + (h.val * 256 + d.val), by omega⟩) :=
  (chunk256 _ _ _ _ _ _).trans <| (both256_fw _ _ _ _ _ _).trans <| by
    exact v7_at _ _ _ _ _ _ _ _ _
theorem v_bw (d : Fin 256) : A_main_v38 (F := Ideal) a0 a1 a2 a3 a4 (ix5 j (bw bt) h t d)
    = a2 (ix3 bt (at_ j.rev t.rev) ⟨2048 + (h.val * 256 + d.val), by omega⟩) :=
  (chunk256 _ _ _ _ _ _).trans <| (both256_bw _ _ _ _ _ _).trans <| by
    rw [at_rev]; exact v7_at _ _ _ _ _ _ _ _ _
theorem b_fw : A_main_v40 (F := Ideal) a0 a1 a2 a3 a4 (ix4 j (fw bt) h t)
    = a3 (ix3 bt (at_ j t) ⟨h.val, by omega⟩) :=
  (chunk1 _ _ _ _ _).trans <| (both1_fw _ _ _ _ _).trans <| by
    exact v8_at _ _ _ _ _ _ _ _
theorem b_bw : A_main_v40 (F := Ideal) a0 a1 a2 a3 a4 (ix4 j (bw bt) h t)
    = a3 (ix3 bt (at_ j.rev t.rev) ⟨16 + h.val, by omega⟩) :=
  (chunk1 _ _ _ _ _).trans <| (both1_bw _ _ _ _ _).trans <| by
    rw [at_rev]; exact v10_at _ _ _ _ _ _ _ _
theorem a_fw : A_main_v42 (F := Ideal) a0 a1 a2 a3 a4 (ix4 j (fw bt) h t)
    = a3 (ix3 bt (at_ j t) ⟨8 + h.val, by omega⟩) :=
  (chunk1 _ _ _ _ _).trans <| (both1_fw _ _ _ _ _).trans <| by
    exact v9_at _ _ _ _ _ _ _ _
theorem a_bw : A_main_v42 (F := Ideal) a0 a1 a2 a3 a4 (ix4 j (bw bt) h t)
    = a3 (ix3 bt (at_ j.rev t.rev) ⟨24 + h.val, by omega⟩) :=
  (chunk1 _ _ _ _ _).trans <| (both1_bw _ _ _ _ _).trans <| by
    rw [at_rev]; exact v11_at _ _ _ _ _ _ _ _
theorem w_fw : A_main_v44 (F := Ideal) a0 a1 a2 a3 a4 (ix4 j (fw bt) h t)
    = a4 (ix3 bt ⟨h.val, by omega⟩ (at_ j t)) :=
  (chunk1 _ _ _ _ _).trans <| (both1_fw _ _ _ _ _).trans <| by
    exact v13_at _ _ _ _ _ _ _ _
theorem w_bw : A_main_v44 (F := Ideal) a0 a1 a2 a3 a4 (ix4 j (bw bt) h t)
    = a4 (ix3 bt ⟨8 + h.val, by omega⟩ (at_ j.rev t.rev)) :=
  (chunk1 _ _ _ _ _).trans <| (both1_bw _ _ _ _ _).trans <| by
    rw [at_rev]; exact v14_at _ _ _ _ _ _ _ _

/-! ## The results -/

theorem res_fw (s : State Ideal) (d : Fin 256) : R_main_v53 s (ix3 bt (at_ j t) ⟨h.val * 256 + d.val, by omega⟩)
    = s.main_v46_11 (ix5 j (fw bt) h t d) := by
  have e : ∀ (r : Fin 8192) (l : Fin 2048), R_main_v53 s (ix3 bt r l)
      = s.main_v46_11 (ix5 (⟨r.val / 128, by omega⟩ : Fin 64) (fw bt) (⟨l.val / 256, by omega⟩ : Fin 8)
          (⟨r.val % 128, by omega⟩ : Fin 128) (⟨l.val % 256, by omega⟩ : Fin 256)) := by
    intro r l
    pointwise [R_main_v53]
    rfl
  rw [e]
  congr 2 <;> apply Fin.ext <;> simp only [at_] <;> omega

theorem res_bw (s : State Ideal) (d : Fin 256) : R_main_v55 s (ix3 bt (at_ j.rev t.rev) ⟨h.val * 256 + d.val, by omega⟩)
    = s.main_v46_11 (ix5 j (bw bt) h t d) := by
  have e : ∀ (r : Fin 8192) (l : Fin 2048), R_main_v55 s (ix3 bt r l)
      = s.main_v46_11 (ix5 (⟨r.rev.val / 128, by omega⟩ : Fin 64) (bw bt) (⟨l.val / 256, by omega⟩ : Fin 8)
          (⟨r.rev.val % 128, by omega⟩ : Fin 128) (⟨l.val % 256, by omega⟩ : Fin 256)) := by
    intro r l
    pointwise [R_main_v55]
    rfl
  rw [e]
  congr 2 <;> apply Fin.ext <;> simp only [at_, Fin.val_rev] <;> omega

end Cert.Proof.RefInit

end
-- ==== Proof.RefSeq.lean ====
/-
  The reference's states over arguments: the chunked inputs stay, and each trip leaves its own chunk of the hidden states.
-/
module
public import proofs.«01_k».proof.Proof.RefStep
public import proofs.«01_k».proof.Proof.RefInit

@[expose] public section

set_option maxRecDepth 16384

noncomputable section

namespace Cert.Proof.RefSeq

open Idealize.ShloMosaic Idealize.ShloMosaic.TcCoe
open Cert.ReferenceIdeal Cert.ReferenceIdeal.Gen Cert.ReferenceIdeal.Step Cert.Proof.RefStep Cert.Proof.RefInit Cert.Proof.Chain

variable (a0 : Vec Ideal S4x8192x1024 .bf16) (a1 : Vec Ideal S4x64x1024x128 .bf16) (a2 : Vec Ideal S4x8192x11264 .bf16)
  (a3 : Vec Ideal S4x8192x128 .f32) (a4 : Vec Ideal S4x16x8192 .f32)

/-- The state before chunk `n`. -/
def seq : ℕ → State Ideal
  | 0 => init a0 a1 a2 a3 a4
  | n + 1 => step n (seq n)

theorem kept (n : ℕ) : (seq a0 a1 a2 a3 a4 n).main_v46_0 = A_main_v34 a0 a1 a2 a3 a4 ∧ (seq a0 a1 a2 a3 a4 n).main_v46_1 = A_main_v36 a0 a1 a2 a3 a4
    ∧ (seq a0 a1 a2 a3 a4 n).main_v46_2 = A_main_v38 a0 a1 a2 a3 a4 ∧ (seq a0 a1 a2 a3 a4 n).main_v46_3 = A_main_v40 a0 a1 a2 a3 a4
    ∧ (seq a0 a1 a2 a3 a4 n).main_v46_4 = A_main_v42 a0 a1 a2 a3 a4 ∧ (seq a0 a1 a2 a3 a4 n).main_v46_5 = A_main_v44 a0 a1 a2 a3 a4 := by
  induction n with
  | zero => exact ⟨rfl, rfl, rfl, rfl, rfl, rfl⟩
  | succ n ih => exact ih

variable (x h : Fin 8)

theorem hidden_kept (j : Fin 64) (n : ℕ) (hn : n ≤ 64) (hj : j.val < n) (t : Fin 128) (i : Fin 256) :
    (seq a0 a1 a2 a3 a4 n).main_v46_11 (ix5 j x h t i) = b73 j.val (seq a0 a1 a2 a3 a4 j.val) (ix4 x h t i) := by
  induction n with
  | zero => exact absurd hj (Nat.not_lt_zero _)
  | succ n ih =>
    have e : (seq a0 a1 a2 a3 a4 (n + 1)).main_v46_11 = b109 n (seq a0 a1 a2 a3 a4 n) := step_main_v46_11 _ _
    rw [e]
    refine (b109_at (⟨n, by omega⟩ : Fin 64) _ x h j t i).trans ?_
    by_cases hc : j = (⟨n, by omega⟩ : Fin 64)
    · have hv : j.val = n := congrArg Fin.val hc
      rw [if_pos hc]; subst hv; rfl
    · rw [if_neg hc]
      have hc' : j.val ≠ n := fun h => hc (Fin.ext h)
      exact ih (by omega) (by omega)

theorem m_next (j : Fin 64) : mR (seq a0 a1 a2 a3 a4 (j.val + 1)) x h
    = rM' (aR j (seq a0 a1 a2 a3 a4 j.val) x h) (bR j (seq a0 a1 a2 a3 a4 j.val) x h) (mR (seq a0 a1 a2 a3 a4 j.val) x h) :=
  (congrFun (step_main_v46_10 _ _) _).trans (b83_at j _ x h)

theorem C_next (j : Fin 64) : CR (seq a0 a1 a2 a3 a4 (j.val + 1)) x h
    = rC' (aR j (seq a0 a1 a2 a3 a4 j.val) x h) (bR j (seq a0 a1 a2 a3 a4 j.val) x h) (mR (seq a0 a1 a2 a3 a4 j.val) x h)
      (wR j (seq a0 a1 a2 a3 a4 j.val) x h) (kR j (seq a0 a1 a2 a3 a4 j.val) x h) (vR j (seq a0 a1 a2 a3 a4 j.val) x h)
      (CR (seq a0 a1 a2 a3 a4 j.val) x h) :=
  funext fun i => funext fun d => (congrFun (step_main_v46_8 _ _) _).trans (b98_at j _ x h i d)

theorem N_next (j : Fin 64) : NR (seq a0 a1 a2 a3 a4 (j.val + 1)) x h
    = rN' (aR j (seq a0 a1 a2 a3 a4 j.val) x h) (bR j (seq a0 a1 a2 a3 a4 j.val) x h) (mR (seq a0 a1 a2 a3 a4 j.val) x h)
      (wR j (seq a0 a1 a2 a3 a4 j.val) x h) (kR j (seq a0 a1 a2 a3 a4 j.val) x h)
      (NR (seq a0 a1 a2 a3 a4 j.val) x h) :=
  funext fun d => (congrFun (step_main_v46_9 _ _) _).trans (b103_at j _ x h d)

theorem m_init : mR (seq a0 a1 a2 a3 a4 0) x h = 0 := by
  show K_main_v32 (F := Ideal) (ix2 x h) = 0
  pointwise [K_main_v32, K_main_cst_1]

theorem C_init : CR (seq a0 a1 a2 a3 a4 0) x h = fun _ _ => 0 := by
  funext i d
  show K_main_v30 (F := Ideal) (ix4 x h i d) = 0
  pointwise [K_main_v30, K_main_cst]

theorem N_init : NR (seq a0 a1 a2 a3 a4 0) x h = fun _ => 0 := by
  funext d
  show K_main_v31 (F := Ideal) (ix3 x h d) = 0
  pointwise [K_main_v31, K_main_cst_0]

theorem state_eq (m : (ℓ : Loc nD τ sig) → Buf (Elt Ideal) ℓ) (c : Dev nD) (n : ℕ) :
    RefRun.state m c n = seq (m ((c : Thread nD τ).loc main_arg0)) (m ((c : Thread nD τ).loc main_arg1))
      (m ((c : Thread nD τ).loc main_arg2)) (m ((c : Thread nD τ).loc main_arg3)) (m ((c : Thread nD τ).loc main_arg4)) n := by
  induction n with
  | zero => rfl
  | succ n ih => exact congrArg (step n) ih

end Cert.Proof.RefSeq
-- ==== Proof.Batch.lean ====
/-
  Down a batch's grid points the kernel's scratches hold the reference's memory, normaliser and stabiliser, and each
  point writes the reference's chunk of hidden states, the backward heads in the reversed order.
-/
module
public import proofs.«01_k».proof.Proof.Point
public import proofs.«01_k».proof.Proof.Inputs
public import proofs.«01_k».proof.Proof.RefSeq

@[expose] public section

set_option maxRecDepth 16384
set_option maxHeartbeats 4000000

noncomputable section

namespace Cert.Proof.Batch

open Idealize.ShloMosaic Idealize.ShloMosaic.TcCoe
open Cert.KernelIdeal Cert.KernelIdeal.Gen Cert.Proof.Units Cert.Proof.Chain Cert.Proof.Point Cert.Proof.Inputs
open Cert.Proof.RefInit Cert.Proof.RefStep Cert.Proof.RefSeq

/-- The order in which a chain takes the rows of a chunk. -/
def ord (ch : Fin 16) : Equiv.Perm (Fin 128) := bif bwd ch then Fin.revPerm else Equiv.refl _

/-- The reference's copy of the batch that a chain works on. -/
def copy (bt : Fin 4) (ch : Fin 16) : Fin 8 := bif bwd ch then bw bt else fw bt

theorem upTo_ord (ch : Fin 16) (t s : Fin 128) : upTo ch (ord ch t) (ord ch s) = decide (s.val ≤ t.val) := by
  unfold upTo ord
  cases bwd ch
  · rfl
  · simp only [cond_true, Fin.revPerm_apply, Fin.le_def, Fin.val_rev]
    congr 1
    apply propext
    omega

theorem lastOf_ord (ch : Fin 16) : ord ch 127 = lastOf ch := by revert ch; decide

variable (m : (ℓ : Loc nD τ sig) → Buf (Elt Ideal) ℓ) (c : Dev nD)

/-- The reference's states over the kernel's arguments. -/
abbrev rs (n : ℕ) := seq (m ((c : Thread nD τ).loc main_arg0)) (m ((c : Thread nD τ).loc main_arg1))
      (m ((c : Thread nD τ).loc main_arg2)) (m ((c : Thread nD τ).loc main_arg3)) (m ((c : Thread nD τ).loc main_arg4)) n

theorem bwd_cases (ch : Fin 16) : (bwd ch = false ∧ ch.val < 8) ∨ (bwd ch = true ∧ 8 ≤ ch.val) := by revert ch; decide

section Link
variable (t : Fin cfg0.N) (bt : Fin 4) (j : Fin 64) (ht : t.val = 64 * bt.val + j.val) (ch : Fin 16)
include ht

theorem link_a (r : Fin 128) : blkA (iblk m c 6 t) (iblk m c 7 t) ch (ord ch r) = aR j (rs m c j.val) (copy bt ch) (hd ch) r := by
  unfold blkA aR copy ord
  rw [(kept _ _ _ _ _ _).2.2.2.2.1]
  rcases bwd_cases ch with ⟨hb, hl⟩ | ⟨hb, hl⟩ <;> simp only [hb, cond_true, cond_false]
  · rw [a_fw]
    refine (b6 m c t bt j ht _ _).trans (congrArg _ ?_)
    congr 1
    exact Fin.ext (by show ch.val / 8 * 16 + ch.val % 8 + 8 = 8 + ch.val % 8; omega)
  · rw [a_bw]
    refine (b7 m c t bt j ht _ _).trans (congrArg _ ?_)
    congr 1
    · exact Fin.ext (by show (63 - j.val) * 128 + (Fin.rev r).val = (Fin.rev j).val * 128 + (Fin.rev r).val; simp only [Fin.val_rev]; omega)
    · exact Fin.ext (by show ch.val / 8 * 16 + ch.val % 8 + 8 = 24 + ch.val % 8; omega)

theorem link_b (r : Fin 128) : blkB (iblk m c 6 t) (iblk m c 7 t) ch (ord ch r) = bR j (rs m c j.val) (copy bt ch) (hd ch) r := by
  unfold blkB bR copy ord
  rw [(kept _ _ _ _ _ _).2.2.2.1]
  rcases bwd_cases ch with ⟨hb, hl⟩ | ⟨hb, hl⟩ <;> simp only [hb, cond_true, cond_false]
  · rw [b_fw]
    refine (b6 m c t bt j ht _ _).trans (congrArg _ ?_)
    congr 1
    exact Fin.ext (by show ch.val / 8 * 16 + ch.val % 8 = ch.val % 8; omega)
  · rw [b_bw]
    refine (b7 m c t bt j ht _ _).trans (congrArg _ ?_)
    congr 1
    · exact Fin.ext (by show (63 - j.val) * 128 + (Fin.rev r).val = (Fin.rev j).val * 128 + (Fin.rev r).val; simp only [Fin.val_rev]; omega)
    · exact Fin.ext (by show ch.val / 8 * 16 + ch.val % 8 = 16 + ch.val % 8; omega)

theorem link_w (r : Fin 128) : blkW (iblk m c 8 t) (iblk m c 9 t) ch (ord ch r) = wR j (rs m c j.val) (copy bt ch) (hd ch) r := by
  unfold blkW wR copy ord
  rw [(kept _ _ _ _ _ _).2.2.2.2.2]
  rcases bwd_cases ch with ⟨hb, hl⟩ | ⟨hb, hl⟩ <;> simp only [hb, cond_true, cond_false]
  · rw [w_fw]
    refine (b8 m c t bt j ht _ _).trans (congrArg _ ?_)
    congr 1
    exact Fin.ext (by show ch.val = ch.val % 8; omega)
  · rw [w_bw]
    refine (b9 m c t bt j ht _ _).trans (congrArg _ ?_)
    congr 1
    · exact Fin.ext (by show ch.val = 8 + ch.val % 8; omega)
    · exact Fin.ext (by show (63 - j.val) * 128 + (Fin.rev r).val = (Fin.rev j).val * 128 + (Fin.rev r).val; simp only [Fin.val_rev]; omega)

theorem link_q (r d : Fin 128) : blkQ (iblk m c 0 t) (iblk m c 1 t) ch (ord ch r) d = qR j (rs m c j.val) (copy bt ch) (hd ch) r d := by
  unfold blkQ qR copy ord
  rw [(kept _ _ _ _ _ _).1]
  rcases bwd_cases ch with ⟨hb, hl⟩ | ⟨hb, hl⟩ <;> simp only [hb, cond_true, cond_false]
  · rw [q_fw]
    exact b0 m c t bt j ht _ _
  · rw [q_bw]
    refine (b1 m c t bt j ht _ _).trans (congrArg _ ?_)
    congr 1
    exact Fin.ext (by show (63 - j.val) * 128 + (Fin.rev r).val = (Fin.rev j).val * 128 + (Fin.rev r).val; simp only [Fin.val_rev]; omega)

theorem link_k (r d : Fin 128) : blkK (iblk m c 2 t) (iblk m c 3 t) ch d (ord ch r) = kR j (rs m c j.val) (copy bt ch) (hd ch) r d := by
  unfold blkK kR copy ord
  rw [(kept _ _ _ _ _ _).2.1]
  rcases bwd_cases ch with ⟨hb, hl⟩ | ⟨hb, hl⟩ <;> simp only [hb, cond_true, cond_false]
  · rw [k_fw]
    exact b2 m c t bt j ht _ _
  · rw [k_bw]
    refine (b3 m c t bt j ht _ _).trans (congrArg _ ?_)
    congr 1
    exact Fin.ext (by show 63 - j.val = (Fin.rev j).val; simp only [Fin.val_rev]; omega)

theorem link_v (r : Fin 128) (d : Fin 256) : blkV (X0_4 m c t) (X0_5 m c t) ch (ord ch r) d = vR j (rs m c j.val) (copy bt ch) (hd ch) r d := by
  unfold blkV vR copy ord
  rw [(kept _ _ _ _ _ _).2.2.1]
  rcases bwd_cases ch with ⟨hb, hl⟩ | ⟨hb, hl⟩ <;> simp only [hb, cond_true, cond_false]
  · rw [v_fw]
    exact b4 m c t bt j ht _ _
  · rw [v_bw]
    refine (b5 m c t bt j ht _ _).trans (congrArg _ ?_)
    congr 1
    exact Fin.ext (by show (63 - j.val) * 128 + (Fin.rev r).val = (Fin.rev j).val * 128 + (Fin.rev r).val; simp only [Fin.val_rev]; omega)

end Link

/-- The cumulative gates and the running maxima are numbers. -/
def Tame : Prop := ∀ (bt : Fin 4) (r : Fin 8192) (l : Fin 128), l.val < 32 →
  ∃ y : ℝ, m ((c : Thread nD τ).loc main_arg3) (ix3 bt r l) = (y : EReal)

section Step
variable (hg : Tame m c) (t : Fin cfg0.N) (bt : Fin 4) (j : Fin 64) (ht : t.val = 64 * bt.val + j.val) (ch : Fin 16)
include hg ht

theorem real_a : ∃ y : Fin 128 → ℝ, blkA (iblk m c 6 t) (iblk m c 7 t) ch = fun r => ((y r : ℝ) : EReal) := by
  have h : ∀ r, ∃ y : ℝ, blkA (iblk m c 6 t) (iblk m c 7 t) ch r = (y : EReal) := fun r => by
    unfold blkA
    rcases bwd_cases ch with ⟨hb, hl⟩ | ⟨hb, hl⟩ <;> simp only [hb, cond_true, cond_false]
    · obtain ⟨y, hy⟩ := hg bt ⟨j.val * 128 + r.val, by omega⟩ (la ch) (by show ch.val / 8 * 16 + ch.val % 8 + 8 < 32; omega)
      exact ⟨y, (b6 m c t bt j ht _ _).trans hy⟩
    · obtain ⟨y, hy⟩ := hg bt ⟨(63 - j.val) * 128 + r.val, by omega⟩ (la ch) (by show ch.val / 8 * 16 + ch.val % 8 + 8 < 32; omega)
      exact ⟨y, (b7 m c t bt j ht _ _).trans hy⟩
  choose y hy using h
  exact ⟨y, funext hy⟩

theorem real_b : ∃ y : Fin 128 → ℝ, blkB (iblk m c 6 t) (iblk m c 7 t) ch = fun r => ((y r : ℝ) : EReal) := by
  have h : ∀ r, ∃ y : ℝ, blkB (iblk m c 6 t) (iblk m c 7 t) ch r = (y : EReal) := fun r => by
    unfold blkB
    rcases bwd_cases ch with ⟨hb, hl⟩ | ⟨hb, hl⟩ <;> simp only [hb, cond_true, cond_false]
    · obtain ⟨y, hy⟩ := hg bt ⟨j.val * 128 + r.val, by omega⟩ (lb ch) (by show ch.val / 8 * 16 + ch.val % 8 < 32; omega)
      exact ⟨y, (b6 m c t bt j ht _ _).trans hy⟩
    · obtain ⟨y, hy⟩ := hg bt ⟨(63 - j.val) * 128 + r.val, by omega⟩ (lb ch) (by show ch.val / 8 * 16 + ch.val % 8 < 32; omega)
      exact ⟨y, (b7 m c t bt j ht _ _).trans hy⟩
  choose y hy using h
  exact ⟨y, funext hy⟩

variable (M : EReal) (S : Fin 128 → Fin 384 → EReal) (hM : M = mR (rs m c j.val) (copy bt ch) (hd ch))
  (hr : ∃ y : ℝ, M = (y : EReal)) (hS : S = stOf (CR (rs m c j.val) (copy bt ch) (hd ch)) (NR (rs m c j.val) (copy bt ch) (hd ch)))
include hM hr

theorem unit_m : kM (lastOf ch) (blkA (iblk m c 6 t) (iblk m c 7 t) ch) (blkB (iblk m c 6 t) (iblk m c 7 t) ch) M
      = mR (rs m c (j.val + 1)) (copy bt ch) (hd ch)
    ∧ ∃ y : ℝ, mR (rs m c (j.val + 1)) (copy bt ch) (hd ch) = (y : EReal) := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb ⊢
  have key := m_eq (ord ch) a b y (lastOf ch) (lastOf_ord ch)
  have e : kM (lastOf ch) (fun r => ((a r : ℝ) : EReal)) (fun r => ((b r : ℝ) : EReal)) (y : EReal)
      = mR (rs m c (j.val + 1)) (copy bt ch) (hd ch) := by
    rw [key.1]
    refine Eq.trans ?_ (m_next _ _ _ _ _ _ _ j).symm
    rw [← hM, funext la, funext lb]
  exact ⟨e, _, e.symm.trans key.2⟩

include hS

theorem unit_st (d : Fin 128) (i : Fin 384) : kSt (lastOf ch) (blkA (iblk m c 6 t) (iblk m c 7 t) ch) M (blkW (iblk m c 8 t) (iblk m c 9 t) ch)
        (blkK (iblk m c 2 t) (iblk m c 3 t) ch) (ext (blkV (X0_4 m c t) (X0_5 m c t) ch)) S d i
      = stOf (CR (rs m c (j.val + 1)) (copy bt ch) (hd ch)) (NR (rs m c (j.val + 1)) (copy bt ch) (hd ch)) d i := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb
  subst hS
  have eC := C_next (m ((c : Thread nD τ).loc main_arg0)) (m ((c : Thread nD τ).loc main_arg1))
      (m ((c : Thread nD τ).loc main_arg2)) (m ((c : Thread nD τ).loc main_arg3)) (m ((c : Thread nD τ).loc main_arg4)) (copy bt ch) (hd ch) j
  have eN := N_next (m ((c : Thread nD τ).loc main_arg0)) (m ((c : Thread nD τ).loc main_arg1))
      (m ((c : Thread nD τ).loc main_arg2)) (m ((c : Thread nD τ).loc main_arg3)) (m ((c : Thread nD τ).loc main_arg4)) (copy bt ch) (hd ch) j
  refine (st_eq (ord ch) a b y _ _ _ _ _ (lastOf ch) (lastOf_ord ch) d i).trans ?_
  rw [eC, eN, ← hM, funext la, funext lb]
  rw [funext fun r => link_w m c t bt j ht ch r, funext fun r => funext fun d => link_k m c t bt j ht ch r d,
    funext fun r => funext fun d => link_v m c t bt j ht ch r d]

theorem unit_h (r : Fin 128) (i : Fin 256) : kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S (ord ch r) i
      = Cert.ReferenceIdeal.Step.b73 j.val (rs m c j.val) (ix4 (copy bt ch) (hd ch) r i) := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb ⊢
  subst hS
  refine (out_eq (ord ch) (upTo ch) (upTo_ord ch) a b y _ _ _ _ _ _ r i).trans ?_
  refine Eq.trans ?_ (b73_at j _ (copy bt ch) (hd ch) r i).symm
  rw [← hM, funext la, funext lb]
  rw [funext fun r => link_w m c t bt j ht ch r, funext fun r => funext fun d => link_q m c t bt j ht ch r d,
    funext fun r => funext fun d => link_k m c t bt j ht ch r d,
    funext fun r => funext fun d => link_v m c t bt j ht ch r d]

end Step

end Cert.Proof.Batch
-- ==== Proof.Carry.lean ====
/-
  The induction down a batch's chunks.
-/
module
public import proofs.«01_k».proof.Proof.Batch

@[expose] public section

set_option maxRecDepth 16384
set_option maxHeartbeats 4000000

noncomputable section

namespace Cert.Proof.Carry

open Idealize.ShloMosaic Idealize.ShloMosaic.TcCoe
open Cert.KernelIdeal Cert.KernelIdeal.Gen Cert.Proof.Units Cert.Proof.Chain Cert.Proof.Point Cert.Proof.Batch
open Cert.Proof.RefInit Cert.Proof.RefStep Cert.Proof.RefSeq

variable (m : (ℓ : Loc nD τ sig) → Buf (Elt Ideal) ℓ) (c : Dev nD)

/-- The grid point of a batch and a chunk. -/
def pt (bt : Fin 4) (j : Fin 64) : Fin cfg0.N := ⟨64 * bt.val + j.val, lt_of_lt_of_eq (by omega : 64 * bt.val + j.val < 256) N_0.symm⟩

/-- What a point leaves, over the stabiliser and the state it finds. -/
structure Leaves (t : Fin cfg0.N) (ch : Fin 16) (M : EReal) (S : Fin 128 → Fin 384 → EReal) : Prop where
  first : t.val % 64 = 0 → M = 0 ∧ S = fun _ _ => 0
  later : ¬ t.val % 64 = 0 →
    M = (outsAt0 m c (t.val - 1) (Nat.lt_of_le_of_lt (Nat.sub_le _ _) t.isLt)).2.2.2 (ix3 (dr ch) (hd ch) 0)
    ∧ S = fun d i => (outsAt0 m c (t.val - 1) (Nat.lt_of_le_of_lt (Nat.sub_le _ _) t.isLt)).2.2.1 (ix4 (dr ch) (hd ch) d i)
  stab : ∀ l, (outsAt0 m c t.val t.isLt).2.2.2 (ix3 (dr ch) (hd ch) l)
    = kM (lastOf ch) (blkA (iblk m c 6 t) (iblk m c 7 t) ch) (blkB (iblk m c 6 t) (iblk m c 7 t) ch) M
  state : ∀ d i, (outsAt0 m c t.val t.isLt).2.2.1 (ix4 (dr ch) (hd ch) d i)
    = kSt (lastOf ch) (blkA (iblk m c 6 t) (iblk m c 7 t) ch) M (blkW (iblk m c 8 t) (iblk m c 9 t) ch)
        (blkK (iblk m c 2 t) (iblk m c 3 t) ch) (ext (blkV (X0_4 m c t) (X0_5 m c t) ch)) S d i
  fwd : ch.val < 8 → ∀ r i, (outsAt0 m c t.val t.isLt).1 (ix3 0 r ⟨ch.val % 8 * 256 + i.val, by omega⟩)
    = kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S r i
  bwd : 8 ≤ ch.val → ∀ r i, (outsAt0 m c t.val t.isLt).2.1 (ix3 0 r ⟨ch.val % 8 * 256 + i.val, by omega⟩)
    = kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S r i

theorem leaves (t : Fin cfg0.N) (ch : Fin 16) : ∃ M S, Leaves m c t ch M S := by
  by_cases h0 : t.val % 64 = 0
  · refine ⟨0, fun _ _ => 0, fun _ => ⟨rfl, rfl⟩, fun h => absurd h0 h, ?_, ?_, ?_, ?_⟩
    · intro l
      rw [outsAt0_A m c t h0]
      dsimp only
      rw [Point.stabA]
    · intro d i
      rw [outsAt0_A m c t h0]
      dsimp only
      rw [Point.stateA]
    · intro hc r i
      rw [outsAt0_A m c t h0]
      dsimp only
      rw [Point.fwdA (hch := hc)]
    · intro hc r i
      rw [outsAt0_A m c t h0]
      dsimp only
      rw [Point.bwdA (hch := hc)]
  · refine ⟨_, _, fun h => absurd h h0, fun _ => ⟨rfl, rfl⟩, ?_, ?_, ?_, ?_⟩
    · intro l
      rw [outsAt0_B m c t h0]
      dsimp only
      rw [Point.stabB]
    · intro d i
      rw [outsAt0_B m c t h0]
      dsimp only
      rw [Point.stateB]
    · intro hc r i
      rw [outsAt0_B m c t h0]
      dsimp only
      rw [Point.fwdB (hch := hc)]
    · intro hc r i
      rw [outsAt0_B m c t h0]
      dsimp only
      rw [Point.bwdB (hch := hc)]

theorem outs_at (k : ℕ) (h : k < cfg0.N) (t : Fin cfg0.N) (e : k = t.val) : outsAt0 m c k h = outsAt0 m c t.val t.isLt := by
  subst e; rfl

variable (hg : Tame m c) (bt : Fin 4) (ch : Fin 16)
include hg

/-- What the reference carries into chunk `n`, the kernel's point finds. -/
def Found (n : ℕ) (M : EReal) (S : Fin 128 → Fin 384 → EReal) : Prop :=
  M = mR (rs m c n) (copy bt ch) (hd ch) ∧ (∃ y : ℝ, M = (y : EReal))
    ∧ S = stOf (CR (rs m c n) (copy bt ch) (hd ch)) (NR (rs m c n) (copy bt ch) (hd ch))

theorem carry : ∀ (n : ℕ) (hn : n < 64), ∃ M S, Leaves m c (pt bt ⟨n, hn⟩) ch M S ∧ Found m c bt ch n M S
  | 0, hn => by
    obtain ⟨M, S, h⟩ := leaves m c (pt bt ⟨0, hn⟩) ch
    obtain ⟨hM, hS⟩ := h.first (by show (64 * bt.val + 0) % 64 = 0; omega)
    refine ⟨M, S, h, ?_, ⟨0, hM⟩, ?_⟩
    · rw [hM]; exact (m_init _ _ _ _ _ _ _).symm
    · rw [hS]
      funext d i
      unfold stOf
      rw [C_init, N_init]
      split <;> rfl
  | n + 1, hn => by
    obtain ⟨M', S', h', hM', hr', hS'⟩ := carry n (by omega)
    obtain ⟨M, S, h⟩ := leaves m c (pt bt ⟨n + 1, hn⟩) ch
    obtain ⟨hM, hS⟩ := h.later (by show ¬(64 * bt.val + (n + 1)) % 64 = 0; omega)
    have hp := outs_at m c _ (Nat.lt_of_le_of_lt (Nat.sub_le _ _) (pt bt ⟨n + 1, hn⟩).isLt) (pt bt ⟨n, by omega⟩)
      (by show 64 * bt.val + (n + 1) - 1 = 64 * bt.val + n; omega)
    rw [hp] at hM hS
    have um := unit_m m c hg (pt bt ⟨n, by omega⟩) bt ⟨n, by omega⟩ rfl ch M' hM' hr'
    have e := (h'.stab 0).trans um.1
    obtain ⟨y, hy⟩ := um.2
    refine ⟨M, S, h, hM.trans e, ⟨y, (hM.trans e).trans hy⟩, hS.trans ?_⟩
    funext d i
    exact (h'.state d i).trans (unit_st m c hg (pt bt ⟨n, by omega⟩) bt ⟨n, by omega⟩ rfl ch M' S' hM' hr' hS' d i)

/-- The forward hidden states of a chunk. -/
theorem hidden_fwd (hc : ch.val < 8) (j : Fin 64) (r : Fin 128) (i : Fin 256) :
    (outsAt0 m c (pt bt j).val (pt bt j).isLt).1 (ix3 0 r ⟨ch.val % 8 * 256 + i.val, by omega⟩)
      = Cert.ReferenceIdeal.Step.b73 j.val (rs m c j.val) (ix4 (fw bt) (hd ch) r i) := by
  obtain ⟨M, S, h, hM, hr, hS⟩ := carry m c hg bt ch j.val j.isLt
  have u := unit_h m c hg (pt bt j) bt j rfl ch M S hM hr hS r i
  have hb : Units.bwd ch = false := by rcases bwd_cases ch with h | h <;> [skip; skip] <;> first | exact h.1 | omega
  unfold copy ord at u
  rw [hb] at u
  exact (h.fwd hc r i).trans u

/-- The backward hidden states of a chunk, its rows in the reversed order. -/
theorem hidden_bwd (hc : 8 ≤ ch.val) (j : Fin 64) (r : Fin 128) (i : Fin 256) :
    (outsAt0 m c (pt bt j).val (pt bt j).isLt).2.1 (ix3 0 r.rev ⟨ch.val % 8 * 256 + i.val, by omega⟩)
      = Cert.ReferenceIdeal.Step.b73 j.val (rs m c j.val) (ix4 (bw bt) (hd ch) r i) := by
  obtain ⟨M, S, h, hM, hr, hS⟩ := carry m c hg bt ch j.val j.isLt
  have u := unit_h m c hg (pt bt j) bt j rfl ch M S hM hr hS r i
  have hb : Units.bwd ch = true := by rcases bwd_cases ch with h | h <;> [skip; skip] <;> first | exact h.1 | omega
  unfold copy ord at u
  rw [hb] at u
  exact (h.bwd hc r.rev i).trans u

end Cert.Proof.Carry
-- ==== Proof.Result.lean ====
/-
  The kernel's two result arrays are the reference's.
-/
module
public import proofs.«01_k».proof.Proof.Carry
public import Idealize.ShloMosaic.Lib.Pipeline.Covers

@[expose] public section

set_option maxRecDepth 16384
set_option maxHeartbeats 4000000

noncomputable section

namespace Cert.Proof.Result

open Idealize.ShloMosaic Idealize.ShloMosaic.TcCoe Idealize.ShloMosaic.Tactic
open Cert.KernelIdeal Cert.KernelIdeal.Gen Cert.Proof.Batch Cert.Proof.Inputs Cert.Proof.Carry
open Cert.Proof.RefInit Cert.Proof.RefStep Cert.Proof.RefSeq

variable (m : (ℓ : Loc nD τ sig) → Buf (Elt Ideal) ℓ) (c : Dev nD) (hg : Tame m c)

/-- A grid point is the point of its batch and its chunk. -/
theorem pt_eq (t : Fin cfg0.N) : ∃ bt j, t = pt bt j := by
  have h : t.val < 256 := lt_of_lt_of_eq t.isLt N_0
  exact ⟨⟨t.val / 64, by omega⟩, ⟨t.val % 64, by omega⟩, Fin.ext (by show t.val = 64 * (t.val / 64) + t.val % 64; omega)⟩

include hg

theorem hs_at (j : Fin 64) (x h : Fin 8) (r : Fin 128) (i : Fin 256) :
    (rs m c 64).main_v46_11 (ix5 j x h r i) = Cert.ReferenceIdeal.Step.b73 j.val (rs m c j.val) (ix4 x h r i) :=
  hidden_kept _ _ _ _ _ x h j 64 le_rfl j.isLt r i

theorem fwd : (dats m 0 c).arrAt 10 cfg0.N = Cert.ReferenceIdeal.Step.R_main_v53 (rs m c 64) := by
  refine (dats m 0 c).arrAt_eq_of_covers 10 _ (by decide +kernel) fun t hf y => ?_
  blk_simp
  obtain ⟨bt, j, rfl⟩ := pt_eq t
  have h1 : (y 1).val < 128 := (y 1).isLt
  have h2 : (y 2).val < 2048 := (y 2).isLt
  have t1 : (pt bt j).val / 64 = bt.val := by show (64 * bt.val + j.val) / 64 = bt.val; omega
  have t2 : (pt bt j).val % 64 = j.val := by show (64 * bt.val + j.val) % 64 = j.val; omega
  obtain ⟨r, hr⟩ : ∃ r : Fin 128, r.val = (y 1).val := ⟨⟨(y 1).val, h1⟩, rfl⟩
  obtain ⟨ch, hc, hh⟩ : ∃ ch : Fin 16, ch.val < 8 ∧ ch.val % 8 = (y 2).val / 256 :=
    ⟨⟨(y 2).val / 256, by omega⟩, by show (y 2).val / 256 < 8; omega, by show (y 2).val / 256 % 8 = _; omega⟩
  obtain ⟨i, hi⟩ : ∃ i : Fin 256, i.val = (y 2).val % 256 := ⟨⟨(y 2).val % 256, by omega⟩, rfl⟩
  have hl : ch.val % 8 * 256 + i.val = (y 2).val := by omega
  have ey : y = (ix3 0 r ⟨ch.val % 8 * 256 + i.val, by omega⟩ : S1x128x2048.Idx) := by
    funext a
    match a with
    | 0 => exact Fin.ext (by have : (y 0).val < 1 := (y 0).isLt; show (y 0).val = 0; omega)
    | 1 => exact Fin.ext hr.symm
    | 2 => exact Fin.ext hl.symm
  have ee : (win0_10.blk (pt bt j)).view.emb y = ix3 bt (at_ j r) ⟨(Point.hd ch).val * 256 + i.val, by show ch.val % 8 * 256 + i.val < 2048; omega⟩ := by
    refine (congrArg _ ey).trans ?_
    have := (idx_out (pt bt j)).1

    blk_ext [this, at_, Point.hd]
  refine Eq.trans ?_ (congrArg _ ee).symm
  refine Eq.trans ?_ (res_fw bt (Point.hd ch) j r (rs m c 64) i).symm
  rw [hs_at m c hg]
  refine (congrArg _ ey).trans ?_
  exact hidden_fwd m c hg bt ch hc j r i

theorem bwd : (dats m 0 c).arrAt 11 cfg0.N = Cert.ReferenceIdeal.Step.R_main_v55 (rs m c 64) := by
  refine (dats m 0 c).arrAt_eq_of_covers 11 _ (by decide +kernel) fun t hf y => ?_
  blk_simp
  obtain ⟨bt, j, rfl⟩ := pt_eq t
  have h1 : (y 1).val < 128 := (y 1).isLt
  have h2 : (y 2).val < 2048 := (y 2).isLt
  have t1 : (pt bt j).val / 64 = bt.val := by show (64 * bt.val + j.val) / 64 = bt.val; omega
  have t2 : (pt bt j).val % 64 = j.val := by show (64 * bt.val + j.val) % 64 = j.val; omega
  obtain ⟨r, hr⟩ : ∃ r : Fin 128, r.rev.val = (y 1).val := ⟨⟨127 - (y 1).val, by omega⟩, by simp only [Fin.val_rev]; omega⟩
  obtain ⟨ch, hc, hh⟩ : ∃ ch : Fin 16, 8 ≤ ch.val ∧ ch.val % 8 = (y 2).val / 256 :=
    ⟨⟨8 + (y 2).val / 256, by omega⟩, by show 8 ≤ 8 + (y 2).val / 256; omega, by show (8 + (y 2).val / 256) % 8 = _; omega⟩
  obtain ⟨i, hi⟩ : ∃ i : Fin 256, i.val = (y 2).val % 256 := ⟨⟨(y 2).val % 256, by omega⟩, rfl⟩
  have hl : ch.val % 8 * 256 + i.val = (y 2).val := by omega
  have ey : y = (ix3 0 r.rev ⟨ch.val % 8 * 256 + i.val, by omega⟩ : S1x128x2048.Idx) := by
    funext a
    match a with
    | 0 => exact Fin.ext (by have : (y 0).val < 1 := (y 0).isLt; show (y 0).val = 0; omega)
    | 1 => exact Fin.ext hr.symm
    | 2 => exact Fin.ext hl.symm
  have ee : (win0_11.blk (pt bt j)).view.emb y = ix3 bt (at_ j.rev r.rev) ⟨(Point.hd ch).val * 256 + i.val, by show ch.val % 8 * 256 + i.val < 2048; omega⟩ := by
    refine (congrArg _ ey).trans ?_
    have := (idx_out (pt bt j)).2
    have hj : (Fin.rev j).val = 63 - j.val := by simp only [Fin.val_rev]; omega
    blk_ext [this, at_, Point.hd]
  refine Eq.trans ?_ (congrArg _ ee).symm
  refine Eq.trans ?_ (res_bw bt (Point.hd ch) j r (rs m c 64) i).symm
  rw [hs_at m c hg]
  refine (congrArg _ ey).trans ?_
  exact hidden_bwd m c hg bt ch hc j r i

end Cert.Proof.Result
-- ==== Proof.LongUnits.lean ====
module

public import proofs.«01_k».proof.Proof.Gen.Kernel5Ideal.Frame

@[expose] public section

/-!
# The mLSTM kernel's chains, one spelling for all sixteen

The body runs sixteen chains (two directions of eight heads) through three phases. Here each
phase's stores are spelt once, as functions of the chain's number and of what the chain loads;
`Pieces.lean` meets the pieces of the run with them.
-/

set_option maxRecDepth 16384

noncomputable section

namespace Cert.Proof.Long.Units

open Idealize.ShloMosaic Idealize.ShloMosaic.TcCoe Idealize.ShloMosaic.Tactic
open Cert.Kernel5Ideal Cert.Kernel5Ideal.Gen

variable {F : FTy → Type} [FloatOps F]

/-- Whether chain `c` runs backwards. -/
def bwd (c : Fin 16) : Bool := Nat.ble 8 c.val

/-- The chain's head. -/
def head (c : Fin 16) : Nat := c.val % 8

/-- The lane of the gate block that holds the chain's cumulative log-forget gate. -/
def laneB (c : Fin 16) : BitVec 32 := BitVec.ofNat 32 (c.val / 8 * 16 + c.val % 8)

/-- One lane of a gate block, given to every lane. -/
def lane (x : Vec F S1x128x128 .f32) (n : IVec S128x128 32) : FVec F S128x128 .f32 :=
  dynamicGather 1 (shapeCast S128x128 x shapeCasts_S1x128x128_S128x128)
    (shapeCast S128x128 (shapeCast S128x128x1
      (select (cmpi .slt n (broadcast S128x128 0#32)) (addi n (broadcast S128x128 128#32)) n)
      shapeCasts_S128x128_S128x128x1) shapeCasts_S128x128x1_S128x128)

/-- The last row of the chunk in the chain's order. -/
def lastRow : Bool → FVec F S128x128 .f32 → FVec F S1x128 .f32
  | false, x => extractStridedSlice S1x128 ![127, 0] x slices_S128x128_o127_0_S1x128
  | true, x => extractStridedSlice S1x128 ![0, 0] x slices_S128x128_o0_0_S1x128

/-- The causal mask in the chain's order. -/
def mask : Bool → IVec S128x128 1
  | false => cmpi .sle (iota .tc S128x128 32 [1] iota_S128x128_d1_w32) (iota .tc S128x128 32 [0] iota_S128x128_d0_w32)
  | true => cmpi .sge (iota .tc S128x128 32 [1] iota_S128x128_d1_w32) (iota .tc S128x128 32 [0] iota_S128x128_d0_w32)

/-- The cumulative log-forget gate of the chain, in every lane. -/
def gateB (c : Fin 16) (x : Vec F S1x128x128 .f32) : FVec F S128x128 .f32 := lane x (broadcast S128x128 (laneB c))

/-- The stabiliser the chain's scan has at each row. -/
def gateMx (c : Fin 16) (x : Vec F S1x128x128 .f32) (mv : Vec F S1x1x1 .f32) : FVec F S128x128 .f32 :=
  maximumf (lane x (addi (broadcast S128x128 (laneB c)) (broadcast S128x128 8#32)))
    (broadcastTo S128x128 (shapeCast S1x1 mv shapeCasts_S1x1x1_S1x1) broadcasts_S1x1_S128x128)

/-- The decay weights. -/
def payP (c : Fin 16) (x : Vec F S1x128x128 .f32) (w : Vec F S1x1x128 .f32) (mv : Vec F S1x1x1 .f32) : FVec F S1x128x128 .f32 :=
  shapeCast S1x128x128 (exp (subf (broadcastTo S128x128 (shapeCast S1x128 w shapeCasts_S1x1x128_S1x128) broadcasts_S1x128_S128x128)
    (gateMx c x mv))) shapeCasts_S128x128_S1x128x128

/-- The queries weighted for the state. -/
def payLq (c : Fin 16) (x : Vec F S1x128x128 .f32) (mv : Vec F S1x1x1 .f32) (q : Vec F S1x128x128 .bf16) : FVec F S1x128x128 .bf16 :=
  shapeCast S1x128x128 (truncf .bf16 (mulf (extf .f32 (shapeCast S128x128 q shapeCasts_S1x128x128_S128x128) bitsLt_bf16_f32)
    (exp (subf (broadcastTo S128x128 (shapeCast S1x1 mv shapeCasts_S1x1x1_S1x1) broadcasts_S1x1_S128x128) (gateMx c x mv))))
    bitsLt_bf16_f32) shapeCasts_S128x128_S1x128x128

/-- The floor of the denominators. -/
def payE (c : Fin 16) (x : Vec F S1x128x128 .f32) (mv : Vec F S1x1x1 .f32) : FVec F S1x128x128 .f32 :=
  shapeCast S1x128x128 (exp (subf (broadcast S128x128 (Scalar.ofBits .f32 0x00000000#32)) (addf (gateB c x) (gateMx c x mv))))
    shapeCasts_S128x128_S1x128x128

/-- The keys weighted for the state's update. -/
def payKw (c : Fin 16) (x : Vec F S1x128x128 .f32) (w : Vec F S1x1x128 .f32) (mv : Vec F S1x1x1 .f32)
    (k : Vec F S1x1x128x128 .bf16) : FVec F S1x128x128 .bf16 :=
  shapeCast S1x128x128 (truncf .bf16 (mulf (extf .f32 (shapeCast S128x128 k shapeCasts_S1x1x128x128_S128x128) bitsLt_bf16_f32)
    (broadcastTo S128x128 (exp (subf (shapeCast S1x128 w shapeCasts_S1x1x128_S1x128) (lastRow (bwd c) (gateMx c x mv))))
      broadcasts_S1x128_S128x128)) bitsLt_bf16_f32) shapeCasts_S128x128_S1x128x128

/-- The state's decay. -/
def payWc (c : Fin 16) (x : Vec F S1x128x128 .f32) (mv : Vec F S1x1x1 .f32) : FVec F S1x8x128 .f32 :=
  shapeCast S1x8x128 (broadcastTo S8x128 (shapeCast S1x128 (exp (subf
    (broadcastTo S1x128 (shapeCast S1x1 mv shapeCasts_S1x1x1_S1x1) broadcasts_S1x1_S1x128) (lastRow (bwd c) (gateMx c x mv))))
    shapeCasts_S1x128_S1x128) broadcasts_S1x128_S8x128) shapeCasts_S8x128_S1x8x128

/-- The stabiliser carried to the next chunk. -/
def payM (c : Fin 16) (x : Vec F S1x128x128 .f32) (mv : Vec F S1x1x1 .f32) : FVec F S1x1x128 .f32 :=
  shapeCast S1x1x128 (addf (lastRow (bwd c) (gateB c x)) (lastRow (bwd c) (gateMx c x mv))) shapeCasts_S1x128_S1x1x128

/-- The weighted, masked scores. -/
def payS (c : Fin 16) (q : Vec F S1x128x128 .bf16) (k : Vec F S1x1x128x128 .bf16) (p : Vec F S1x128x128 .f32) :
    FVec F S1x128x128 .bf16 :=
  shapeCast S1x128x128 (truncf .bf16 (select (mask (bwd c))
    (mulf (matmul dot_S128x128_S128x128_S128x128_1_0_0_1_n_n none (shapeCast S128x128 q shapeCasts_S1x128x128_S128x128)
      (shapeCast S128x128 k shapeCasts_S1x1x128x128_S128x128) (constant S128x128 .f32 0x00000000#32))
      (shapeCast S128x128 p shapeCasts_S1x128x128_S128x128))
    (broadcast S128x128 (Scalar.ofBits .f32 0x00000000#32))) bitsLt_bf16_f32) shapeCasts_S128x128_S1x128x128

/-- The values with a block of ones beside them. -/
def vext (v : Vec F S1x128x256 .bf16) : FVec F S128x384 .bf16 :=
  concatenate S128x384 1 [⟨S128x256, shapeCast S128x256 v shapeCasts_S1x128x256_S128x256⟩,
    ⟨S128x128, broadcast S128x128 (Scalar.ofBits .bf16 0x3F80#16 : F .bf16)⟩] concatenates_S128x256_S128x128_S128x384_d1

/-- The numerators and the denominators. -/
def readout (v : Vec F S1x128x256 .bf16) (st : Vec F S1x1x128x384 .f32) (lhs : Vec F S1x128x256 .bf16) : FVec F S128x384 .f32 :=
  matmul dot_S128x256_S256x384_S128x384_1_0_0_1_n_n none (shapeCast S128x256 lhs shapeCasts_S1x128x256_S128x256)
    (concatenate S256x384 0 [⟨S128x384, vext v⟩,
      ⟨S128x384, truncf .bf16 (shapeCast S128x384 st shapeCasts_S1x1x128x384_S128x384) bitsLt_bf16_f32⟩]
      concatenates_S128x384_S128x384_S256x384_d0) (constant S128x384 .f32 0x00000000#32)

/-- The reciprocal denominators. -/
def recip (v : Vec F S1x128x256 .bf16) (st : Vec F S1x1x128x384 .f32) (lhs : Vec F S1x128x256 .bf16)
    (e : Vec F S1x128x128 .f32) : FVec F S128x128 .f32 :=
  divf (broadcast S128x128 (Scalar.ofBits .f32 0x3F800000#32)) (maximumf
    (absf (extractStridedSlice S128x128 ![0, 256] (readout v st lhs) slices_S128x384_o0_256_S128x128))
    (shapeCast S128x128 e shapeCasts_S1x128x128_S128x128))

/-- The chain's hidden rows. -/
def payH (v : Vec F S1x128x256 .bf16) (st : Vec F S1x1x128x384 .f32) (lhs : Vec F S1x128x256 .bf16)
    (e : Vec F S1x128x128 .f32) : FVec F S1x128x256 .bf16 :=
  shapeCast S1x128x256 (truncf .bf16 (mulf
    (extractStridedSlice S128x256 ![0, 0] (readout v st lhs) slices_S128x384_o0_0_S128x256)
    (concatenate S128x256 1 [⟨S128x128, recip v st lhs e⟩, ⟨S128x128, recip v st lhs e⟩]
      concatenates_S128x128_S128x128_S128x256_d1)) bitsLt_bf16_f32) shapeCasts_S128x256_S1x128x256

/-- The chain's next state. -/
def paySt (v : Vec F S1x128x256 .bf16) (st : Vec F S1x1x128x384 .f32) (kw : Vec F S1x128x128 .bf16)
    (wc : Vec F S1x1x1 .f32) : FVec F S1x1x128x384 .f32 :=
  shapeCast S1x1x128x384 (addf (mulf (broadcastTo S128x384 (shapeCast S1x1 wc shapeCasts_S1x1x1_S1x1) broadcasts_S1x1_S128x384)
      (shapeCast S128x384 st shapeCasts_S1x1x128x384_S128x384))
    (matmul dot_S128x128_S128x384_S128x384_1_0_0_1_n_n none (shapeCast S128x128 kw shapeCasts_S1x128x128_S128x128) (vext v)
      (constant S128x384 .f32 0x00000000#32))) shapeCasts_S128x384_S1x1x128x384

/-! ## What the chains load, and the pieces they store -/

/-- What one chunk's chains load. -/
structure Loads (F : FTy → Type) where
  gates : Fin 16 → Vec F S1x128x128 .f32
  row : Fin 16 → Vec F S1x1x128 .f32
  stab : Fin 16 → Vec F S1x1x1 .f32
  q : Fin 16 → Vec F S1x128x128 .bf16
  k : Fin 16 → Vec F S1x1x128x128 .bf16
  v : Fin 16 → Vec F S1x128x256 .bf16
  st : Fin 16 → Vec F S1x1x128x384 .f32

/-- The chains, last first. -/
def order : List (Fin 16) := [15, 14, 13, 12, 11, 10, 9, 8, 7, 6, 5, 4, 3, 2, 1, 0]
def orderF : List (Fin 16) := [7, 6, 5, 4, 3, 2, 1, 0]
def orderB : List (Fin 16) := [15, 14, 13, 12, 11, 10, 9, 8]

theorem inb_chain (c : Fin 16) : ∀ a, (![c.val, 0, 0] : Fin 3 → ℕ) a + S1x128x128.size a ≤ S16x128x128.size a := by
  revert c; decide
theorem inb_lhsS (c : Fin 16) : ∀ a, (![c.val, 0, 0] : Fin 3 → ℕ) a + S1x128x128.size a ≤ S16x128x256.size a := by
  revert c; decide
theorem inb_lhsQ (c : Fin 16) : ∀ a, (![c.val, 0, 128] : Fin 3 → ℕ) a + S1x128x128.size a ≤ S16x128x256.size a := by
  revert c; decide
theorem inb_lhs (c : Fin 16) : ∀ a, (![c.val, 0, 0] : Fin 3 → ℕ) a + S1x128x256.size a ≤ S16x128x256.size a := by
  revert c; decide
theorem inb_wc (c : Fin 16) : ∀ a, (![c.val, 0, 0] : Fin 3 → ℕ) a + S1x8x128.size a ≤ S16x8x128.size a := by
  revert c; decide
theorem inb_wc1 (c : Fin 16) : ∀ a, (![c.val, 0, 0] : Fin 3 → ℕ) a + S1x1x1.size a ≤ S16x8x128.size a := by
  revert c; decide
theorem inb_m (c : Fin 16) : ∀ a, (![c.val / 8, c.val % 8, 0] : Fin 3 → ℕ) a + S1x1x128.size a ≤ S2x8x128.size a := by
  revert c; decide
theorem inb_m1 (c : Fin 16) : ∀ a, (![c.val / 8, c.val % 8, 0] : Fin 3 → ℕ) a + S1x1x1.size a ≤ S2x8x128.size a := by
  revert c; decide
theorem inb_st (c : Fin 16) : ∀ a, (![c.val / 8, c.val % 8, 0, 0] : Fin 4 → ℕ) a + S1x1x128x384.size a ≤ S2x8x128x384.size a := by
  revert c; decide
theorem inb_h (c : Fin 16) : ∀ a, (![0, 0, c.val % 8 * 256] : Fin 3 → ℕ) a + S1x128x256.size a ≤ S1x128x2048.size a := by
  revert c; decide
theorem inb_q (c : Fin 16) : ∀ a, (![0, 0, c.val % 8 * 128] : Fin 3 → ℕ) a + S1x128x128.size a ≤ S1x128x1024.size a := by
  revert c; decide
theorem inb_k (c : Fin 16) : ∀ a, (![0, 0, c.val % 8 * 128, 0] : Fin 4 → ℕ) a + S1x1x128x128.size a ≤ S1x1x1024x128.size a := by
  revert c; decide
theorem inb_row (c : Fin 16) : ∀ a, (![0, c.val, 0] : Fin 3 → ℕ) a + S1x1x128.size a ≤ S1x16x128.size a := by
  revert c; decide

abbrev rChain (c : Fin 16) : Rect S16x128x128 := Rect.unit ![c.val, 0, 0] S1x128x128.size (inb_chain c)
abbrev rLhsS (c : Fin 16) : Rect S16x128x256 := Rect.unit ![c.val, 0, 0] S1x128x128.size (inb_lhsS c)
abbrev rLhsQ (c : Fin 16) : Rect S16x128x256 := Rect.unit ![c.val, 0, 128] S1x128x128.size (inb_lhsQ c)
abbrev rLhs (c : Fin 16) : Rect S16x128x256 := Rect.unit ![c.val, 0, 0] S1x128x256.size (inb_lhs c)
abbrev rWc (c : Fin 16) : Rect S16x8x128 := Rect.unit ![c.val, 0, 0] S1x8x128.size (inb_wc c)
abbrev rWc1 (c : Fin 16) : Rect S16x8x128 := Rect.unit ![c.val, 0, 0] S1x1x1.size (inb_wc1 c)
abbrev rM (c : Fin 16) : Rect S2x8x128 := Rect.unit ![c.val / 8, c.val % 8, 0] S1x1x128.size (inb_m c)
abbrev rM1 (c : Fin 16) : Rect S2x8x128 := Rect.unit ![c.val / 8, c.val % 8, 0] S1x1x1.size (inb_m1 c)
abbrev rSt (c : Fin 16) : Rect S2x8x128x384 := Rect.unit ![c.val / 8, c.val % 8, 0, 0] S1x1x128x384.size (inb_st c)
abbrev rH (c : Fin 16) : Rect S1x128x2048 := Rect.unit ![0, 0, c.val % 8 * 256] S1x128x256.size (inb_h c)
abbrev rQ (c : Fin 16) : Rect S1x128x1024 := Rect.unit ![0, 0, c.val % 8 * 128] S1x128x128.size (inb_q c)
abbrev rK (c : Fin 16) : Rect S1x1x1024x128 := Rect.unit ![0, 0, c.val % 8 * 128, 0] S1x1x128x128.size (inb_k c)
abbrev rRow (c : Fin 16) : Rect S1x16x128 := Rect.unit ![0, c.val, 0] S1x1x128.size (inb_row c)

variable (R : Loads F)

def piecesP : List (View.Piece (Elt F) S16x128x128 .f32) :=
  order.map fun c => ⟨rChain c, payP c (R.gates c) (R.row c) (R.stab c)⟩
def piecesE : List (View.Piece (Elt F) S16x128x128 .f32) :=
  order.map fun c => ⟨rChain c, payE c (R.gates c) (R.stab c)⟩
def piecesKw : List (View.Piece (Elt F) S16x128x128 .bf16) :=
  order.map fun c => ⟨rChain c, payKw c (R.gates c) (R.row c) (R.stab c) (R.k c)⟩
def piecesWc : List (View.Piece (Elt F) S16x8x128 .f32) :=
  order.map fun c => ⟨rWc c, payWc c (R.gates c) (R.stab c)⟩
def piecesM : List (View.Piece (Elt F) S2x8x128 .f32) :=
  order.map fun c => ⟨rM c, payM c (R.gates c) (R.stab c)⟩

variable (a16 : Memref sig .tc .vmem S16x128x128 .f32) (a17 : Memref sig .tc .vmem S16x128x256 .bf16)
  (a18 : Memref sig .tc .vmem S16x128x128 .f32) (a19 : Memref sig .tc .vmem S16x128x128 .bf16)
  (a20 : Memref sig .tc .vmem S16x8x128 .f32)

def piecesLhs : List (View.Piece (Elt F) S16x128x256 .bf16) :=
  (order.map fun c => ⟨rLhsS c, payS c (R.q c) (R.k c) (a16.view.readCov (piecesP R) (rChain c).toLoadRect)⟩) ++
    (order.map fun c => ⟨rLhsQ c, payLq c (R.gates c) (R.stab c) (R.q c)⟩)
def piecesH (o : List (Fin 16)) : List (View.Piece (Elt F) S1x128x2048 .bf16) :=
  o.map fun c => ⟨rH c, payH (R.v c) (R.st c) (a17.view.readCov (piecesLhs R a16) (rLhs c).toLoadRect)
    (a18.view.readCov (piecesE R) (rChain c).toLoadRect)⟩
def piecesSt : List (View.Piece (Elt F) S2x8x128x384 .f32) :=
  order.map fun c => ⟨rSt c, paySt (R.v c) (R.st c) (a19.view.readCov (piecesKw R) (rChain c).toLoadRect)
    (a20.view.readCov (piecesWc R) (rWc1 c).toLoadRect)⟩

end Cert.Proof.Long.Units

end
-- ==== Proof.LongUnitsAt.lean ====
module

public import proofs.«01_k».proof.Proof.LongUnits
public import Idealize.ShloMosaic.Lib.Pointwise

@[expose] public section

/-!
# The chains' phases read at an index
-/

set_option maxRecDepth 16384

noncomputable section

namespace Cert.Proof.Long.Units

open Idealize.ShloMosaic Idealize.ShloMosaic.TcCoe
open Cert.Kernel5Ideal Cert.Kernel5Ideal.Gen

/-- The lane of the gate block that holds the chain's cumulative log-forget gate. -/
def lb (c : Fin 16) : Fin 128 := ⟨c.val / 8 * 16 + c.val % 8, by omega⟩
/-- The lane that holds the chain's running maximum. -/
def la (c : Fin 16) : Fin 128 := ⟨c.val / 8 * 16 + c.val % 8 + 8, by omega⟩
/-- The last row of a chunk in the chain's order. -/
def lastOf (c : Fin 16) : Fin 128 := bif bwd c then 0 else 127

theorem lane_at (x : Vec Ideal S1x128x128 .f32) (n : IVec S128x128 32) (t s : Fin 128) (l : Fin 128)
    (h : n (ix2 t s) = BitVec.ofNat 32 l.val) : lane x n (ix2 t s) = x (ix3 0 t l) := by
  have e : ∀ l : Fin 128, (BitVec.toNat (Scalar.select (IntOp.cmpi .slt (BitVec.ofNat 32 l.val) 0#32)
      (IntOp.addi (BitVec.ofNat 32 l.val) 128#32) (BitVec.ofNat 32 l.val))) % 128 = l.val := by
    decide +kernel
  pointwise [lane]
  simp only [h, e]

theorem gateB_at (c : Fin 16) (x : Vec Ideal S1x128x128 .f32) (t s : Fin 128) :
    gateB c x (ix2 t s) = x (ix3 0 t (lb c)) :=
  lane_at x _ t s _ rfl

theorem gateMx_at (c : Fin 16) (x : Vec Ideal S1x128x128 .f32) (mv : Vec Ideal S1x1x1 .f32) (t s : Fin 128) :
    gateMx c x mv (ix2 t s) = max (x (ix3 0 t (la c))) (mv (ix3 0 0 0)) := by
  have h : lane x (addi (broadcast S128x128 (laneB c)) (broadcast S128x128 8#32)) (ix2 t s) = x (ix3 0 t (la c)) :=
    lane_at x _ t s _ ((by decide : ∀ c : Fin 16, laneB c + 8#32 = BitVec.ofNat 32 (la c).val) c)
  unfold gateMx
  rw [← h]
  pointwise []

theorem lastRow_at (c : Fin 16) (x : FVec Ideal S128x128 .f32) (z : Fin 1) (s : Fin 128) :
    lastRow (bwd c) x (ix2 z s) = x (ix2 (lastOf c) s) := by
  unfold lastOf
  cases bwd c <;> pointwise [lastRow] <;> rfl

theorem payP_at (c : Fin 16) (x : Vec Ideal S1x128x128 .f32) (w : Vec Ideal S1x1x128 .f32) (mv : Vec Ideal S1x1x1 .f32) (z : Fin 1) (t s : Fin 128) :
    payP c x w mv (ix3 z t s) = Ideal.exp (w (ix3 0 0 s) - max (x (ix3 0 t (la c))) (mv (ix3 0 0 0))) := by
  rw [← gateMx_at c x mv t s]
  pointwise [payP]

theorem payE_at (c : Fin 16) (x : Vec Ideal S1x128x128 .f32) (mv : Vec Ideal S1x1x1 .f32) (z : Fin 1) (t s : Fin 128) :
    payE c x mv (ix3 z t s) = Ideal.exp (0 - (x (ix3 0 t (lb c)) + max (x (ix3 0 t (la c))) (mv (ix3 0 0 0)))) := by
  rw [← gateMx_at c x mv t s, ← gateB_at c x t s]
  pointwise [payE]

theorem payLq_at (c : Fin 16) (x : Vec Ideal S1x128x128 .f32) (mv : Vec Ideal S1x1x1 .f32) (q : Vec Ideal S1x128x128 .bf16) (z : Fin 1) (t s : Fin 128) :
    payLq c x mv q (ix3 z t s) = q (ix3 0 t s) * Ideal.exp (mv (ix3 0 0 0) - max (x (ix3 0 t (la c))) (mv (ix3 0 0 0))) := by
  rw [← gateMx_at c x mv t s]
  pointwise [payLq]

theorem payKw_at (c : Fin 16) (x : Vec Ideal S1x128x128 .f32) (w : Vec Ideal S1x1x128 .f32) (mv : Vec Ideal S1x1x1 .f32) (k : Vec Ideal S1x1x128x128 .bf16) (z : Fin 1) (d s : Fin 128) :
    payKw c x w mv k (ix3 z d s) = k (ix4 0 0 d s) * Ideal.exp (w (ix3 0 0 s) - max (x (ix3 0 (lastOf c) (la c))) (mv (ix3 0 0 0))) := by
  rw [← gateMx_at c x mv (lastOf c) s, ← lastRow_at c (gateMx c x mv) 0]
  pointwise [payKw]

theorem payWc_at (c : Fin 16) (x : Vec Ideal S1x128x128 .f32) (mv : Vec Ideal S1x1x1 .f32) (z : Fin 1) (d : Fin 8) (s : Fin 128) :
    payWc c x mv (ix3 z d s) = Ideal.exp (mv (ix3 0 0 0) - max (x (ix3 0 (lastOf c) (la c))) (mv (ix3 0 0 0))) := by
  rw [← gateMx_at c x mv (lastOf c) s, ← lastRow_at c (gateMx c x mv) 0]
  pointwise [payWc]

theorem payM_at (c : Fin 16) (x : Vec Ideal S1x128x128 .f32) (mv : Vec Ideal S1x1x1 .f32) (z : Fin 1) (d : Fin 1) (s : Fin 128) :
    payM c x mv (ix3 z d s) = x (ix3 0 (lastOf c) (lb c)) + max (x (ix3 0 (lastOf c) (la c))) (mv (ix3 0 0 0)) := by
  rw [← gateMx_at c x mv (lastOf c) s, ← gateB_at c x (lastOf c) s, ← lastRow_at c (gateMx c x mv) 0, ← lastRow_at c (gateB c x) 0]
  pointwise [payM]

/-- Whether row `s` is at or before row `t` in the chain's order. -/
def upTo (c : Fin 16) (t s : Fin 128) : Bool := bif bwd c then decide (t ≤ s) else decide (s ≤ t)

theorem mask_at (c : Fin 16) (t s : Fin 128) : mask (bwd c) (ix2 t s) = if upTo c t s then 1#1 else 0#1 := by
  have h1 : ∀ t s : Fin 128, IntOp.cmpi .sle (BitVec.ofNat 32 s.val) (BitVec.ofNat 32 t.val) = if decide (s ≤ t) then 1#1 else 0#1 := by
    decide +kernel
  have h2 : ∀ t s : Fin 128, IntOp.cmpi .sge (BitVec.ofNat 32 s.val) (BitVec.ofNat 32 t.val) = if decide (t ≤ s) then 1#1 else 0#1 := by
    decide +kernel
  unfold upTo
  cases h : bwd c
  · refine Eq.trans ?_ (h1 t s)
    pointwise [mask]
  · refine Eq.trans ?_ (h2 t s)
    pointwise [mask]

theorem payS_at (c : Fin 16) (q : Vec Ideal S1x128x128 .bf16) (k : Vec Ideal S1x1x128x128 .bf16) (p : Vec Ideal S1x128x128 .f32) (z : Fin 1) (t s : Fin 128) :
    payS c q k p (ix3 z t s) = if upTo c t s then (∑ d : Fin 128, q (ix3 0 t d) * k (ix4 0 0 d s)) * p (ix3 0 t s) else 0 := by
  pointwise [payS]
  rw [mask_at]
  cases upTo c t s <;> rfl

theorem vext_at (v : Vec Ideal S1x128x256 .bf16) (s : Fin 128) (j : Fin 384) :
    vext v (ix2 s j) = if h : j.val < 256 then v (ix3 0 s ⟨j.val, h⟩) else 1 := by
  pointwise [vext]

theorem readout_at (v : Vec Ideal S1x128x256 .bf16) (st : Vec Ideal S1x1x128x384 .f32) (lhs : Vec Ideal S1x128x256 .bf16) (t : Fin 128) (j : Fin 384) :
    readout v st lhs (ix2 t j) = (∑ s : Fin 128, lhs (ix3 0 t ⟨s.val, by omega⟩) * vext v (ix2 s j))
      + ∑ d : Fin 128, lhs (ix3 0 t ⟨128 + d.val, by omega⟩) * st (ix4 0 0 d j) := by
  pointwise [readout]

theorem payH_at (v : Vec Ideal S1x128x256 .bf16) (st : Vec Ideal S1x1x128x384 .f32) (lhs : Vec Ideal S1x128x256 .bf16)
    (e : Vec Ideal S1x128x128 .f32) (z : Fin 1) (t : Fin 128) (j : Fin 256) :
    payH v st lhs e (ix3 z t j) = readout v st lhs (ix2 t ⟨j.val, by omega⟩) *
      Ideal.div 1 (max (FloatOps.absf (F := Ideal) (φ := .f32) (readout v st lhs (ix2 t ⟨256 + j.val % 128, by omega⟩)))
        (e (ix3 0 t ⟨j.val % 128, by omega⟩))) := by
  pointwise [payH, recip]
  congr 1
  by_cases h : j.val < 128
  · rw [dif_pos h]
    have e1 : j.val % 128 = j.val := Nat.mod_eq_of_lt h
    simp only [e1]
  · rw [dif_neg h]
    have e1 : j.val % 128 = j.val - 128 := by omega
    simp only [e1]

theorem paySt_at (v : Vec Ideal S1x128x256 .bf16) (st : Vec Ideal S1x1x128x384 .f32) (kw : Vec Ideal S1x128x128 .bf16)
    (wc : Vec Ideal S1x1x1 .f32) (z z' : Fin 1) (d : Fin 128) (j : Fin 384) :
    paySt v st kw wc (ix4 z z' d j) = wc (ix3 0 0 0) * st (ix4 0 0 d j) + ∑ s : Fin 128, kw (ix3 0 d s) * vext v (ix2 s j) := by
  pointwise [paySt]

end Cert.Proof.Long.Units

end
-- ==== Proof.LongCanon.lean ====
module

public import proofs.«01_k».proof.Proof.LongUnitsAt
public import proofs.«01_k».proof.Proof.Chain

@[expose] public section

/-!
# What the chains' pieces leave

Each buffer the pieces fill, read at an index: the chain's entry is the chain's own payload, since
the chains' rectangles are disjoint.
-/

set_option maxRecDepth 16384

noncomputable section

namespace Cert.Proof.Long.Canon

open Idealize.ShloMosaic Idealize.ShloMosaic.TcCoe Idealize.ShloMosaic.Tactic
open Cert.Kernel5Ideal Cert.Kernel5Ideal.Gen Cert.Proof.Long.Units Cert.Proof.Chain
open Idealize.ShloMosaic.View (canon)

section General

variable {S : Shape} {e : EltTy}

/-- Pieces that miss an index do not matter there. -/
theorem canon_skip : ∀ (L M : List (View.Piece (Elt Ideal) S e)) (y : S.Idx), (∀ p ∈ L, y ∉ p.1.set) →
    canon (L ++ M) y = canon M y
  | [], _, _, _ => rfl
  | p :: L, M, y, h => by
    rw [List.cons_append, View.canon_cons_of_not_mem _ _ (h p List.mem_cons_self)]
    exact canon_skip L M y fun p hp => h p (List.mem_cons_of_mem _ hp)

/-- Of pieces with disjoint rectangles, the one that holds an index decides it. -/
theorem canon_take (r : Fin 16 → Rect S) (f : ∀ c, (r c).shape.Idx → Elt Ideal e) (M : List (View.Piece (Elt Ideal) S e))
    (c : Fin 16) (x : (r c).shape.Idx) : ∀ (o : List (Fin 16)), c ∈ o → (∀ c' ∈ o, ∀ x', (r c').emb x' = (r c).emb x → c' = c) →
    canon ((o.map fun c => (⟨r c, f c⟩ : View.Piece (Elt Ideal) S e)) ++ M) ((r c).emb x) = f c x
  | [], h, _ => absurd h List.not_mem_nil
  | c' :: o, h, hd => by
    by_cases hc : c' = c
    · subst hc
      exact View.canon_cons_emb _ _ _ _
    · rw [List.map_cons, List.cons_append, View.canon_cons_of_not_mem]
      · exact canon_take r f M c x o (List.mem_of_ne_of_mem (Ne.symm hc) h) fun c' hc' => hd c' (List.mem_cons_of_mem _ hc')
      · intro hm
        obtain ⟨x', hx'⟩ := (r c').exists_idx_of_mem hm
        exact hc (hd c' List.mem_cons_self x' hx')

theorem canon_take' (r : Fin 16 → Rect S) (f : ∀ c, (r c).shape.Idx → Elt Ideal e)
    (c : Fin 16) (x : (r c).shape.Idx) (o : List (Fin 16)) (h : c ∈ o) (hd : ∀ c' ∈ o, ∀ x', (r c').emb x' = (r c).emb x → c' = c) :
    canon (o.map fun c => (⟨r c, f c⟩ : View.Piece (Elt Ideal) S e)) ((r c).emb x) = f c x := by
  have := canon_take r f [] c x o h hd
  rwa [List.append_nil] at this

end General

theorem mem_order (c : Fin 16) : c ∈ order := by revert c; decide

/-! ## The rectangles' coordinates -/

theorem chain_inj {c c' : Fin 16} {x x'} (h : (rChain c').emb x' = (rChain c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhs_inj {c c' : Fin 16} {x x'} (h : (rLhsS c').emb x' = (rLhsS c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhsQ_inj {c c' : Fin 16} {x x'} (h : (rLhsQ c').emb x' = (rLhsQ c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem lhsQ_not_S {c c' : Fin 16} {x} : (rLhsQ c).emb x ∉ (rLhsS c').set := by
  intro hm
  obtain ⟨x', h⟩ := (rLhsS c').exists_idx_of_mem hm
  have e : 0 + 1 * (x' 2).val = 128 + 1 * (x 2).val := congrArg Fin.val (congrFun h 2)
  have h1 : (x' 2).val < 128 := (x' 2).isLt
  omega

theorem wc_inj {c c' : Fin 16} {x x'} (h : (rWc c').emb x' = (rWc c).emb x) : c' = c := by
  have e : c'.val + 1 * (x' 0).val = c.val + 1 * (x 0).val := congrArg Fin.val (congrFun h 0)
  have h1 : (x' 0).val < 1 := (x' 0).isLt
  have h2 : (x 0).val < 1 := (x 0).isLt
  exact Fin.ext (by omega)

theorem m_inj {c c' : Fin 16} {x x'} (h : (rM c').emb x' = (rM c).emb x) : c' = c := by
  have e : c'.val / 8 + 1 * (x' 0).val = c.val / 8 + 1 * (x 0).val := congrArg Fin.val (congrFun h 0)
  have e' : c'.val % 8 + 1 * (x' 1).val = c.val % 8 + 1 * (x 1).val := congrArg Fin.val (congrFun h 1)
  have h1 : (x' 0).val < 1 := (x' 0).isLt
  have h2 : (x 0).val < 1 := (x 0).isLt
  have h3 : (x' 1).val < 1 := (x' 1).isLt
  have h4 : (x 1).val < 1 := (x 1).isLt
  exact Fin.ext (by omega)

theorem st_inj {c c' : Fin 16} {x x'} (h : (rSt c').emb x' = (rSt c).emb x) : c' = c := by
  have e : c'.val / 8 + 1 * (x' 0).val = c.val / 8 + 1 * (x 0).val := congrArg Fin.val (congrFun h 0)
  have e' : c'.val % 8 + 1 * (x' 1).val = c.val % 8 + 1 * (x 1).val := congrArg Fin.val (congrFun h 1)
  have h1 : (x' 0).val < 1 := (x' 0).isLt
  have h2 : (x 0).val < 1 := (x 0).isLt
  have h3 : (x' 1).val < 1 := (x' 1).isLt
  have h4 : (x 1).val < 1 := (x 1).isLt
  exact Fin.ext (by omega)

theorem h_inj {c c' : Fin 16} (hb : c'.val / 8 = c.val / 8) {x x'} (h : (rH c').emb x' = (rH c).emb x) : c' = c := by
  have e : c'.val % 8 * 256 + 1 * (x' 2).val = c.val % 8 * 256 + 1 * (x 2).val := congrArg Fin.val (congrFun h 2)
  have h1 : (x' 2).val < 256 := (x' 2).isLt
  have h2 : (x 2).val < 256 := (x 2).isLt
  exact Fin.ext (by omega)

/-! ## The scratch buffers' reads -/

variable (R : Loads Ideal) (c : Fin 16)

def aOf (t : Fin 128) : EReal := R.gates c (ix3 0 t (la c))
def bOf (t : Fin 128) : EReal := R.gates c (ix3 0 t (lb c))
def mOf : EReal := R.stab c (ix3 0 0 0)
def wOf (s : Fin 128) : EReal := R.row c (ix3 0 0 s)
def qOf (t d : Fin 128) : EReal := R.q c (ix3 0 t d)
def kOf (d s : Fin 128) : EReal := R.k c (ix4 0 0 d s)
def vOf (s : Fin 128) (j : Fin 256) : EReal := R.v c (ix3 0 s j)
def stO (d : Fin 128) (j : Fin 384) : EReal := R.st c (ix4 0 0 d j)

variable (a16 : Memref sig .tc .vmem S16x128x128 .f32) (a17 : Memref sig .tc .vmem S16x128x256 .bf16)
  (a18 : Memref sig .tc .vmem S16x128x128 .f32) (a19 : Memref sig .tc .vmem S16x128x128 .bf16)
  (a20 : Memref sig .tc .vmem S16x8x128 .f32)

theorem readP : a16.view.readCov (piecesP R) (rChain c).toLoadRect = payP c (R.gates c) (R.row c) (R.stab c) := by
  rw [View.readCov_eq_canon']
  exact funext fun x => canon_take' rChain _ c x order (mem_order c) fun _ _ _ h => chain_inj h

theorem readE : a18.view.readCov (piecesE R) (rChain c).toLoadRect = payE c (R.gates c) (R.stab c) := by
  rw [View.readCov_eq_canon']
  exact funext fun x => canon_take' rChain _ c x order (mem_order c) fun _ _ _ h => chain_inj h

theorem readKw : a19.view.readCov (piecesKw R) (rChain c).toLoadRect = payKw c (R.gates c) (R.row c) (R.stab c) (R.k c) := by
  rw [View.readCov_eq_canon']
  exact funext fun x => canon_take' rChain _ c x order (mem_order c) fun _ _ _ h => chain_inj h

theorem readWc : a20.view.readCov (piecesWc R) (rWc1 c).toLoadRect (ix3 0 0 0) = payWc c (R.gates c) (R.stab c) (ix3 0 0 0) := by
  have h : (rWc1 c).toLoadRect.idx (ix3 0 0 0) = (rWc c).emb (ix3 0 0 0) := by
    funext a
    match a with
    | 0 => rfl
    | 1 => rfl
    | 2 => rfl
  rw [View.readCov_eq_canon']
  refine (congrArg (canon (piecesWc R)) h).trans ?_
  exact canon_take' rWc _ c (ix3 0 0 0) order (mem_order c) fun _ _ _ h => wc_inj h

theorem readLhsS (t s : Fin 128) : a17.view.readCov (piecesLhs R a16) (rLhs c).toLoadRect (ix3 0 t ⟨s.val, by omega⟩)
    = payS c (R.q c) (R.k c) (payP c (R.gates c) (R.row c) (R.stab c)) (ix3 0 t s) := by
  rw [View.readCov_eq_canon', ← readP R c a16]
  have h : (rLhs c).toLoadRect.idx (ix3 0 t ⟨s.val, by omega⟩) = (rLhsS c).emb (ix3 0 t s) := by
    funext a
    match a with
    | 0 => rfl
    | 1 => rfl
    | 2 => rfl
  refine (congrArg (canon (piecesLhs R a16)) h).trans ?_
  exact canon_take rLhsS _ _ c (ix3 0 t s) order (mem_order c) fun _ _ _ h => lhs_inj h

theorem readLhsQ (t d : Fin 128) : a17.view.readCov (piecesLhs R a16) (rLhs c).toLoadRect (ix3 0 t ⟨128 + d.val, by omega⟩)
    = payLq c (R.gates c) (R.stab c) (R.q c) (ix3 0 t d) := by
  rw [View.readCov_eq_canon']
  have h : (rLhs c).toLoadRect.idx (ix3 0 t ⟨128 + d.val, by omega⟩) = (rLhsQ c).emb (ix3 0 t d) := by
    funext a
    match a with
    | 0 => rfl
    | 1 => rfl
    | 2 => exact Fin.ext (by show 0 + 1 * (128 + d.val) = 128 + 1 * d.val; omega)
  refine (congrArg (canon (piecesLhs R a16)) h).trans ?_
  unfold piecesLhs
  rw [canon_skip]
  · exact canon_take' rLhsQ _ c (ix3 0 t d) order (mem_order c) fun _ _ _ h => lhsQ_inj h
  · intro p hp
    obtain ⟨c', _, rfl⟩ := List.mem_map.mp hp
    exact lhsQ_not_S

/-! ## The outputs and the carried buffers -/

theorem res_eq (t : Fin 128) (j : Fin 384) :
    readout (R.v c) (R.st c) (a17.view.readCov (piecesLhs R a16) (rLhs c).toLoadRect) (ix2 t j)
      = kRes (upTo c) (aOf R c) (mOf R c) (wOf R c) (qOf R c) (kOf R c) (ext (vOf R c)) (stO R c) t j := by
  rw [readout_at]
  unfold kRes kS
  congr 1
  · refine Finset.sum_congr rfl fun s _ => ?_
    rw [readLhsS, payS_at, payP_at, vext_at]
    rfl
  · refine Finset.sum_congr rfl fun d _ => ?_
    rw [readLhsQ, payLq_at]
    rfl

theorem hidden_at (o : List (Fin 16)) (hc : c ∈ o) (ho : ∀ c' ∈ o, c'.val / 8 = c.val / 8) (t : Fin 128) (j : Fin 256) :
    canon (piecesH R a16 a17 a18 o) (ix3 0 t ⟨c.val % 8 * 256 + j.val, by omega⟩)
      = kH (upTo c) (aOf R c) (bOf R c) (mOf R c) (wOf R c) (qOf R c) (kOf R c) (ext (vOf R c)) (stO R c) t j := by
  have h : (ix3 0 t ⟨c.val % 8 * 256 + j.val, by omega⟩ : S1x128x2048.Idx) = (rH c).emb (ix3 0 t j) := by
    funext a
    match a with
    | 0 => rfl
    | 1 => exact Fin.ext (by show t.val = 0 + 1 * t.val; omega)
    | 2 => exact Fin.ext (by show c.val % 8 * 256 + j.val = c.val % 8 * 256 + 1 * j.val; omega)
  rw [h]
  refine (canon_take' rH _ c (ix3 0 t j) o hc fun c' hc' _ h => h_inj (ho c' hc') h).trans ?_
  rw [payH_at, res_eq, res_eq, readE, payE_at]
  rfl

theorem state_at (M : List (View.Piece (Elt Ideal) S2x8x128x384 .f32)) (d : Fin 128) (j : Fin 384) :
    canon (piecesSt R a19 a20 ++ M) (ix4 ⟨c.val / 8, by omega⟩ ⟨c.val % 8, by omega⟩ d j)
      = kSt (lastOf c) (aOf R c) (mOf R c) (wOf R c) (kOf R c) (ext (vOf R c)) (stO R c) d j := by
  have h : (ix4 ⟨c.val / 8, by omega⟩ ⟨c.val % 8, by omega⟩ d j : S2x8x128x384.Idx) = (rSt c).emb (ix4 0 0 d j) := by
    funext a
    match a with
    | 0 => rfl
    | 1 => rfl
    | 2 => exact Fin.ext (by show d.val = 0 + 1 * d.val; omega)
    | 3 => exact Fin.ext (by show j.val = 0 + 1 * j.val; omega)
  rw [h]
  refine (canon_take rSt _ M c (ix4 0 0 d j) order (mem_order c) fun _ _ _ h => st_inj h).trans ?_
  rw [paySt_at, readWc, payWc_at, readKw]
  unfold kSt
  congr 1
  refine Finset.sum_congr rfl fun s _ => ?_
  rw [payKw_at, vext_at]
  rfl

theorem stab_at (M : List (View.Piece (Elt Ideal) S2x8x128 .f32)) (l : Fin 128) :
    canon (piecesM R ++ M) (ix3 ⟨c.val / 8, by omega⟩ ⟨c.val % 8, by omega⟩ l) = kM (lastOf c) (aOf R c) (bOf R c) (mOf R c) := by
  have h : (ix3 ⟨c.val / 8, by omega⟩ ⟨c.val % 8, by omega⟩ l : S2x8x128.Idx) = (rM c).emb (ix3 0 0 l) := by
    funext a
    match a with
    | 0 => rfl
    | 1 => rfl
    | 2 => exact Fin.ext (by show l.val = 0 + 1 * l.val; omega)
  rw [h]
  refine (canon_take rM _ M c (ix3 0 0 l) order (mem_order c) fun _ _ _ h => m_inj h).trans ?_
  rw [payM_at]
  rfl

/-! ## The first chunk's reads of the carried buffers -/

theorem order_drop (c : Fin 16) : ∀ c' ∈ order.drop (16 - c.val), c' ≠ c := by revert c; decide

theorem stab_zero (v : View sig .tc .vmem S2x8x128 .f32) :
    v.readCov ((piecesM R ++ ([⟨Rect.unit ![0, 0, 0] S2x8x128.size inb_S2x8x128_S2x8x128_0_0_0, k0_pay2 (F := Ideal)⟩] : List (View.Piece (Elt Ideal) S2x8x128 .f32))).drop (16 - c.val))
      (rM1 c).toLoadRect (ix3 0 0 0) = 0 := by
  have hl : (piecesM R).length = 16 := rfl
  rw [View.readCov_eq_canon', List.drop_append_of_le_length (by rw [hl]; omega)]
  unfold piecesM
  rw [← List.map_drop]
  refine (canon_skip _ _ _ ?_).trans ?_
  rotate_left
  · have h : (rM1 c).toLoadRect.idx (ix3 0 0 0) = (Rect.unit ![0, 0, 0] S2x8x128.size inb_S2x8x128_S2x8x128_0_0_0).emb
        (ix3 ⟨c.val / 8, by omega⟩ ⟨c.val % 8, by omega⟩ 0 : S2x8x128.Idx) := by
      funext a
      match a with
      | 0 => exact Fin.ext (by show c.val / 8 + 1 * 0 = 0 + 1 * (c.val / 8); omega)
      | 1 => exact Fin.ext (by show c.val % 8 + 1 * 0 = 0 + 1 * (c.val % 8); omega)
      | 2 => rfl
    refine (congrArg (canon _) h).trans ?_
    refine (View.canon_cons_emb _ _ _ _).trans ?_
    pointwise [k0_pay2]
  · intro p hp
    obtain ⟨c', hc', rfl⟩ := List.mem_map.mp hp
    intro hm
    obtain ⟨x', h⟩ := (rM c').exists_idx_of_mem hm
    have e : (rM1 c).toLoadRect.idx (ix3 0 0 0) = (rM c).emb (ix3 0 0 0) := by
      funext a
      match a with
      | 0 => rfl
      | 1 => rfl
      | 2 => rfl
    exact order_drop c c' hc' (m_inj (c := c) (x := ix3 0 0 0) (h.trans e))

theorem state_zero (v : View sig .tc .vmem S2x8x128x384 .f32) (d : Fin 128) (j : Fin 384) :
    v.readCov ((piecesSt R a19 a20 ++ ([⟨Rect.unit ![0, 0, 0, 0] S2x8x128x384.size inb_S2x8x128x384_S2x8x128x384_0_0_0_0, k0_pay1 (F := Ideal)⟩] : List (View.Piece (Elt Ideal) S2x8x128x384 .f32))).drop (16 - c.val))
      (rSt c).toLoadRect (ix4 0 0 d j) = 0 := by
  have hl : (piecesSt R a19 a20).length = 16 := rfl
  rw [View.readCov_eq_canon', List.drop_append_of_le_length (by rw [hl]; omega)]
  unfold piecesSt
  rw [← List.map_drop]
  refine (canon_skip _ _ _ ?_).trans ?_
  rotate_left
  · have h : (rSt c).toLoadRect.idx (ix4 0 0 d j) = (Rect.unit ![0, 0, 0, 0] S2x8x128x384.size inb_S2x8x128x384_S2x8x128x384_0_0_0_0).emb
        (ix4 ⟨c.val / 8, by omega⟩ ⟨c.val % 8, by omega⟩ d j : S2x8x128x384.Idx) := by
      funext a
      match a with
      | 0 => exact Fin.ext (by show c.val / 8 + 1 * 0 = 0 + 1 * (c.val / 8); omega)
      | 1 => exact Fin.ext (by show c.val % 8 + 1 * 0 = 0 + 1 * (c.val % 8); omega)
      | 2 => rfl
      | 3 => exact Fin.ext (by show 0 + 1 * j.val = 0 + 1 * j.val; rfl)
    refine (congrArg (canon _) h).trans ?_
    refine (View.canon_cons_emb _ _ _ _).trans ?_
    pointwise [k0_pay1]
  · intro p hp
    obtain ⟨c', hc', rfl⟩ := List.mem_map.mp hp
    intro hm
    obtain ⟨x', h⟩ := (rSt c').exists_idx_of_mem hm
    exact order_drop c c' hc' (st_inj (c := c) (x := ix4 0 0 d j) h)

end Cert.Proof.Long.Canon

end
-- ==== Proof.LongPieces.lean ====
module

public import proofs.«01_k».proof.Proof.LongUnits

@[expose] public section

/-!
# The pieces of the run are the chains' pieces
-/

set_option maxRecDepth 16384
set_option maxHeartbeats 4000000

noncomputable section

namespace Cert.Proof.Long.Pieces

open Idealize.ShloMosaic Idealize.ShloMosaic.TcCoe Idealize.ShloMosaic.Tactic
open Cert.Kernel5Ideal Cert.Kernel5Ideal.Gen Cert.Proof.Long.Units

variable {F : FTy → Type} [FloatOps F]

variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec F S1x128x1024 .bf16) (x1 : Vec F S1x128x1024 .bf16) (x2 : Vec F S1x1x1024x128 .bf16) (x3 : Vec F S1x1x1024x128 .bf16) (x4 : Vec F S1x128x2048 .bf16) (x5 : Vec F S1x128x2048 .bf16) (x6 : Vec F S1x128x128 .f32) (x7 : Vec F S1x128x128 .f32) (x8 : Vec F S1x16x128 .f32) (x9 : Vec F S1x16x128 .f32)

/-- What the chains load of the input blocks, over any stabilisers and states. -/
def loads (stab : Fin 16 → Vec F S1x1x1 .f32) (st : Fin 16 → Vec F S1x1x128x384 .f32) : Loads F where
  gates c := bif bwd c
    then View.readAt (Elt F) arg9.view (Rect.unit ![0, 0, 0] S1x128x128.size inb_S1x128x128_S1x128x128_0_0_0).toLoadRect (harg9.unread x7)
    else View.readAt (Elt F) arg8.view (Rect.unit ![0, 0, 0] S1x128x128.size inb_S1x128x128_S1x128x128_0_0_0).toLoadRect (harg8.unread x6)
  row c := bif bwd c then View.readAt (Elt F) arg11.view (rRow c).toLoadRect (harg11.unread x9)
    else View.readAt (Elt F) arg10.view (rRow c).toLoadRect (harg10.unread x8)
  stab := stab
  q c := bif bwd c then View.readAt (Elt F) arg3.view (rQ c).toLoadRect (harg3.unread x1)
    else View.readAt (Elt F) arg2.view (rQ c).toLoadRect (harg2.unread x0)
  k c := bif bwd c then View.readAt (Elt F) arg5.view (rK c).toLoadRect (harg5.unread x3)
    else View.readAt (Elt F) arg4.view (rK c).toLoadRect (harg4.unread x2)
  v c := bif bwd c then View.readAt (Elt F) arg7.view (rH c).toLoadRect (harg7.unread x5)
    else View.readAt (Elt F) arg6.view (rH c).toLoadRect (harg6.unread x4)
  st := st

section Carried
variable (hc0 : ¬cond0_0 i) (hc1 : cond0_1 i) (hc2 : cond0_2 i) (hc3 : cond0_3 i)
  (xs0 : Vec F S2x8x128x384 .f32) (xs1 : Vec F S2x8x128 .f32)

/-- What the chains load after a first point: the scratches hold what the point before left. -/
def loadsB : Loads F :=
  loads arg2 harg2 arg3 harg3 arg4 harg4 arg5 harg5 arg6 harg6 arg7 harg7 arg8 harg8 arg9 harg9 arg10 harg10 arg11 harg11 x0 x1 x2 x3 x4 x5 x6 x7 x8 x9 (fun c => View.readAt (Elt F) arg15.view (rM1 c).toLoadRect (harg15.unread xs1))
    (fun c => View.readAt (Elt F) arg14.view (rSt c).toLoadRect (harg14.unread xs0))

theorem stabB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.2.2.1 = piecesM (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) := by sl_kernel_rfl

theorem fwdB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).1 = piecesH (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg16 arg17 arg18 orderF := by sl_kernel_rfl
theorem bwdB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.1 = piecesH (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg16 arg17 arg18 orderB := by sl_kernel_rfl
theorem stateB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1).2.2.1 = piecesSt (loadsB arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) arg19 arg20 := by sl_kernel_rfl

end Carried

section First
variable (hc0 : cond0_0 i) (hc1 : cond0_1 i) (hc2 : cond0_2 i) (hc3 : cond0_3 i)

/-- What the chains load at a first point: each reads its own part of the scratches the point filled with zeros. -/
def loadsA : Loads F :=
  loads arg2 harg2 arg3 harg3 arg4 harg4 arg5 harg5 arg6 harg6 arg7 harg7 arg8 harg8 arg9 harg9 arg10 harg10 arg11 harg11 x0 x1 x2 x3 x4 x5 x6 x7 x8 x9 (fun j => arg15.view.readCov ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.2.1.drop (16 - j.val)) (rM1 j).toLoadRect)
    (fun j => arg14.view.readCov ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.1.drop (16 - j.val)) (rSt j).toLoadRect)

theorem stabA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.2.1 = piecesM (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ++
    [⟨Rect.unit ![0, 0, 0] S2x8x128.size inb_S2x8x128_S2x8x128_0_0_0, k0_pay2⟩] := by sl_kernel_rfl
theorem stateA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.2.1 = piecesSt (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg19 arg20 ++
    [⟨Rect.unit ![0, 0, 0, 0] S2x8x128x384.size inb_S2x8x128x384_S2x8x128x384_0_0_0_0, k0_pay1⟩] := by sl_kernel_rfl
theorem fwdA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).1 = piecesH (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg16 arg17 arg18 orderF := by sl_kernel_rfl
theorem bwdA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9).2.1 = piecesH (loadsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) arg16 arg17 arg18 orderB := by sl_kernel_rfl

end First

end Cert.Proof.Long.Pieces

end
-- ==== Proof.LongPoint.lean ====
/-
  The input blocks of a point, as each chain sees them, and what the point leaves at an index: the chain's unit of
  `Cert.Proof.Chain` over its blocks, its stabiliser and its state.
-/
module
public import proofs.«01_k».proof.Proof.LongCanon
public import proofs.«01_k».proof.Proof.LongPieces
public import Idealize.ShloMosaic.Lib.Pipeline.ValueKit

@[expose] public section

set_option maxRecDepth 16384
set_option maxHeartbeats 4000000

noncomputable section

namespace Cert.Proof.Long.Point

open Idealize.ShloMosaic Idealize.ShloMosaic.TcCoe Idealize.ShloMosaic.Tactic
open Cert.Kernel5Ideal Cert.Kernel5Ideal.Gen Cert.Proof.Long.Units Cert.Proof.Chain Cert.Proof.Long.Canon Cert.Proof.Long.Pieces
open Idealize.ShloMosaic.View (canon)

/-- The chain's direction and head, as the scratches number them. -/
abbrev dr (ch : Fin 16) : Fin 2 := ⟨ch.val / 8, by omega⟩
abbrev hd (ch : Fin 16) : Fin 8 := ⟨ch.val % 8, by omega⟩

section Blocks
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)

def blkA (ch : Fin 16) (t : Fin 128) : EReal := (bif bwd ch then x7 else x6) (ix3 0 t (la ch))
def blkB (ch : Fin 16) (t : Fin 128) : EReal := (bif bwd ch then x7 else x6) (ix3 0 t (lb ch))
def blkW (ch : Fin 16) (s : Fin 128) : EReal := (bif bwd ch then x9 else x8) (ix3 0 ch s)
def blkQ (ch : Fin 16) (t d : Fin 128) : EReal := (bif bwd ch then x1 else x0) (ix3 0 t ⟨ch.val % 8 * 128 + d.val, by omega⟩)
def blkK (ch : Fin 16) (d s : Fin 128) : EReal := (bif bwd ch then x3 else x2) (ix4 0 0 ⟨ch.val % 8 * 128 + d.val, by omega⟩ s)
def blkV (ch : Fin 16) (s : Fin 128) (j : Fin 256) : EReal := (bif bwd ch then x5 else x4) (ix3 0 s ⟨ch.val % 8 * 256 + j.val, by omega⟩)

end Blocks

section Generic
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (stab : Fin 16 → Vec Ideal S1x1x1 .f32) (st : Fin 16 → Vec Ideal S1x1x128x384 .f32) (ch : Fin 16)

theorem loads_a : aOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkA x6 x7 ch := by
  funext t
  unfold aOf blkA loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show 0 + 1 * (la ch).val = (la ch).val; omega)

theorem loads_b : bOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkB x6 x7 ch := by
  funext t
  unfold bOf blkB loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show 0 + 1 * (lb ch).val = (lb ch).val; omega)

theorem loads_w : wOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkW x8 x9 ch := by
  funext t
  unfold wOf blkW loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show ch.val + 1 * 0 = ch.val; omega)
    | 2 => exact Fin.ext (by show 0 + 1 * t.val = t.val; omega)

theorem loads_q : qOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkQ x0 x1 ch := by
  funext t d
  unfold qOf blkQ loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show ch.val % 8 * 128 + 1 * d.val = ch.val % 8 * 128 + d.val; omega)

theorem loads_k : kOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkK x2 x3 ch := by
  funext d t
  unfold kOf blkK loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => rfl
    | 2 => exact Fin.ext (by show ch.val % 8 * 128 + 1 * d.val = ch.val % 8 * 128 + d.val; omega)
    | 3 => exact Fin.ext (by show 0 + 1 * t.val = t.val; omega)

theorem loads_v : vOf (loads (F := Ideal) arg2 harg2 arg3 harg3 arg4 harg4 arg5 harg5 arg6 harg6 arg7 harg7 arg8 harg8 arg9 harg9 arg10 harg10 arg11 harg11 x0 x1 x2 x3 x4 x5 x6 x7 x8 x9 stab st) ch = blkV x4 x5 ch := by
  funext t j
  unfold vOf blkV loads
  dsimp only
  cases hb : bwd ch <;> simp only [cond_true, cond_false, View.readAt_eq_ld, Memref.IsWhole.read_unread]
  all_goals
    refine (View.ld_apply _ _ _).trans (congrArg _ (funext fun a => ?_))
    match a with
    | 0 => rfl
    | 1 => exact Fin.ext (by show 0 + 1 * t.val = t.val; omega)
    | 2 => exact Fin.ext (by show ch.val % 8 * 256 + 1 * j.val = ch.val % 8 * 256 + j.val; omega)

end Generic

section Carried
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (hc0 : ¬cond0_0 i) (hc1 : cond0_1 i) (hc2 : cond0_2 i) (hc3 : cond0_3 i)
  (xs0 : Vec Ideal S2x8x128x384 .f32) (xs1 : Vec Ideal S2x8x128 .f32) (ch : Fin 16)

theorem carried_m : mOf (loadsB (F := Ideal) arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) ch = xs1 (ix3 (dr ch) (hd ch) 0) := by
  unfold mOf loadsB loads
  dsimp only
  rw [View.readAt_eq_ld, Memref.IsWhole.read_unread]
  refine (View.ld_apply _ _ _).trans (congrArg _ (funext fun a => ?_))
  match a with
  | 0 => rfl
  | 1 => rfl
  | 2 => rfl

theorem carried_st : stO (loadsB (F := Ideal) arg2 harg2 arg3 harg3 arg4 harg4 arg5 harg5 arg6 harg6 arg7 harg7 arg8 harg8 arg9 harg9 arg10 harg10 arg11 harg11 arg14 harg14 arg15 harg15 x0 x1 x2 x3 x4 x5 x6 x7 x8 x9 xs0 xs1) ch = fun d j => xs0 (ix4 (dr ch) (hd ch) d j) := by
  funext d j
  unfold stO loadsB loads
  dsimp only
  rw [View.readAt_eq_ld, Memref.IsWhole.read_unread]
  refine (View.ld_apply _ _ _).trans (congrArg _ (funext fun a => ?_))
  match a with
  | 0 => rfl
  | 1 => rfl
  | 2 => exact Fin.ext (by show 0 + 1 * d.val = d.val; omega)
  | 3 => exact Fin.ext (by show 0 + 1 * j.val = j.val; omega)

theorem fwdB (hch : ch.val < 8) (t : Fin 128) (j : Fin 256) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 0 t ⟨ch.val % 8 * 256 + j.val, by omega⟩)
    = kH (upTo ch) (blkA x6 x7 ch) (blkB x6 x7 ch) (xs1 (ix3 (dr ch) (hd ch) 0)) (blkW x8 x9 ch) (blkQ x0 x1 ch) (blkK x2 x3 ch) (ext (blkV x4 x5 ch)) (fun d j => xs0 (ix4 (dr ch) (hd ch) d j)) t j := by
  unfold out0_B_10
  rw [View.read_writes_junk_eq_canon, Pieces.fwdB]
  refine (hidden_at _ ch arg16 arg17 arg18 orderF ?_ ?_ t j).trans ?_
  · revert hch; revert ch; decide
  · revert hch; revert ch; decide
  · rw [carried_m, carried_st]
    unfold loadsB
    rw [loads_a, loads_b, loads_w, loads_q, loads_k, loads_v]

theorem bwdB (hch : 8 ≤ ch.val) (t : Fin 128) (j : Fin 256) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 0 t ⟨ch.val % 8 * 256 + j.val, by omega⟩)
    = kH (upTo ch) (blkA x6 x7 ch) (blkB x6 x7 ch) (xs1 (ix3 (dr ch) (hd ch) 0)) (blkW x8 x9 ch) (blkQ x0 x1 ch) (blkK x2 x3 ch) (ext (blkV x4 x5 ch)) (fun d j => xs0 (ix4 (dr ch) (hd ch) d j)) t j := by
  unfold out0_B_11
  rw [View.read_writes_junk_eq_canon, Pieces.bwdB]
  refine (hidden_at _ ch arg16 arg17 arg18 orderB ?_ ?_ t j).trans ?_
  · revert hch; revert ch; decide
  · revert hch; revert ch; decide
  · rw [carried_m, carried_st]
    unfold loadsB
    rw [loads_a, loads_b, loads_w, loads_q, loads_k, loads_v]

theorem stabB (l : Fin 128) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix3 (dr ch) (hd ch) l)
    = kM (lastOf ch) (blkA x6 x7 ch) (blkB x6 x7 ch) (xs1 (ix3 (dr ch) (hd ch) 0)) := by
  unfold sout0_B_1
  rw [View.read_writes_junk_eq_canon, Pieces.stabB]
  refine ((congrArg (fun L => canon L _) (List.append_nil _)).symm.trans (stab_at _ ch _ l)).trans ?_
  rw [carried_m]
  unfold loadsB
  rw [loads_a, loads_b]

theorem stateB (d : Fin 128) (j : Fin 384) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 xs0 xs1 (ix4 (dr ch) (hd ch) d j)
    = kSt (lastOf ch) (blkA x6 x7 ch) (xs1 (ix3 (dr ch) (hd ch) 0)) (blkW x8 x9 ch) (blkK x2 x3 ch) (ext (blkV x4 x5 ch)) (fun d j => xs0 (ix4 (dr ch) (hd ch) d j)) d j := by
  unfold sout0_B_0
  rw [View.read_writes_junk_eq_canon, Pieces.stateB]
  refine ((congrArg (fun L => canon L _) (List.append_nil _)).symm.trans (state_at _ ch arg19 arg20 _ d j)).trans ?_
  rw [carried_m, carried_st]
  unfold loadsB
  rw [loads_a, loads_w, loads_k, loads_v]

end Carried

section First
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x128x2048 .bf16) (harg12 : arg12.IsWhole) (arg13 : Memref sig .tc .vmem S1x128x2048 .bf16) (harg13 : arg13.IsWhole) (arg14 : Memref sig .tc .vmem S2x8x128x384 .f32) (harg14 : arg14.IsWhole) (arg15 : Memref sig .tc .vmem S2x8x128 .f32) (harg15 : arg15.IsWhole) (arg16 : Memref sig .tc .vmem S16x128x128 .f32) (harg16 : arg16.IsWhole) (arg17 : Memref sig .tc .vmem S16x128x256 .bf16) (harg17 : arg17.IsWhole) (arg18 : Memref sig .tc .vmem S16x128x128 .f32) (harg18 : arg18.IsWhole) (arg19 : Memref sig .tc .vmem S16x128x128 .bf16) (harg19 : arg19.IsWhole) (arg20 : Memref sig .tc .vmem S16x8x128 .f32) (harg20 : arg20.IsWhole)
variable (x0 : Vec Ideal S1x128x1024 .bf16) (x1 : Vec Ideal S1x128x1024 .bf16) (x2 : Vec Ideal S1x1x1024x128 .bf16) (x3 : Vec Ideal S1x1x1024x128 .bf16) (x4 : Vec Ideal S1x128x2048 .bf16) (x5 : Vec Ideal S1x128x2048 .bf16) (x6 : Vec Ideal S1x128x128 .f32) (x7 : Vec Ideal S1x128x128 .f32) (x8 : Vec Ideal S1x16x128 .f32) (x9 : Vec Ideal S1x16x128 .f32)
variable (hc0 : cond0_0 i) (hc1 : cond0_1 i) (hc2 : cond0_2 i) (hc3 : cond0_3 i) (ch : Fin 16)

theorem first_m : mOf (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch = 0 := by
  refine Eq.trans ?_ (stab_zero (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch arg15.view)
  rw [← Pieces.stabA]
  rfl

theorem first_st : stO (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch = fun _ _ => 0 := by
  funext d j
  refine Eq.trans ?_ (state_zero (loadsA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 hc1 hc2 hc3) ch arg19 arg20 arg14.view d j)
  rw [← Pieces.stateA]
  rfl

theorem fwdA (hch : ch.val < 8) (t : Fin 128) (j : Fin 256) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 0 t ⟨ch.val % 8 * 256 + j.val, by omega⟩)
    = kH (upTo ch) (blkA x6 x7 ch) (blkB x6 x7 ch) 0 (blkW x8 x9 ch) (blkQ x0 x1 ch) (blkK x2 x3 ch) (ext (blkV x4 x5 ch)) (fun _ _ => 0) t j := by
  unfold out0_A_10
  rw [View.read_writes_junk_eq_canon, Pieces.fwdA]
  refine (hidden_at _ ch arg16 arg17 arg18 orderF ?_ ?_ t j).trans ?_
  · revert hch; revert ch; decide
  · revert hch; revert ch; decide
  · rw [first_m, first_st]
    unfold loadsA
    rw [loads_a, loads_b, loads_w, loads_q, loads_k, loads_v]

theorem bwdA (hch : 8 ≤ ch.val) (t : Fin 128) (j : Fin 256) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 0 t ⟨ch.val % 8 * 256 + j.val, by omega⟩)
    = kH (upTo ch) (blkA x6 x7 ch) (blkB x6 x7 ch) 0 (blkW x8 x9 ch) (blkQ x0 x1 ch) (blkK x2 x3 ch) (ext (blkV x4 x5 ch)) (fun _ _ => 0) t j := by
  unfold out0_A_11
  rw [View.read_writes_junk_eq_canon, Pieces.bwdA]
  refine (hidden_at _ ch arg16 arg17 arg18 orderB ?_ ?_ t j).trans ?_
  · revert hch; revert ch; decide
  · revert hch; revert ch; decide
  · rw [first_m, first_st]
    unfold loadsA
    rw [loads_a, loads_b, loads_w, loads_q, loads_k, loads_v]

theorem stabA (l : Fin 128) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix3 (dr ch) (hd ch) l)
    = kM (lastOf ch) (blkA x6 x7 ch) (blkB x6 x7 ch) 0 := by
  unfold sout0_A_1
  rw [View.read_writes_junk_eq_canon, Pieces.stabA]
  refine ((stab_at _ ch _ l)).trans ?_
  rw [first_m]
  unfold loadsA
  rw [loads_a, loads_b]

theorem stateA (d : Fin 128) (j : Fin 384) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 (ix4 (dr ch) (hd ch) d j)
    = kSt (lastOf ch) (blkA x6 x7 ch) 0 (blkW x8 x9 ch) (blkK x2 x3 ch) (ext (blkV x4 x5 ch)) (fun _ _ => 0) d j := by
  unfold sout0_A_0
  rw [View.read_writes_junk_eq_canon, Pieces.stateA]
  refine ((state_at _ ch arg19 arg20 _ d j)).trans ?_
  rw [first_m, first_st]
  unfold loadsA
  rw [loads_a, loads_w, loads_k, loads_v]

end First

end Cert.Proof.Long.Point
-- ==== Proof.LongInputs.lean ====
/-
  A point's input blocks, read at an index, are the arguments at the point's batch and chunk.
-/
module
public import proofs.«01_k».proof.Proof.Gen.Kernel5Ideal.Value
public import Idealize.ShloMosaic.Lib.Pipeline.ValueKit

@[expose] public section

set_option maxRecDepth 16384

noncomputable section

namespace Cert.Proof.Long.Inputs

open Idealize.ShloMosaic Idealize.ShloMosaic.TcCoe Idealize.ShloMosaic.Tactic
open Cert.Kernel5Ideal Cert.Kernel5Ideal.Gen

variable {F : FTy → Type} [FloatOps F] (m : (ℓ : Loc nD τ sig) → Buf (Elt F) ℓ) (c : Dev nD)

theorem idx_fwd : ∀ t : Fin cfg0.N, win0_0.index t = ![t.val / 128, t.val % 128, 0] ∧ win0_2.index t = ![t.val / 128, t.val % 128, 0, 0]
    ∧ win0_4.index t = ![t.val / 128, t.val % 128, 1] ∧ win0_6.index t = ![t.val / 128, t.val % 128, 0]
    ∧ win0_8.index t = ![t.val / 128, 0, t.val % 128] := by decide +kernel

theorem idx_bwd : ∀ t : Fin cfg0.N, win0_1.index t = ![t.val / 128, 127 - t.val % 128, 0] ∧ win0_3.index t = ![t.val / 128, 127 - t.val % 128, 0, 0]
    ∧ win0_5.index t = ![t.val / 128, 127 - t.val % 128, 1] ∧ win0_7.index t = ![t.val / 128, 127 - t.val % 128, 0]
    ∧ win0_9.index t = ![t.val / 128, 0, 127 - t.val % 128] := by decide +kernel

theorem idx_out : ∀ t : Fin cfg0.N, win0_10.index t = ![t.val / 128, t.val % 128, 0] ∧ win0_11.index t = ![t.val / 128, 127 - t.val % 128, 0] := by
  decide +kernel

section At
variable (t : Fin cfg0.N) (bt : Fin 2) (j : Fin 128) (ht : t.val = 128 * bt.val + j.val)
include ht

theorem b0 (r : Fin 128) (l : Fin 1024) : iblk m c 0 t (ix3 0 r l) = m ((c : Thread nD τ).loc main_arg0) (ix3 bt ⟨j.val * 128 + r.val, by omega⟩ l) := by
  have h1 : t.val / 128 = bt.val := by omega
  have h2 : t.val % 128 = j.val := by omega
  blk_ext [iblk, V, idx_fwd t]

theorem b1 (r : Fin 128) (l : Fin 1024) : iblk m c 1 t (ix3 0 r l) = m ((c : Thread nD τ).loc main_arg0) (ix3 bt ⟨(127 - j.val) * 128 + r.val, by omega⟩ l) := by
  have h1 : t.val / 128 = bt.val := by omega
  have h2 : t.val % 128 = j.val := by omega
  blk_ext [iblk, V, idx_bwd t]

theorem b2 (l : Fin 1024) (r : Fin 128) : iblk m c 2 t (ix4 0 0 l r) = m ((c : Thread nD τ).loc main_arg1) (ix4 bt j l r) := by
  have h1 : t.val / 128 = bt.val := by omega
  have h2 : t.val % 128 = j.val := by omega
  blk_ext [iblk, V, idx_fwd t]

theorem b3 (l : Fin 1024) (r : Fin 128) : iblk m c 3 t (ix4 0 0 l r) = m ((c : Thread nD τ).loc main_arg1) (ix4 bt ⟨127 - j.val, by omega⟩ l r) := by
  have h1 : t.val / 128 = bt.val := by omega
  have h2 : t.val % 128 = j.val := by omega
  blk_ext [iblk, V, idx_bwd t]

theorem b4 (r : Fin 128) (l : Fin 2048) : X0_4 m c t (ix3 0 r l) = m ((c : Thread nD τ).loc main_arg2) (ix3 bt ⟨j.val * 128 + r.val, by omega⟩ ⟨2048 + l.val, by omega⟩) := by
  have h1 : t.val / 128 = bt.val := by omega
  have h2 : t.val % 128 = j.val := by omega
  unfold X0_4 Pipeline.Window.fill
  rw [dif_pos (moved0_4 t _)]
  blk_ext [iblk, V, idx_fwd t]

theorem b5 (r : Fin 128) (l : Fin 2048) : X0_5 m c t (ix3 0 r l) = m ((c : Thread nD τ).loc main_arg2) (ix3 bt ⟨(127 - j.val) * 128 + r.val, by omega⟩ ⟨2048 + l.val, by omega⟩) := by
  have h1 : t.val / 128 = bt.val := by omega
  have h2 : t.val % 128 = j.val := by omega
  unfold X0_5 Pipeline.Window.fill
  rw [dif_pos (moved0_5 t _)]
  blk_ext [iblk, V, idx_bwd t]

theorem b6 (r l : Fin 128) : iblk m c 6 t (ix3 0 r l) = m ((c : Thread nD τ).loc main_arg3) (ix3 bt ⟨j.val * 128 + r.val, by omega⟩ l) := by
  have h1 : t.val / 128 = bt.val := by omega
  have h2 : t.val % 128 = j.val := by omega
  blk_ext [iblk, V, idx_fwd t]

theorem b7 (r l : Fin 128) : iblk m c 7 t (ix3 0 r l) = m ((c : Thread nD τ).loc main_arg3) (ix3 bt ⟨(127 - j.val) * 128 + r.val, by omega⟩ l) := by
  have h1 : t.val / 128 = bt.val := by omega
  have h2 : t.val % 128 = j.val := by omega
  blk_ext [iblk, V, idx_bwd t]

theorem b8 (l : Fin 16) (r : Fin 128) : iblk m c 8 t (ix3 0 l r) = m ((c : Thread nD τ).loc main_arg4) (ix3 bt l ⟨j.val * 128 + r.val, by omega⟩) := by
  have h1 : t.val / 128 = bt.val := by omega
  have h2 : t.val % 128 = j.val := by omega
  blk_ext [iblk, V, idx_fwd t]

theorem b9 (l : Fin 16) (r : Fin 128) : iblk m c 9 t (ix3 0 l r) = m ((c : Thread nD τ).loc main_arg4) (ix3 bt l ⟨(127 - j.val) * 128 + r.val, by omega⟩) := by
  have h1 : t.val / 128 = bt.val := by omega
  have h2 : t.val % 128 = j.val := by omega
  blk_ext [iblk, V, idx_bwd t]

end At

end Cert.Proof.Long.Inputs
-- ==== Proof.LongRefRun.lean ====
/- The reference's run over one trip of its scan: the carried values and the chunked inputs that a valuation holds
   form a `State`, one pass of the loop's body takes it to `step` of it, and the results are read off the state
   after the sixty-four chunks. -/
module

public import proofs.«01_k».proof.Proof.Gen.Reference5Ideal.Run
public import proofs.«01_k».proof.Proof.Gen.Reference5Ideal.Step

@[expose] public section

set_option maxRecDepth 16384

noncomputable section

namespace Cert.Proof.Long.RefRun

open Idealize.ShloMosaic Idealize.ShloMosaic.TcCoe Idealize.SL.Sem Idealize.ShloMosaic.StableHlo
open Cert.Reference5Ideal Cert.Reference5Ideal.Gen Cert.Reference5Ideal.Value Cert.Reference5Ideal.Step

variable {F : FTy → Type} [FloatOps F]

/-- The loop's carried values and chunked inputs, as a valuation holds them. -/
def held (V : Valuation τ sig (Elt F)) : State F where
  main_v46_8 := V (Proc.devRef .tc main_v46_8)
  main_v46_9 := V (Proc.devRef .tc main_v46_9)
  main_v46_10 := V (Proc.devRef .tc main_v46_10)
  main_v46_11 := V (Proc.devRef .tc main_v46_11)
  main_v46_0 := V (Proc.devRef .tc main_v46_0)
  main_v46_1 := V (Proc.devRef .tc main_v46_1)
  main_v46_2 := V (Proc.devRef .tc main_v46_2)
  main_v46_3 := V (Proc.devRef .tc main_v46_3)
  main_v46_4 := V (Proc.devRef .tc main_v46_4)
  main_v46_5 := V (Proc.devRef .tc main_v46_5)

/-- The valuation before chunk `j`: the chunk's number and the triangular mask are in place. -/
structure At (V : Valuation τ sig (Elt F)) (j : ℕ) : Prop where
  count : V (Proc.devRef .tc main_v46_7) = constantI S_ 32 (BitVec.ofNat 32 j)
  mask : V (Proc.devRef .tc main_v46_6) = K_main_v29 (F := F)

variable {V : Valuation τ sig (Elt F)} {j : ℕ}

theorem queries (h : At V j) : res_main_while0b_v56 V = b5 j (held V) := by
  unfold res_main_while0b_v56; rw [h.count]; rfl
theorem keys (h : At V j) : res_main_while0b_v57 V = b11 j (held V) := by
  unfold res_main_while0b_v57; rw [h.count]; rfl
theorem values (h : At V j) : res_main_while0b_v58 V = b17 j (held V) := by
  unfold res_main_while0b_v58; rw [h.count]; rfl
theorem forget (h : At V j) : res_main_while0b_v59 V = b22 j (held V) := by
  unfold res_main_while0b_v59; rw [h.count]; rfl
theorem runmax (h : At V j) : res_main_while0b_v60 V = b27 j (held V) := by
  unfold res_main_while0b_v60; rw [h.count]; rfl
theorem weight (h : At V j) : res_main_while0b_v61 V = b32 j (held V) := by
  unfold res_main_while0b_v61; rw [h.count]; rfl
theorem inter (h : At V j) : res_main_while0b_v70 V = b45 j (held V) := by
  unfold res_main_while0b_v70; rw [forget h]; rfl
theorem stab (h : At V j) : res_main_while0b_v72 V = b47 j (held V) := by
  unfold res_main_while0b_v72; rw [inter h, forget h, runmax h]; rfl
theorem winter (h : At V j) : res_main_while0b_v74 V = b49 j (held V) := by
  unfold res_main_while0b_v74; rw [inter h, stab h]; rfl
theorem scores (h : At V j) : res_main_while0b_v80 V = b55 j (held V) := by
  unfold res_main_while0b_v80; rw [queries h, keys h, forget h, weight h, stab h, h.mask]; rfl
theorem lastForget (h : At V j) : res_main_while0b_v99 V = b75 j (held V) := by
  unfold res_main_while0b_v99; rw [forget h]; rfl
theorem stabNew (h : At V j) : res_main_while0b_v107 V = b83 j (held V) := by
  unfold res_main_while0b_v107; rw [lastForget h, runmax h]; rfl
theorem decay (h : At V j) : res_main_while0b_v110 V = b86 j (held V) := by
  unfold res_main_while0b_v110; rw [lastForget h, stabNew h]; rfl
theorem keyWeight (h : At V j) : res_main_while0b_v114 V = b90 j (held V) := by
  unfold res_main_while0b_v114; rw [lastForget h, weight h, stabNew h]; rfl

theorem memory (h : At V j) : Cert.Reference5Ideal.Value.step_main_v46_8 V = b98 j (held V) := by
  unfold Cert.Reference5Ideal.Value.step_main_v46_8; rw [decay h, keyWeight h, values h, keys h]; rfl
theorem normaliser (h : At V j) : Cert.Reference5Ideal.Value.step_main_v46_9 V = b103 j (held V) := by
  unfold Cert.Reference5Ideal.Value.step_main_v46_9; rw [decay h, keyWeight h, keys h]; rfl
theorem stabiliser (h : At V j) : Cert.Reference5Ideal.Value.step_main_v46_10 V = b83 j (held V) := by
  unfold Cert.Reference5Ideal.Value.step_main_v46_10; rw [stabNew h]; rfl
theorem output (h : At V j) : Cert.Reference5Ideal.Value.step_main_v46_11 V = b109 j (held V) := by
  unfold Cert.Reference5Ideal.Value.step_main_v46_11; rw [winter h, queries h, scores h, values h, stab h, h.count]; rfl

theorem held_trip (h : At V j) : held (STEP V) = step j (held V) := by
  unfold step
  simp only [held]
  rw [State.mk.injEq]
  exact ⟨(STEP_main_v46_8 V).trans (memory h), (STEP_main_v46_9 V).trans (normaliser h),
    (STEP_main_v46_10 V).trans (stabiliser h), (STEP_main_v46_11 V).trans (output h), STEP_main_v46_0 V,
    STEP_main_v46_1 V, STEP_main_v46_2 V, STEP_main_v46_3 V, STEP_main_v46_4 V, STEP_main_v46_5 V⟩

theorem at_trip (h : At V j) : At (STEP V) (j + 1) where
  count := by
    rw [STEP_main_v46_7]; unfold step_main_v46_7; rw [h.count]
    funext i
    show BitVec.ofNat 32 j + 1#32 = BitVec.ofNat 32 (j + 1)
    simp only [BitVec.ofNat_add]
  mask := (STEP_main_v46_6 V).trans h.mask

variable (m : (ℓ : Loc nD τ sig) → Buf (Elt F) ℓ) (c : Dev nD)

/-- The state before chunk `n` of device `c`. -/
def state : ℕ → State F
  | 0 => init (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))
  | n + 1 => step n (state n)

set_option maxRecDepth 65536 in
set_option maxHeartbeats 800000 in
theorem entry_at : At (entryContents preI m c) 0 := by
  constructor <;> (simp only [entryContents, afterL_cons, afterL_nil]; after_reads_simp) <;> rfl

set_option maxRecDepth 65536 in
set_option maxHeartbeats 1600000 in
theorem entry_held : held (entryContents preI m c) = state m c 0 := by
  unfold held state init
  rw [State.mk.injEq]
  refine ⟨?_, ?_, ?_, ?_, ?_, ?_, ?_, ?_, ?_, ?_⟩ <;>
    (simp only [entryContents, afterL_cons, afterL_nil]; after_reads_simp) <;> rfl

theorem iter : ∀ k, At (STEP^[k] (entryContents preI m c)) k ∧ held (STEP^[k] (entryContents preI m c)) = state m c k
  | 0 => ⟨entry_at m c, entry_held m c⟩
  | k + 1 => by
    rw [Function.iterate_succ_apply']
    exact ⟨at_trip (iter k).1, by rw [held_trip (iter k).1, (iter k).2]; rfl⟩

theorem result_fwd (V : Valuation τ sig (Elt F)) : out_main_v53 V = R_main_v53 (held V) := by
  unfold out_main_v53 R_main_v53; rfl

theorem result_bwd (V : Valuation τ sig (Elt F)) : out_main_v55 V = R_main_v55 (held V) := by
  unfold out_main_v55 R_main_v55; rfl

theorem run (ρ : Dev nD → PrngReg) :
    θ_run (defs (F := F)) (onTc (τ := τ) (main (F := F))) ⟨m, fun _ => 0, ρ⟩ fun r => ∀ c : Dev nD,
      r.2.mem ((c.tc : Thread nD τ).loc main_v53) = R_main_v53 (state m c 128)
      ∧ r.2.mem ((c.tc : Thread nD τ).loc main_v55) = R_main_v55 (state m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have e := (iter m c 128).2
    exact ⟨(h c).1.trans ((result_fwd _).trans (congrArg _ e)), (h c).2.1.trans ((result_bwd _).trans (congrArg _ e)),
      (h c).2.2⟩) (Value.run m ρ)

end Cert.Proof.Long.RefRun

end
-- ==== Proof.LongRefStep.lean ====
module

public import Idealize.ShloMosaic.Lib.Pointwise
public import Idealize.ShloMosaic.Lib.DynamicIndex
public import proofs.«01_k».proof.Proof.LongRefRun
public import proofs.«01_k».proof.Proof.Chain

@[expose] public section

/-!
# One trip of the reference at an index
-/

set_option maxRecDepth 16384

noncomputable section

namespace Cert.Proof.Long.RefStep

open Idealize.ShloMosaic Idealize.ShloMosaic.TcCoe
open Cert.Reference5Ideal Cert.Reference5Ideal.Gen Cert.Reference5Ideal.Step Cert.Proof.Chain

variable (j : Fin 128) (s : State Ideal)

theorem toInt_chunk (j : Fin 128) : (BitVec.ofNat 32 j.val).toInt = ((j.val : ℕ) : ℤ) := by revert j; decide

theorem slices4 (j : Fin 128) : S128x4x8x128.Slices (fun a => (![j.val, 0, 0, 0] : Fin 4 → ℕ) a) S1x4x8x128 := by
  revert j; decide
theorem slicesK (j : Fin 128) : S128x4x8x128x128.Slices (fun a => (![j.val, 0, 0, 0, 0] : Fin 5 → ℕ) a) S1x4x8x128x128 := by
  revert j; decide
theorem slicesV (j : Fin 128) : S128x4x8x128x256.Slices (fun a => (![j.val, 0, 0, 0, 0] : Fin 5 → ℕ) a) S1x4x8x128x256 := by
  revert j; decide

theorem start4 (j : Fin 128) (z : (⟨S_, .i32⟩ : BufTy).Contents (Elt Ideal)) (hz : z = constantI S_ 32 0#32) : ∀ a : Fin 4,
    ((((![(constantI S_ 32 (BitVec.ofNat 32 j.val) : (⟨S_, .i32⟩ : BufTy).Contents (Elt Ideal)), z, z, z] : Fin 4 → (⟨S_, .i32⟩ : BufTy).Contents (Elt Ideal))) a (Shape.Idx.first h_S_)).toInt)
      = (((![j.val, 0, 0, 0] : Fin 4 → ℕ) a : ℕ) : ℤ)
  | 0 => toInt_chunk j
  | 1 => by subst hz; rfl
  | 2 => by subst hz; rfl
  | 3 => by subst hz; rfl

theorem start5 (j : Fin 128) (z : (⟨S_, .i32⟩ : BufTy).Contents (Elt Ideal)) (hz : z = constantI S_ 32 0#32) : ∀ a : Fin 5,
    ((((![(constantI S_ 32 (BitVec.ofNat 32 j.val) : (⟨S_, .i32⟩ : BufTy).Contents (Elt Ideal)), z, z, z, z] : Fin 5 → (⟨S_, .i32⟩ : BufTy).Contents (Elt Ideal))) a (Shape.Idx.first h_S_)).toInt)
      = (((![j.val, 0, 0, 0, 0] : Fin 5 → ℕ) a : ℕ) : ℤ)
  | 0 => toInt_chunk j
  | 1 => by subst hz; rfl
  | 2 => by subst hz; rfl
  | 3 => by subst hz; rfl
  | 4 => by subst hz; rfl

theorem q_at (x : Fin 4) (h : Fin 8) (t d : Fin 128) : b5 j.val s (ix4 x h t d) = s.main_v46_0 (ix5 j x h t d) := by
  have e : b4 j.val s = extractStridedSlice S1x4x8x128x128 _ s.main_v46_0 (slicesK j) :=
    Host.dynamicSlice_eq_extractStridedSlice _ _ _ _ _ (slicesK j) (start5 j _ rfl)
  unfold b5; rw [e]
  pointwise []

theorem k_at (x : Fin 4) (h : Fin 8) (t d : Fin 128) : b11 j.val s (ix4 x h t d) = s.main_v46_1 (ix5 j x h t d) := by
  have e : b10 j.val s = extractStridedSlice S1x4x8x128x128 _ s.main_v46_1 (slicesK j) :=
    Host.dynamicSlice_eq_extractStridedSlice _ _ _ _ _ (slicesK j) (start5 j _ rfl)
  unfold b11; rw [e]
  pointwise []

theorem v_at (x : Fin 4) (h : Fin 8) (t : Fin 128) (d : Fin 256) : b17 j.val s (ix4 x h t d) = s.main_v46_2 (ix5 j x h t d) := by
  have e : b16 j.val s = extractStridedSlice S1x4x8x128x256 _ s.main_v46_2 (slicesV j) :=
    Host.dynamicSlice_eq_extractStridedSlice _ _ _ _ _ (slicesV j) (start5 j _ rfl)
  unfold b17; rw [e]
  pointwise []

theorem b_at (x : Fin 4) (h : Fin 8) (t : Fin 128) : b22 j.val s (ix3 x h t) = s.main_v46_3 (ix4 j x h t) := by
  have e : b21 j.val s = extractStridedSlice S1x4x8x128 _ s.main_v46_3 (slices4 j) :=
    Host.dynamicSlice_eq_extractStridedSlice _ _ _ _ _ (slices4 j) (start4 j _ rfl)
  unfold b22; rw [e]
  pointwise []

theorem a_at (x : Fin 4) (h : Fin 8) (t : Fin 128) : b27 j.val s (ix3 x h t) = s.main_v46_4 (ix4 j x h t) := by
  have e : b26 j.val s = extractStridedSlice S1x4x8x128 _ s.main_v46_4 (slices4 j) :=
    Host.dynamicSlice_eq_extractStridedSlice _ _ _ _ _ (slices4 j) (start4 j _ rfl)
  unfold b27; rw [e]
  pointwise []

theorem w_at (x : Fin 4) (h : Fin 8) (t : Fin 128) : b32 j.val s (ix3 x h t) = s.main_v46_5 (ix4 j x h t) := by
  have e : b31 j.val s = extractStridedSlice S1x4x8x128 _ s.main_v46_5 (slices4 j) :=
    Host.dynamicSlice_eq_extractStridedSlice _ _ _ _ _ (slices4 j) (start4 j _ rfl)
  unfold b32; rw [e]
  pointwise []

/-! ## What a chain's chunk reads -/

variable (x : Fin 4) (h : Fin 8)

def aR (t : Fin 128) : EReal := s.main_v46_4 (ix4 j x h t)
def bR (t : Fin 128) : EReal := s.main_v46_3 (ix4 j x h t)
def wR (t : Fin 128) : EReal := s.main_v46_5 (ix4 j x h t)
def qR (t d : Fin 128) : EReal := s.main_v46_0 (ix5 j x h t d)
def kR (t d : Fin 128) : EReal := s.main_v46_1 (ix5 j x h t d)
def vR (t : Fin 128) (d : Fin 256) : EReal := s.main_v46_2 (ix5 j x h t d)
def mR : EReal := s.main_v46_10 (ix2 x h)
def CR (j : Fin 256) (d : Fin 128) : EReal := s.main_v46_8 (ix4 x h j d)
def NR (d : Fin 128) : EReal := s.main_v46_9 (ix3 x h d)

theorem b47_at (t : Fin 128) : b47 j.val s (ix3 x h t) = rMt (aR j s x h) (bR j s x h) (mR s x h) t := by
  have e : b47 j.val s (ix3 x h t) = max (b22 j.val s (ix3 x h t) + s.main_v46_10 (ix2 x h)) (b22 j.val s (ix3 x h t) + b27 j.val s (ix3 x h t)) := by
    pointwise [b47, b46, b45, b44, b43]
  rw [e, b_at, a_at]
  rfl

theorem tri_at (t u : Fin 128) : K_main_v29 (F := Ideal) (ix2 t u) = if u.val ≤ t.val then 1#1 else 0#1 := by
  have e : ∀ t u : Fin 128, IntOp.cmpi .sle (BitVec.ofNat 32 u.val) (BitVec.ofNat 32 t.val) = if u.val ≤ t.val then 1#1 else 0#1 := by
    decide +kernel
  rw [← e]
  pointwise [K_main_v29, K_main_v28, K_main_v27]

theorem b42_at (t u : Fin 128) : b42 j.val s (ix4 x h t u) = if u.val ≤ t.val then bR j s x h t + wR j s x h u else ⊥ := by
  have e : b42 j.val s (ix4 x h t u) = Scalar.select (K_main_v29 (F := Ideal) (ix2 t u)) (b22 j.val s (ix3 x h t) + b32 j.val s (ix3 x h u)) ⊥ := by
    have eb : Ideal.ofBits .f32 0xFF800000#32 = ⊥ := by simp [Ideal.ofBits, Ideal.ieee]
    rw [← eb]
    pointwise [b42, b41, b40, b39, b38, b37, b36, b35, b34, b33]
  rw [e, tri_at, b_at, w_at]
  by_cases hh : u.val ≤ t.val
  · rw [if_pos hh, if_pos hh]; rfl
  · rw [if_neg hh, if_neg hh]; rfl

theorem b55_at (t u : Fin 128) : b55 j.val s (ix4 x h t u)
    = rS (aR j s x h) (bR j s x h) (mR s x h) (wR j s x h) (qR j s x h) (kR j s x h) t u := by
  have e : b55 j.val s (ix4 x h t u) = (∑ d : Fin 128, b5 j.val s (ix4 x h t d) * b11 j.val s (ix4 x h u d))
      * Ideal.exp (b42 j.val s (ix4 x h t u) - b47 j.val s (ix3 x h t)) := by
    pointwise [b55, b54, b53, b52, b51, b50]
  rw [e, b42_at, b47_at]
  simp only [q_at, k_at]
  rfl

theorem b49_at (t : Fin 128) : b49 j.val s (ix3 x h t)
    = Ideal.exp (bR j s x h t + mR s x h - rMt (aR j s x h) (bR j s x h) (mR s x h) t) := by
  have e : b49 j.val s (ix3 x h t) = Ideal.exp (b22 j.val s (ix3 x h t) + s.main_v46_10 (ix2 x h) - b47 j.val s (ix3 x h t)) := by
    pointwise [b49, b48, b45, b44, b43]
  rw [e, b47_at, b_at]
  rfl

theorem b61_at (t : Fin 128) (i : Fin 256) : b61 j.val s (ix4 x h t i)
    = rNum (aR j s x h) (bR j s x h) (mR s x h) (wR j s x h) (qR j s x h) (kR j s x h) (vR j s x h) (CR s x h) t i := by
  have e : b61 j.val s (ix4 x h t i) = b49 j.val s (ix3 x h t) * (∑ d : Fin 128, b5 j.val s (ix4 x h t d) * s.main_v46_8 (ix4 x h i d))
      + ∑ u : Fin 128, b55 j.val s (ix4 x h t u) * b17 j.val s (ix4 x h u i) := by
    pointwise [b61, b60, b59, b58, b57, b56]
  rw [e, b49_at]
  simp only [q_at, v_at, b55_at]
  rfl

theorem b66_at (t : Fin 128) : b66 j.val s (ix3 x h t)
    = rNq (aR j s x h) (bR j s x h) (mR s x h) (wR j s x h) (qR j s x h) (kR j s x h) (NR s x h) t := by
  have e : b66 j.val s (ix3 x h t) = b49 j.val s (ix3 x h t) * (∑ d : Fin 128, s.main_v46_9 (ix3 x h d) * b5 j.val s (ix4 x h t d))
      + ∑ u : Fin 128, b55 j.val s (ix4 x h t u) := by
    pointwise [b66, b65, b64, b63, b62]
  rw [e, b49_at]
  simp only [q_at, b55_at]
  rfl

theorem b73_at (t : Fin 128) (i : Fin 256) : b73 j.val s (ix4 x h t i)
    = rOut (aR j s x h) (bR j s x h) (mR s x h) (wR j s x h) (qR j s x h) (kR j s x h) (vR j s x h) (CR s x h) (NR s x h) t i := by
  have e : b73 j.val s (ix4 x h t i) = Ideal.div (b61 j.val s (ix4 x h t i))
      (max (FloatOps.absf (F := Ideal) (φ := .f32) (b66 j.val s (ix3 x h t))) (Ideal.exp (-b47 j.val s (ix3 x h t)))) := by
    pointwise [b73, b72, b71, b70, b69, b68, b67]
  rw [e, b61_at, b66_at, b47_at]
  rfl

theorem b83_at : b83 j.val s (ix2 x h) = rM' (aR j s x h) (bR j s x h) (mR s x h) := by
  have e : b83 j.val s (ix2 x h) = max (b22 j.val s (ix3 x h 127) + s.main_v46_10 (ix2 x h)) (b22 j.val s (ix3 x h 127) + b27 j.val s (ix3 x h 127)) := by
    pointwise [b83, b82, b81, b80, b79, b75, b74]
  rw [e, b_at, a_at]
  rfl

theorem b86_at : b86 j.val s (ix2 x h) = Ideal.exp (bR j s x h 127 + mR s x h - rM' (aR j s x h) (bR j s x h) (mR s x h)) := by
  have e : b86 j.val s (ix2 x h) = Ideal.exp (b22 j.val s (ix3 x h 127) + s.main_v46_10 (ix2 x h) - b83 j.val s (ix2 x h)) := by
    pointwise [b86, b85, b84, b79, b75, b74]
  rw [e, b83_at, b_at]
  rfl

theorem b90_at (t : Fin 128) : b90 j.val s (ix3 x h t) = rWs (aR j s x h) (bR j s x h) (mR s x h) (wR j s x h) t := by
  have e : b90 j.val s (ix3 x h t) = Ideal.exp (b22 j.val s (ix3 x h 127) + b32 j.val s (ix3 x h t) - b83 j.val s (ix2 x h)) := by
    pointwise [b90, b89, b88, b87, b78, b77, b76, b75, b74]
  rw [e, b83_at, b_at, w_at]
  rfl

theorem b98_at (i : Fin 256) (d : Fin 128) : b98 j.val s (ix4 x h i d)
    = rC' (aR j s x h) (bR j s x h) (mR s x h) (wR j s x h) (kR j s x h) (vR j s x h) (CR s x h) i d := by
  have e : b98 j.val s (ix4 x h i d) = b86 j.val s (ix2 x h) * s.main_v46_8 (ix4 x h i d)
      + ∑ u : Fin 128, b90 j.val s (ix3 x h u) * b17 j.val s (ix4 x h u i) * b11 j.val s (ix4 x h u d) := by
    pointwise [b98, b97, b96, b95, b94, b93, b92, b91]
  rw [e, b86_at]
  simp only [k_at, v_at, b90_at]
  rfl

theorem b103_at (d : Fin 128) : b103 j.val s (ix3 x h d)
    = rN' (aR j s x h) (bR j s x h) (mR s x h) (wR j s x h) (kR j s x h) (NR s x h) d := by
  have e : b103 j.val s (ix3 x h d) = b86 j.val s (ix2 x h) * s.main_v46_9 (ix3 x h d)
      + ∑ u : Fin 128, b90 j.val s (ix3 x h u) * b11 j.val s (ix4 x h u d) := by
    pointwise [b103, b102, b101, b100, b99]
  rw [e, b86_at]
  simp only [k_at, b90_at]
  rfl

/-- The hidden rows a trip stores: its own chunk's are its, the others stay. -/
theorem b109_at (n : Fin 128) (t : Fin 128) (i : Fin 256) : b109 j.val s (ix5 n x h t i)
    = if n = j then b73 j.val s (ix4 x h t i) else s.main_v46_11 (ix5 n x h t i) := by
  have hf : S128x4x8x128x256.Slices (fun a => (![j.val, 0, 0, 0, 0] : Fin 5 → ℕ) a) S1x4x8x128x256 := slicesV j
  have e : b109 j.val s = updateSlice s.main_v46_11 (b104 j.val s) _ hf :=
    Host.dynamicUpdateSlice_eq_updateSlice _ _ _ _ _ (fun a => by
      have h1 := hf.2 a
      beta_reduce at h1
      have h2 := start5 j _ rfl a
      unfold b105 b106 b107 b108
      rw [h2]
      omega) hf
  rw [e]
  unfold updateSlice
  by_cases hn : n = j
  · subst hn
    rw [if_pos rfl, dif_pos (fun a => by
      match a with
      | 0 => exact ⟨le_refl _, Nat.lt_succ_self _⟩
      | 1 => exact ⟨Nat.zero_le _, by show x.val < 0 + 4; omega⟩
      | 2 => exact ⟨Nat.zero_le _, by show h.val < 0 + 8; omega⟩
      | 3 => exact ⟨Nat.zero_le _, by show t.val < 0 + 128; omega⟩
      | 4 => exact ⟨Nat.zero_le _, by show i.val < 0 + 256; omega⟩)]
    have e2 : b104 n.val s (ix5 0 x h t i) = b73 n.val s (ix4 x h t i) := by pointwise [b104]
    rw [← e2]
    refine congrArg _ (funext fun a => ?_)
    match a with
    | 0 => exact Fin.ext (by show n.val - n.val = 0; omega)
    | 1 => rfl
    | 2 => rfl
    | 3 => rfl
    | 4 => rfl
  · rw [if_neg hn, dif_neg]
    intro hin
    have h0 : j.val ≤ n.val ∧ n.val < j.val + 1 := hin 0
    exact hn (Fin.ext (by omega))

end Cert.Proof.Long.RefStep

end
-- ==== Proof.LongRefInit.lean ====
module

public import Idealize.ShloMosaic.Lib.Pointwise
public import proofs.«01_k».proof.Proof.LongRefRun

@[expose] public section

/-!
# The reference's chunked inputs and results at an index

Copy `x` of the doubled batch is batch `x` read forwards below two, and batch `x - 2` read backwards
from four on; row `t` of chunk `j` is row `128 j + t`.
-/

set_option maxRecDepth 16384

noncomputable section

namespace Cert.Proof.Long.RefInit

open Idealize.ShloMosaic Idealize.ShloMosaic.TcCoe
open Cert.Reference5Ideal Cert.Reference5Ideal.Gen Cert.Reference5Ideal.Step

/-- Row `t` of chunk `j`. -/
def at_ (j : Fin 128) (t : Fin 128) : Fin 16384 := ⟨j.val * 128 + t.val, by omega⟩

theorem at_rev (j : Fin 128) (t : Fin 128) : (at_ j t).rev = at_ j.rev t.rev := by
  apply Fin.ext; simp only [at_, Fin.val_rev]; omega

theorem chunk128 (X : FVec Ideal S4x16384x8x128 .f32) (j : Fin 128) (x : Fin 4) (h : Fin 8) (t d : Fin 128) :
    transpose S128x4x8x128x128 [1, 0, 3, 2, 4] (shapeCast S4x128x128x8x128 X shapeCasts_S4x16384x8x128_S4x128x128x8x128)
      transposes_S4x128x128x8x128_S128x4x8x128x128_1_0_3_2_4 (ix5 j x h t d) = X (ix4 x (at_ j t) h d) := by
  pointwise []
  rfl

theorem chunk256 (X : FVec Ideal S4x16384x8x256 .f32) (j : Fin 128) (x : Fin 4) (h : Fin 8) (t : Fin 128) (d : Fin 256) :
    transpose S128x4x8x128x256 [1, 0, 3, 2, 4] (shapeCast S4x128x128x8x256 X shapeCasts_S4x16384x8x256_S4x128x128x8x256)
      transposes_S4x128x128x8x256_S128x4x8x128x256_1_0_3_2_4 (ix5 j x h t d) = X (ix4 x (at_ j t) h d) := by
  pointwise []
  rfl

theorem chunk1 (X : FVec Ideal S4x16384x8 .f32) (j : Fin 128) (x : Fin 4) (h : Fin 8) (t : Fin 128) :
    transpose S128x4x8x128 [1, 0, 3, 2] (shapeCast S4x128x128x8 X shapeCasts_S4x16384x8_S4x128x128x8)
      transposes_S4x128x128x8_S128x4x8x128_1_0_3_2 (ix4 j x h t) = X (ix3 x (at_ j t) h) := by
  pointwise []
  rfl

variable (bt : Fin 2) (r : Fin 16384) (h : Fin 8)

/-- The forward copy of a batch. -/
def fw (bt : Fin 2) : Fin 4 := ⟨bt.val, by omega⟩
/-- The backward copy of a batch. -/
def bw (bt : Fin 2) : Fin 4 := ⟨2 + bt.val, by omega⟩

theorem both128_fw (X Y : FVec Ideal S2x16384x8x128 .f32) (d : Fin 128) :
    concatenate S4x16384x8x128 0 [⟨S2x16384x8x128, X⟩, ⟨S2x16384x8x128, Host.reverse [1] Y⟩]
      concatenates_S2x16384x8x128_S2x16384x8x128_S4x16384x8x128_d0 (ix4 (fw bt) r h d) = X (ix4 bt r h d) := by
  pointwise []
  simp [fw]
  intro h1
  have := bt.isLt
  omega
theorem both128_bw (X Y : FVec Ideal S2x16384x8x128 .f32) (d : Fin 128) :
    concatenate S4x16384x8x128 0 [⟨S2x16384x8x128, X⟩, ⟨S2x16384x8x128, Host.reverse [1] Y⟩]
      concatenates_S2x16384x8x128_S2x16384x8x128_S4x16384x8x128_d0 (ix4 (bw bt) r h d) = Y (ix4 bt r.rev h d) := by
  pointwise []
  simp [bw]
  intro h1
  have := bt.isLt
  omega
theorem both256_fw (X Y : FVec Ideal S2x16384x8x256 .f32) (d : Fin 256) :
    concatenate S4x16384x8x256 0 [⟨S2x16384x8x256, X⟩, ⟨S2x16384x8x256, Host.reverse [1] Y⟩]
      concatenates_S2x16384x8x256_S2x16384x8x256_S4x16384x8x256_d0 (ix4 (fw bt) r h d) = X (ix4 bt r h d) := by
  pointwise []
  simp [fw]
  intro h1
  have := bt.isLt
  omega
theorem both256_bw (X Y : FVec Ideal S2x16384x8x256 .f32) (d : Fin 256) :
    concatenate S4x16384x8x256 0 [⟨S2x16384x8x256, X⟩, ⟨S2x16384x8x256, Host.reverse [1] Y⟩]
      concatenates_S2x16384x8x256_S2x16384x8x256_S4x16384x8x256_d0 (ix4 (bw bt) r h d) = Y (ix4 bt r.rev h d) := by
  pointwise []
  simp [bw]
  intro h1
  have := bt.isLt
  omega
theorem both1_fw (X Y : FVec Ideal S2x16384x8 .f32) :
    concatenate S4x16384x8 0 [⟨S2x16384x8, X⟩, ⟨S2x16384x8, Host.reverse [1] Y⟩]
      concatenates_S2x16384x8_S2x16384x8_S4x16384x8_d0 (ix3 (fw bt) r h) = X (ix3 bt r h) := by
  pointwise []
  simp [fw]
  intro h1
  have := bt.isLt
  omega
theorem both1_bw (X Y : FVec Ideal S2x16384x8 .f32) :
    concatenate S4x16384x8 0 [⟨S2x16384x8, X⟩, ⟨S2x16384x8, Host.reverse [1] Y⟩]
      concatenates_S2x16384x8_S2x16384x8_S4x16384x8_d0 (ix3 (bw bt) r h) = Y (ix3 bt r.rev h) := by
  pointwise []
  simp [bw]
  intro h1
  have := bt.isLt
  omega

/-! ## The chunked inputs -/

variable (a0 : Vec Ideal S2x16384x1024 .bf16) (a1 : Vec Ideal S2x128x1024x128 .bf16) (a2 : Vec Ideal S2x16384x11264 .bf16)
  (a3 : Vec Ideal S2x16384x128 .f32) (a4 : Vec Ideal S2x16x16384 .f32) (j : Fin 128) (t : Fin 128)

theorem v1_at (d : Fin 128) : A_main_v1 (F := Ideal) a0 a1 a2 a3 a4 (ix4 bt r h d) = a0 (ix3 bt r ⟨h.val * 128 + d.val, by omega⟩) := by
  pointwise [A_main_v1, A_main_v0]
theorem v4_at (d : Fin 128) : A_main_v4 (F := Ideal) a0 a1 a2 a3 a4 (ix4 bt (at_ j t) h d)
    = a1 (ix4 bt j ⟨h.val * 128 + d.val, by omega⟩ t) := by
  have e1 : (⟨(at_ j t).val / 128, by omega⟩ : Fin 128) = j := Fin.ext (by simp only [at_]; omega)
  have e2 : (⟨(at_ j t).val % 128, by omega⟩ : Fin 128) = t := Fin.ext (by simp only [at_]; omega)
  have e : ∀ r : Fin 16384, A_main_v4 (F := Ideal) a0 a1 a2 a3 a4 (ix4 bt r h d)
      = a1 (ix4 bt (⟨r.val / 128, by omega⟩ : Fin 128) ⟨h.val * 128 + d.val, by omega⟩ (⟨r.val % 128, by omega⟩ : Fin 128)) := by
    intro r
    pointwise [A_main_v4, A_main_v3, A_main_v2]
  rw [e, e1, e2]
theorem v7_at (d : Fin 256) : A_main_v7 (F := Ideal) a0 a1 a2 a3 a4 (ix4 bt r h d)
    = a2 (ix3 bt r ⟨2048 + (h.val * 256 + d.val), by omega⟩) := by
  pointwise [A_main_v7, A_main_v6, A_main_v5]
theorem v8_at : A_main_v8 (F := Ideal) a0 a1 a2 a3 a4 (ix3 bt r h) = a3 (ix3 bt r ⟨h.val, by omega⟩) := by
  pointwise [A_main_v8]
theorem v9_at : A_main_v9 (F := Ideal) a0 a1 a2 a3 a4 (ix3 bt r h) = a3 (ix3 bt r ⟨8 + h.val, by omega⟩) := by
  pointwise [A_main_v9]
theorem v10_at : A_main_v10 (F := Ideal) a0 a1 a2 a3 a4 (ix3 bt r h) = a3 (ix3 bt r ⟨16 + h.val, by omega⟩) := by
  pointwise [A_main_v10]
theorem v11_at : A_main_v11 (F := Ideal) a0 a1 a2 a3 a4 (ix3 bt r h) = a3 (ix3 bt r ⟨24 + h.val, by omega⟩) := by
  pointwise [A_main_v11]
theorem v13_at : A_main_v13 (F := Ideal) a0 a1 a2 a3 a4 (ix3 bt r h) = a4 (ix3 bt ⟨h.val, by omega⟩ r) := by
  pointwise [A_main_v13, A_main_v12]
theorem v14_at : A_main_v14 (F := Ideal) a0 a1 a2 a3 a4 (ix3 bt r h) = a4 (ix3 bt ⟨8 + h.val, by omega⟩ r) := by
  pointwise [A_main_v14, A_main_v12]

theorem q_fw (d : Fin 128) : A_main_v34 (F := Ideal) a0 a1 a2 a3 a4 (ix5 j (fw bt) h t d)
    = a0 (ix3 bt (at_ j t) ⟨h.val * 128 + d.val, by omega⟩) :=
  (chunk128 _ _ _ _ _ _).trans <| (both128_fw _ _ _ _ _ _).trans <| by
    exact v1_at _ _ _ _ _ _ _ _ _
theorem q_bw (d : Fin 128) : A_main_v34 (F := Ideal) a0 a1 a2 a3 a4 (ix5 j (bw bt) h t d)
    = a0 (ix3 bt (at_ j.rev t.rev) ⟨h.val * 128 + d.val, by omega⟩) :=
  (chunk128 _ _ _ _ _ _).trans <| (both128_bw _ _ _ _ _ _).trans <| by
    rw [at_rev]; exact v1_at _ _ _ _ _ _ _ _ _
theorem k_fw (d : Fin 128) : A_main_v36 (F := Ideal) a0 a1 a2 a3 a4 (ix5 j (fw bt) h t d)
    = a1 (ix4 bt j ⟨h.val * 128 + d.val, by omega⟩ t) :=
  (chunk128 _ _ _ _ _ _).trans <| (both128_fw _ _ _ _ _ _).trans <| by
    exact v4_at _ _ _ _ _ _ _ _ _ _
theorem k_bw (d : Fin 128) : A_main_v36 (F := Ideal) a0 a1 a2 a3 a4 (ix5 j (bw bt) h t d)
    = a1 (ix4 bt j.rev ⟨h.val * 128 + d.val, by omega⟩ t.rev) :=
  (chunk128 _ _ _ _ _ _).trans <| (both128_bw _ _ _ _ _ _).trans <| by
    rw [at_rev]; exact v4_at _ _ _ _ _ _ _ _ _ _
theorem v_fw (d : Fin 256) : A_main_v38 (F := Ideal) a0 a1 a2 a3 a4 (ix5 j (fw bt) h t d)
    = a2 (ix3 bt (at_ j t) ⟨2048 + (h.val * 256 + d.val), by omega⟩) :=
  (chunk256 _ _ _ _ _ _).trans <| (both256_fw _ _ _ _ _ _).trans <| by
    exact v7_at _ _ _ _ _ _ _ _ _
theorem v_bw (d : Fin 256) : A_main_v38 (F := Ideal) a0 a1 a2 a3 a4 (ix5 j (bw bt) h t d)
    = a2 (ix3 bt (at_ j.rev t.rev) ⟨2048 + (h.val * 256 + d.val), by omega⟩) :=
  (chunk256 _ _ _ _ _ _).trans <| (both256_bw _ _ _ _ _ _).trans <| by
    rw [at_rev]; exact v7_at _ _ _ _ _ _ _ _ _
theorem b_fw : A_main_v40 (F := Ideal) a0 a1 a2 a3 a4 (ix4 j (fw bt) h t)
    = a3 (ix3 bt (at_ j t) ⟨h.val, by omega⟩) :=
  (chunk1 _ _ _ _ _).trans <| (both1_fw _ _ _ _ _).trans <| by
    exact v8_at _ _ _ _ _ _ _ _
theorem b_bw : A_main_v40 (F := Ideal) a0 a1 a2 a3 a4 (ix4 j (bw bt) h t)
    = a3 (ix3 bt (at_ j.rev t.rev) ⟨16 + h.val, by omega⟩) :=
  (chunk1 _ _ _ _ _).trans <| (both1_bw _ _ _ _ _).trans <| by
    rw [at_rev]; exact v10_at _ _ _ _ _ _ _ _
theorem a_fw : A_main_v42 (F := Ideal) a0 a1 a2 a3 a4 (ix4 j (fw bt) h t)
    = a3 (ix3 bt (at_ j t) ⟨8 + h.val, by omega⟩) :=
  (chunk1 _ _ _ _ _).trans <| (both1_fw _ _ _ _ _).trans <| by
    exact v9_at _ _ _ _ _ _ _ _
theorem a_bw : A_main_v42 (F := Ideal) a0 a1 a2 a3 a4 (ix4 j (bw bt) h t)
    = a3 (ix3 bt (at_ j.rev t.rev) ⟨24 + h.val, by omega⟩) :=
  (chunk1 _ _ _ _ _).trans <| (both1_bw _ _ _ _ _).trans <| by
    rw [at_rev]; exact v11_at _ _ _ _ _ _ _ _
theorem w_fw : A_main_v44 (F := Ideal) a0 a1 a2 a3 a4 (ix4 j (fw bt) h t)
    = a4 (ix3 bt ⟨h.val, by omega⟩ (at_ j t)) :=
  (chunk1 _ _ _ _ _).trans <| (both1_fw _ _ _ _ _).trans <| by
    exact v13_at _ _ _ _ _ _ _ _
theorem w_bw : A_main_v44 (F := Ideal) a0 a1 a2 a3 a4 (ix4 j (bw bt) h t)
    = a4 (ix3 bt ⟨8 + h.val, by omega⟩ (at_ j.rev t.rev)) :=
  (chunk1 _ _ _ _ _).trans <| (both1_bw _ _ _ _ _).trans <| by
    rw [at_rev]; exact v14_at _ _ _ _ _ _ _ _

/-! ## The results -/

theorem res_fw (s : State Ideal) (d : Fin 256) : R_main_v53 s (ix3 bt (at_ j t) ⟨h.val * 256 + d.val, by omega⟩)
    = s.main_v46_11 (ix5 j (fw bt) h t d) := by
  have e : ∀ (r : Fin 16384) (l : Fin 2048), R_main_v53 s (ix3 bt r l)
      = s.main_v46_11 (ix5 (⟨r.val / 128, by omega⟩ : Fin 128) (fw bt) (⟨l.val / 256, by omega⟩ : Fin 8)
          (⟨r.val % 128, by omega⟩ : Fin 128) (⟨l.val % 256, by omega⟩ : Fin 256)) := by
    intro r l
    pointwise [R_main_v53]
    rfl
  rw [e]
  congr 2 <;> apply Fin.ext <;> simp only [at_] <;> omega

theorem res_bw (s : State Ideal) (d : Fin 256) : R_main_v55 s (ix3 bt (at_ j.rev t.rev) ⟨h.val * 256 + d.val, by omega⟩)
    = s.main_v46_11 (ix5 j (bw bt) h t d) := by
  have e : ∀ (r : Fin 16384) (l : Fin 2048), R_main_v55 s (ix3 bt r l)
      = s.main_v46_11 (ix5 (⟨r.rev.val / 128, by omega⟩ : Fin 128) (bw bt) (⟨l.val / 256, by omega⟩ : Fin 8)
          (⟨r.rev.val % 128, by omega⟩ : Fin 128) (⟨l.val % 256, by omega⟩ : Fin 256)) := by
    intro r l
    pointwise [R_main_v55]
    rfl
  rw [e]
  congr 2 <;> apply Fin.ext <;> simp only [at_, Fin.val_rev] <;> omega

end Cert.Proof.Long.RefInit

end
-- ==== Proof.LongRefSeq.lean ====
/-
  The reference's states over arguments: the chunked inputs stay, and each trip leaves its own chunk of the hidden states.
-/
module
public import proofs.«01_k».proof.Proof.LongRefStep
public import proofs.«01_k».proof.Proof.LongRefInit

@[expose] public section

set_option maxRecDepth 16384

noncomputable section

namespace Cert.Proof.Long.RefSeq

open Idealize.ShloMosaic Idealize.ShloMosaic.TcCoe
open Cert.Reference5Ideal Cert.Reference5Ideal.Gen Cert.Reference5Ideal.Step Cert.Proof.Long.RefStep Cert.Proof.Long.RefInit Cert.Proof.Chain

variable (a0 : Vec Ideal S2x16384x1024 .bf16) (a1 : Vec Ideal S2x128x1024x128 .bf16) (a2 : Vec Ideal S2x16384x11264 .bf16)
  (a3 : Vec Ideal S2x16384x128 .f32) (a4 : Vec Ideal S2x16x16384 .f32)

/-- The state before chunk `n`. -/
def seq : ℕ → State Ideal
  | 0 => init a0 a1 a2 a3 a4
  | n + 1 => step n (seq n)

theorem kept (n : ℕ) : (seq a0 a1 a2 a3 a4 n).main_v46_0 = A_main_v34 a0 a1 a2 a3 a4 ∧ (seq a0 a1 a2 a3 a4 n).main_v46_1 = A_main_v36 a0 a1 a2 a3 a4
    ∧ (seq a0 a1 a2 a3 a4 n).main_v46_2 = A_main_v38 a0 a1 a2 a3 a4 ∧ (seq a0 a1 a2 a3 a4 n).main_v46_3 = A_main_v40 a0 a1 a2 a3 a4
    ∧ (seq a0 a1 a2 a3 a4 n).main_v46_4 = A_main_v42 a0 a1 a2 a3 a4 ∧ (seq a0 a1 a2 a3 a4 n).main_v46_5 = A_main_v44 a0 a1 a2 a3 a4 := by
  induction n with
  | zero => exact ⟨rfl, rfl, rfl, rfl, rfl, rfl⟩
  | succ n ih => exact ih

variable (x : Fin 4) (h : Fin 8)

theorem hidden_kept (j : Fin 128) (n : ℕ) (hn : n ≤ 128) (hj : j.val < n) (t : Fin 128) (i : Fin 256) :
    (seq a0 a1 a2 a3 a4 n).main_v46_11 (ix5 j x h t i) = b73 j.val (seq a0 a1 a2 a3 a4 j.val) (ix4 x h t i) := by
  induction n with
  | zero => exact absurd hj (Nat.not_lt_zero _)
  | succ n ih =>
    have e : (seq a0 a1 a2 a3 a4 (n + 1)).main_v46_11 = b109 n (seq a0 a1 a2 a3 a4 n) := step_main_v46_11 _ _
    rw [e]
    refine (b109_at (⟨n, by omega⟩ : Fin 128) _ x h j t i).trans ?_
    by_cases hc : j = (⟨n, by omega⟩ : Fin 128)
    · have hv : j.val = n := congrArg Fin.val hc
      rw [if_pos hc]; subst hv; rfl
    · rw [if_neg hc]
      have hc' : j.val ≠ n := fun h => hc (Fin.ext h)
      exact ih (by omega) (by omega)

theorem m_next (j : Fin 128) : mR (seq a0 a1 a2 a3 a4 (j.val + 1)) x h
    = rM' (aR j (seq a0 a1 a2 a3 a4 j.val) x h) (bR j (seq a0 a1 a2 a3 a4 j.val) x h) (mR (seq a0 a1 a2 a3 a4 j.val) x h) :=
  (congrFun (step_main_v46_10 _ _) _).trans (b83_at j _ x h)

theorem C_next (j : Fin 128) : CR (seq a0 a1 a2 a3 a4 (j.val + 1)) x h
    = rC' (aR j (seq a0 a1 a2 a3 a4 j.val) x h) (bR j (seq a0 a1 a2 a3 a4 j.val) x h) (mR (seq a0 a1 a2 a3 a4 j.val) x h)
      (wR j (seq a0 a1 a2 a3 a4 j.val) x h) (kR j (seq a0 a1 a2 a3 a4 j.val) x h) (vR j (seq a0 a1 a2 a3 a4 j.val) x h)
      (CR (seq a0 a1 a2 a3 a4 j.val) x h) :=
  funext fun i => funext fun d => (congrFun (step_main_v46_8 _ _) _).trans (b98_at j _ x h i d)

theorem N_next (j : Fin 128) : NR (seq a0 a1 a2 a3 a4 (j.val + 1)) x h
    = rN' (aR j (seq a0 a1 a2 a3 a4 j.val) x h) (bR j (seq a0 a1 a2 a3 a4 j.val) x h) (mR (seq a0 a1 a2 a3 a4 j.val) x h)
      (wR j (seq a0 a1 a2 a3 a4 j.val) x h) (kR j (seq a0 a1 a2 a3 a4 j.val) x h)
      (NR (seq a0 a1 a2 a3 a4 j.val) x h) :=
  funext fun d => (congrFun (step_main_v46_9 _ _) _).trans (b103_at j _ x h d)

theorem m_init : mR (seq a0 a1 a2 a3 a4 0) x h = 0 := by
  show K_main_v32 (F := Ideal) (ix2 x h) = 0
  pointwise [K_main_v32, K_main_cst_1]

theorem C_init : CR (seq a0 a1 a2 a3 a4 0) x h = fun _ _ => 0 := by
  funext i d
  show K_main_v30 (F := Ideal) (ix4 x h i d) = 0
  pointwise [K_main_v30, K_main_cst]

theorem N_init : NR (seq a0 a1 a2 a3 a4 0) x h = fun _ => 0 := by
  funext d
  show K_main_v31 (F := Ideal) (ix3 x h d) = 0
  pointwise [K_main_v31, K_main_cst_0]

theorem state_eq (m : (ℓ : Loc nD τ sig) → Buf (Elt Ideal) ℓ) (c : Dev nD) (n : ℕ) :
    RefRun.state m c n = seq (m ((c : Thread nD τ).loc main_arg0)) (m ((c : Thread nD τ).loc main_arg1))
      (m ((c : Thread nD τ).loc main_arg2)) (m ((c : Thread nD τ).loc main_arg3)) (m ((c : Thread nD τ).loc main_arg4)) n := by
  induction n with
  | zero => rfl
  | succ n ih => exact congrArg (step n) ih

end Cert.Proof.Long.RefSeq
-- ==== Proof.LongBatch.lean ====
/-
  Down a batch's grid points the kernel's scratches hold the reference's memory, normaliser and stabiliser, and each
  point writes the reference's chunk of hidden states, the backward heads in the reversed order.
-/
module
public import proofs.«01_k».proof.Proof.LongPoint
public import proofs.«01_k».proof.Proof.LongInputs
public import proofs.«01_k».proof.Proof.LongRefSeq

@[expose] public section

set_option maxRecDepth 16384
set_option maxHeartbeats 4000000

noncomputable section

namespace Cert.Proof.Long.Batch

open Idealize.ShloMosaic Idealize.ShloMosaic.TcCoe
open Cert.Kernel5Ideal Cert.Kernel5Ideal.Gen Cert.Proof.Long.Units Cert.Proof.Chain Cert.Proof.Long.Point Cert.Proof.Long.Inputs
open Cert.Proof.Long.RefInit Cert.Proof.Long.RefStep Cert.Proof.Long.RefSeq

/-- The order in which a chain takes the rows of a chunk. -/
def ord (ch : Fin 16) : Equiv.Perm (Fin 128) := bif bwd ch then Fin.revPerm else Equiv.refl _

/-- The reference's copy of the batch that a chain works on. -/
def copy (bt : Fin 2) (ch : Fin 16) : Fin 4 := bif bwd ch then bw bt else fw bt

theorem upTo_ord (ch : Fin 16) (t s : Fin 128) : upTo ch (ord ch t) (ord ch s) = decide (s.val ≤ t.val) := by
  unfold upTo ord
  cases bwd ch
  · rfl
  · simp only [cond_true, Fin.revPerm_apply, Fin.le_def, Fin.val_rev]
    congr 1
    apply propext
    omega

theorem lastOf_ord (ch : Fin 16) : ord ch 127 = lastOf ch := by revert ch; decide

variable (m : (ℓ : Loc nD τ sig) → Buf (Elt Ideal) ℓ) (c : Dev nD)

/-- The reference's states over the kernel's arguments. -/
abbrev rs (n : ℕ) := seq (m ((c : Thread nD τ).loc main_arg0)) (m ((c : Thread nD τ).loc main_arg1))
      (m ((c : Thread nD τ).loc main_arg2)) (m ((c : Thread nD τ).loc main_arg3)) (m ((c : Thread nD τ).loc main_arg4)) n

theorem bwd_cases (ch : Fin 16) : (bwd ch = false ∧ ch.val < 8) ∨ (bwd ch = true ∧ 8 ≤ ch.val) := by revert ch; decide

section Link
variable (t : Fin cfg0.N) (bt : Fin 2) (j : Fin 128) (ht : t.val = 128 * bt.val + j.val) (ch : Fin 16)
include ht

theorem link_a (r : Fin 128) : blkA (iblk m c 6 t) (iblk m c 7 t) ch (ord ch r) = aR j (rs m c j.val) (copy bt ch) (hd ch) r := by
  unfold blkA aR copy ord
  rw [(kept _ _ _ _ _ _).2.2.2.2.1]
  rcases bwd_cases ch with ⟨hb, hl⟩ | ⟨hb, hl⟩ <;> simp only [hb, cond_true, cond_false]
  · rw [a_fw]
    refine (b6 m c t bt j ht _ _).trans (congrArg _ ?_)
    congr 1
    exact Fin.ext (by show ch.val / 8 * 16 + ch.val % 8 + 8 = 8 + ch.val % 8; omega)
  · rw [a_bw]
    refine (b7 m c t bt j ht _ _).trans (congrArg _ ?_)
    congr 1
    · exact Fin.ext (by show (127 - j.val) * 128 + (Fin.rev r).val = (Fin.rev j).val * 128 + (Fin.rev r).val; simp only [Fin.val_rev]; omega)
    · exact Fin.ext (by show ch.val / 8 * 16 + ch.val % 8 + 8 = 24 + ch.val % 8; omega)

theorem link_b (r : Fin 128) : blkB (iblk m c 6 t) (iblk m c 7 t) ch (ord ch r) = bR j (rs m c j.val) (copy bt ch) (hd ch) r := by
  unfold blkB bR copy ord
  rw [(kept _ _ _ _ _ _).2.2.2.1]
  rcases bwd_cases ch with ⟨hb, hl⟩ | ⟨hb, hl⟩ <;> simp only [hb, cond_true, cond_false]
  · rw [b_fw]
    refine (b6 m c t bt j ht _ _).trans (congrArg _ ?_)
    congr 1
    exact Fin.ext (by show ch.val / 8 * 16 + ch.val % 8 = ch.val % 8; omega)
  · rw [b_bw]
    refine (b7 m c t bt j ht _ _).trans (congrArg _ ?_)
    congr 1
    · exact Fin.ext (by show (127 - j.val) * 128 + (Fin.rev r).val = (Fin.rev j).val * 128 + (Fin.rev r).val; simp only [Fin.val_rev]; omega)
    · exact Fin.ext (by show ch.val / 8 * 16 + ch.val % 8 = 16 + ch.val % 8; omega)

theorem link_w (r : Fin 128) : blkW (iblk m c 8 t) (iblk m c 9 t) ch (ord ch r) = wR j (rs m c j.val) (copy bt ch) (hd ch) r := by
  unfold blkW wR copy ord
  rw [(kept _ _ _ _ _ _).2.2.2.2.2]
  rcases bwd_cases ch with ⟨hb, hl⟩ | ⟨hb, hl⟩ <;> simp only [hb, cond_true, cond_false]
  · rw [w_fw]
    refine (b8 m c t bt j ht _ _).trans (congrArg _ ?_)
    congr 1
    exact Fin.ext (by show ch.val = ch.val % 8; omega)
  · rw [w_bw]
    refine (b9 m c t bt j ht _ _).trans (congrArg _ ?_)
    congr 1
    · exact Fin.ext (by show ch.val = 8 + ch.val % 8; omega)
    · exact Fin.ext (by show (127 - j.val) * 128 + (Fin.rev r).val = (Fin.rev j).val * 128 + (Fin.rev r).val; simp only [Fin.val_rev]; omega)

theorem link_q (r d : Fin 128) : blkQ (iblk m c 0 t) (iblk m c 1 t) ch (ord ch r) d = qR j (rs m c j.val) (copy bt ch) (hd ch) r d := by
  unfold blkQ qR copy ord
  rw [(kept _ _ _ _ _ _).1]
  rcases bwd_cases ch with ⟨hb, hl⟩ | ⟨hb, hl⟩ <;> simp only [hb, cond_true, cond_false]
  · rw [q_fw]
    exact b0 m c t bt j ht _ _
  · rw [q_bw]
    refine (b1 m c t bt j ht _ _).trans (congrArg _ ?_)
    congr 1
    exact Fin.ext (by show (127 - j.val) * 128 + (Fin.rev r).val = (Fin.rev j).val * 128 + (Fin.rev r).val; simp only [Fin.val_rev]; omega)

theorem link_k (r d : Fin 128) : blkK (iblk m c 2 t) (iblk m c 3 t) ch d (ord ch r) = kR j (rs m c j.val) (copy bt ch) (hd ch) r d := by
  unfold blkK kR copy ord
  rw [(kept _ _ _ _ _ _).2.1]
  rcases bwd_cases ch with ⟨hb, hl⟩ | ⟨hb, hl⟩ <;> simp only [hb, cond_true, cond_false]
  · rw [k_fw]
    exact b2 m c t bt j ht _ _
  · rw [k_bw]
    refine (b3 m c t bt j ht _ _).trans (congrArg _ ?_)
    congr 1
    exact Fin.ext (by show 127 - j.val = (Fin.rev j).val; simp only [Fin.val_rev]; omega)

theorem link_v (r : Fin 128) (d : Fin 256) : blkV (X0_4 m c t) (X0_5 m c t) ch (ord ch r) d = vR j (rs m c j.val) (copy bt ch) (hd ch) r d := by
  unfold blkV vR copy ord
  rw [(kept _ _ _ _ _ _).2.2.1]
  rcases bwd_cases ch with ⟨hb, hl⟩ | ⟨hb, hl⟩ <;> simp only [hb, cond_true, cond_false]
  · rw [v_fw]
    exact b4 m c t bt j ht _ _
  · rw [v_bw]
    refine (b5 m c t bt j ht _ _).trans (congrArg _ ?_)
    congr 1
    exact Fin.ext (by show (127 - j.val) * 128 + (Fin.rev r).val = (Fin.rev j).val * 128 + (Fin.rev r).val; simp only [Fin.val_rev]; omega)

end Link

/-- The cumulative gates and the running maxima are numbers. -/
def Tame : Prop := ∀ (bt : Fin 2) (r : Fin 16384) (l : Fin 128), l.val < 32 →
  ∃ y : ℝ, m ((c : Thread nD τ).loc main_arg3) (ix3 bt r l) = (y : EReal)

section Step
variable (hg : Tame m c) (t : Fin cfg0.N) (bt : Fin 2) (j : Fin 128) (ht : t.val = 128 * bt.val + j.val) (ch : Fin 16)
include hg ht

theorem real_a : ∃ y : Fin 128 → ℝ, blkA (iblk m c 6 t) (iblk m c 7 t) ch = fun r => ((y r : ℝ) : EReal) := by
  have h : ∀ r, ∃ y : ℝ, blkA (iblk m c 6 t) (iblk m c 7 t) ch r = (y : EReal) := fun r => by
    unfold blkA
    rcases bwd_cases ch with ⟨hb, hl⟩ | ⟨hb, hl⟩ <;> simp only [hb, cond_true, cond_false]
    · obtain ⟨y, hy⟩ := hg bt ⟨j.val * 128 + r.val, by omega⟩ (la ch) (by show ch.val / 8 * 16 + ch.val % 8 + 8 < 32; omega)
      exact ⟨y, (b6 m c t bt j ht _ _).trans hy⟩
    · obtain ⟨y, hy⟩ := hg bt ⟨(127 - j.val) * 128 + r.val, by omega⟩ (la ch) (by show ch.val / 8 * 16 + ch.val % 8 + 8 < 32; omega)
      exact ⟨y, (b7 m c t bt j ht _ _).trans hy⟩
  choose y hy using h
  exact ⟨y, funext hy⟩

theorem real_b : ∃ y : Fin 128 → ℝ, blkB (iblk m c 6 t) (iblk m c 7 t) ch = fun r => ((y r : ℝ) : EReal) := by
  have h : ∀ r, ∃ y : ℝ, blkB (iblk m c 6 t) (iblk m c 7 t) ch r = (y : EReal) := fun r => by
    unfold blkB
    rcases bwd_cases ch with ⟨hb, hl⟩ | ⟨hb, hl⟩ <;> simp only [hb, cond_true, cond_false]
    · obtain ⟨y, hy⟩ := hg bt ⟨j.val * 128 + r.val, by omega⟩ (lb ch) (by show ch.val / 8 * 16 + ch.val % 8 < 32; omega)
      exact ⟨y, (b6 m c t bt j ht _ _).trans hy⟩
    · obtain ⟨y, hy⟩ := hg bt ⟨(127 - j.val) * 128 + r.val, by omega⟩ (lb ch) (by show ch.val / 8 * 16 + ch.val % 8 < 32; omega)
      exact ⟨y, (b7 m c t bt j ht _ _).trans hy⟩
  choose y hy using h
  exact ⟨y, funext hy⟩

variable (M : EReal) (S : Fin 128 → Fin 384 → EReal) (hM : M = mR (rs m c j.val) (copy bt ch) (hd ch))
  (hr : ∃ y : ℝ, M = (y : EReal)) (hS : S = stOf (CR (rs m c j.val) (copy bt ch) (hd ch)) (NR (rs m c j.val) (copy bt ch) (hd ch)))
include hM hr

theorem unit_m : kM (lastOf ch) (blkA (iblk m c 6 t) (iblk m c 7 t) ch) (blkB (iblk m c 6 t) (iblk m c 7 t) ch) M
      = mR (rs m c (j.val + 1)) (copy bt ch) (hd ch)
    ∧ ∃ y : ℝ, mR (rs m c (j.val + 1)) (copy bt ch) (hd ch) = (y : EReal) := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb ⊢
  have key := m_eq (ord ch) a b y (lastOf ch) (lastOf_ord ch)
  have e : kM (lastOf ch) (fun r => ((a r : ℝ) : EReal)) (fun r => ((b r : ℝ) : EReal)) (y : EReal)
      = mR (rs m c (j.val + 1)) (copy bt ch) (hd ch) := by
    rw [key.1]
    refine Eq.trans ?_ (m_next _ _ _ _ _ _ _ j).symm
    rw [← hM, funext la, funext lb]
  exact ⟨e, _, e.symm.trans key.2⟩

include hS

theorem unit_st (d : Fin 128) (i : Fin 384) : kSt (lastOf ch) (blkA (iblk m c 6 t) (iblk m c 7 t) ch) M (blkW (iblk m c 8 t) (iblk m c 9 t) ch)
        (blkK (iblk m c 2 t) (iblk m c 3 t) ch) (ext (blkV (X0_4 m c t) (X0_5 m c t) ch)) S d i
      = stOf (CR (rs m c (j.val + 1)) (copy bt ch) (hd ch)) (NR (rs m c (j.val + 1)) (copy bt ch) (hd ch)) d i := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb
  subst hS
  have eC := C_next (m ((c : Thread nD τ).loc main_arg0)) (m ((c : Thread nD τ).loc main_arg1))
      (m ((c : Thread nD τ).loc main_arg2)) (m ((c : Thread nD τ).loc main_arg3)) (m ((c : Thread nD τ).loc main_arg4)) (copy bt ch) (hd ch) j
  have eN := N_next (m ((c : Thread nD τ).loc main_arg0)) (m ((c : Thread nD τ).loc main_arg1))
      (m ((c : Thread nD τ).loc main_arg2)) (m ((c : Thread nD τ).loc main_arg3)) (m ((c : Thread nD τ).loc main_arg4)) (copy bt ch) (hd ch) j
  refine (st_eq (ord ch) a b y _ _ _ _ _ (lastOf ch) (lastOf_ord ch) d i).trans ?_
  rw [eC, eN, ← hM, funext la, funext lb]
  rw [funext fun r => link_w m c t bt j ht ch r, funext fun r => funext fun d => link_k m c t bt j ht ch r d,
    funext fun r => funext fun d => link_v m c t bt j ht ch r d]

theorem unit_h (r : Fin 128) (i : Fin 256) : kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S (ord ch r) i
      = Cert.Reference5Ideal.Step.b73 j.val (rs m c j.val) (ix4 (copy bt ch) (hd ch) r i) := by
  obtain ⟨a, ha⟩ := real_a m c hg t bt j ht ch
  obtain ⟨b, hb⟩ := real_b m c hg t bt j ht ch
  obtain ⟨y, rfl⟩ := hr
  have la := fun r => link_a m c t bt j ht ch r
  have lb := fun r => link_b m c t bt j ht ch r
  rw [ha] at la ⊢
  rw [hb] at lb ⊢
  subst hS
  refine (out_eq (ord ch) (upTo ch) (upTo_ord ch) a b y _ _ _ _ _ _ r i).trans ?_
  refine Eq.trans ?_ (b73_at j _ (copy bt ch) (hd ch) r i).symm
  rw [← hM, funext la, funext lb]
  rw [funext fun r => link_w m c t bt j ht ch r, funext fun r => funext fun d => link_q m c t bt j ht ch r d,
    funext fun r => funext fun d => link_k m c t bt j ht ch r d,
    funext fun r => funext fun d => link_v m c t bt j ht ch r d]

end Step

end Cert.Proof.Long.Batch
-- ==== Proof.LongCarry.lean ====
/-
  The induction down a batch's chunks.
-/
module
public import proofs.«01_k».proof.Proof.LongBatch

@[expose] public section

set_option maxRecDepth 16384
set_option maxHeartbeats 4000000

noncomputable section

namespace Cert.Proof.Long.Carry

open Idealize.ShloMosaic Idealize.ShloMosaic.TcCoe
open Cert.Kernel5Ideal Cert.Kernel5Ideal.Gen Cert.Proof.Long.Units Cert.Proof.Chain Cert.Proof.Long.Point Cert.Proof.Long.Batch
open Cert.Proof.Long.RefInit Cert.Proof.Long.RefStep Cert.Proof.Long.RefSeq

variable (m : (ℓ : Loc nD τ sig) → Buf (Elt Ideal) ℓ) (c : Dev nD)

/-- The grid point of a batch and a chunk. -/
def pt (bt : Fin 2) (j : Fin 128) : Fin cfg0.N := ⟨128 * bt.val + j.val, lt_of_lt_of_eq (by omega : 128 * bt.val + j.val < 256) N_0.symm⟩

/-- What a point leaves, over the stabiliser and the state it finds. -/
structure Leaves (t : Fin cfg0.N) (ch : Fin 16) (M : EReal) (S : Fin 128 → Fin 384 → EReal) : Prop where
  first : t.val % 128 = 0 → M = 0 ∧ S = fun _ _ => 0
  later : ¬ t.val % 128 = 0 →
    M = (outsAt0 m c (t.val - 1) (Nat.lt_of_le_of_lt (Nat.sub_le _ _) t.isLt)).2.2.2 (ix3 (dr ch) (hd ch) 0)
    ∧ S = fun d i => (outsAt0 m c (t.val - 1) (Nat.lt_of_le_of_lt (Nat.sub_le _ _) t.isLt)).2.2.1 (ix4 (dr ch) (hd ch) d i)
  stab : ∀ l, (outsAt0 m c t.val t.isLt).2.2.2 (ix3 (dr ch) (hd ch) l)
    = kM (lastOf ch) (blkA (iblk m c 6 t) (iblk m c 7 t) ch) (blkB (iblk m c 6 t) (iblk m c 7 t) ch) M
  state : ∀ d i, (outsAt0 m c t.val t.isLt).2.2.1 (ix4 (dr ch) (hd ch) d i)
    = kSt (lastOf ch) (blkA (iblk m c 6 t) (iblk m c 7 t) ch) M (blkW (iblk m c 8 t) (iblk m c 9 t) ch)
        (blkK (iblk m c 2 t) (iblk m c 3 t) ch) (ext (blkV (X0_4 m c t) (X0_5 m c t) ch)) S d i
  fwd : ch.val < 8 → ∀ r i, (outsAt0 m c t.val t.isLt).1 (ix3 0 r ⟨ch.val % 8 * 256 + i.val, by omega⟩)
    = kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S r i
  bwd : 8 ≤ ch.val → ∀ r i, (outsAt0 m c t.val t.isLt).2.1 (ix3 0 r ⟨ch.val % 8 * 256 + i.val, by omega⟩)
    = kH (upTo ch) (blkA (iblk m c 6 t) (iblk m c 7 t) ch) (blkB (iblk m c 6 t) (iblk m c 7 t) ch) M
        (blkW (iblk m c 8 t) (iblk m c 9 t) ch) (blkQ (iblk m c 0 t) (iblk m c 1 t) ch)
        (blkK (iblk m c 2 t) (iblk m c 3 t) ch) (ext (blkV (X0_4 m c t) (X0_5 m c t) ch)) S r i

theorem leaves (t : Fin cfg0.N) (ch : Fin 16) : ∃ M S, Leaves m c t ch M S := by
  by_cases h0 : t.val % 128 = 0
  · refine ⟨0, fun _ _ => 0, fun _ => ⟨rfl, rfl⟩, fun h => absurd h0 h, ?_, ?_, ?_, ?_⟩
    · intro l
      rw [outsAt0_A m c t h0]
      dsimp only
      rw [Point.stabA]
    · intro d i
      rw [outsAt0_A m c t h0]
      dsimp only
      rw [Point.stateA]
    · intro hc r i
      rw [outsAt0_A m c t h0]
      dsimp only
      rw [Point.fwdA (hch := hc)]
    · intro hc r i
      rw [outsAt0_A m c t h0]
      dsimp only
      rw [Point.bwdA (hch := hc)]
  · refine ⟨_, _, fun h => absurd h h0, fun _ => ⟨rfl, rfl⟩, ?_, ?_, ?_, ?_⟩
    · intro l
      rw [outsAt0_B m c t h0]
      dsimp only
      rw [Point.stabB]
    · intro d i
      rw [outsAt0_B m c t h0]
      dsimp only
      rw [Point.stateB]
    · intro hc r i
      rw [outsAt0_B m c t h0]
      dsimp only
      rw [Point.fwdB (hch := hc)]
    · intro hc r i
      rw [outsAt0_B m c t h0]
      dsimp only
      rw [Point.bwdB (hch := hc)]

theorem outs_at (k : ℕ) (h : k < cfg0.N) (t : Fin cfg0.N) (e : k = t.val) : outsAt0 m c k h = outsAt0 m c t.val t.isLt := by
  subst e; rfl

variable (hg : Tame m c) (bt : Fin 2) (ch : Fin 16)
include hg

/-- What the reference carries into chunk `n`, the kernel's point finds. -/
def Found (n : ℕ) (M : EReal) (S : Fin 128 → Fin 384 → EReal) : Prop :=
  M = mR (rs m c n) (copy bt ch) (hd ch) ∧ (∃ y : ℝ, M = (y : EReal))
    ∧ S = stOf (CR (rs m c n) (copy bt ch) (hd ch)) (NR (rs m c n) (copy bt ch) (hd ch))

theorem carry : ∀ (n : ℕ) (hn : n < 128), ∃ M S, Leaves m c (pt bt ⟨n, hn⟩) ch M S ∧ Found m c bt ch n M S
  | 0, hn => by
    obtain ⟨M, S, h⟩ := leaves m c (pt bt ⟨0, hn⟩) ch
    obtain ⟨hM, hS⟩ := h.first (by show (128 * bt.val + 0) % 128 = 0; omega)
    refine ⟨M, S, h, ?_, ⟨0, hM⟩, ?_⟩
    · rw [hM]; exact (m_init _ _ _ _ _ _ _).symm
    · rw [hS]
      funext d i
      unfold stOf
      rw [C_init, N_init]
      split <;> rfl
  | n + 1, hn => by
    obtain ⟨M', S', h', hM', hr', hS'⟩ := carry n (by omega)
    obtain ⟨M, S, h⟩ := leaves m c (pt bt ⟨n + 1, hn⟩) ch
    obtain ⟨hM, hS⟩ := h.later (by show ¬(128 * bt.val + (n + 1)) % 128 = 0; omega)
    have hp := outs_at m c _ (Nat.lt_of_le_of_lt (Nat.sub_le _ _) (pt bt ⟨n + 1, hn⟩).isLt) (pt bt ⟨n, by omega⟩)
      (by show 128 * bt.val + (n + 1) - 1 = 128 * bt.val + n; omega)
    rw [hp] at hM hS
    have um := unit_m m c hg (pt bt ⟨n, by omega⟩) bt ⟨n, by omega⟩ rfl ch M' hM' hr'
    have e := (h'.stab 0).trans um.1
    obtain ⟨y, hy⟩ := um.2
    refine ⟨M, S, h, hM.trans e, ⟨y, (hM.trans e).trans hy⟩, hS.trans ?_⟩
    funext d i
    exact (h'.state d i).trans (unit_st m c hg (pt bt ⟨n, by omega⟩) bt ⟨n, by omega⟩ rfl ch M' S' hM' hr' hS' d i)

/-- The forward hidden states of a chunk. -/
theorem hidden_fwd (hc : ch.val < 8) (j : Fin 128) (r : Fin 128) (i : Fin 256) :
    (outsAt0 m c (pt bt j).val (pt bt j).isLt).1 (ix3 0 r ⟨ch.val % 8 * 256 + i.val, by omega⟩)
      = Cert.Reference5Ideal.Step.b73 j.val (rs m c j.val) (ix4 (fw bt) (hd ch) r i) := by
  obtain ⟨M, S, h, hM, hr, hS⟩ := carry m c hg bt ch j.val j.isLt
  have u := unit_h m c hg (pt bt j) bt j rfl ch M S hM hr hS r i
  have hb : Units.bwd ch = false := by rcases bwd_cases ch with h | h <;> [skip; skip] <;> first | exact h.1 | omega
  unfold copy ord at u
  rw [hb] at u
  exact (h.fwd hc r i).trans u

/-- The backward hidden states of a chunk, its rows in the reversed order. -/
theorem hidden_bwd (hc : 8 ≤ ch.val) (j : Fin 128) (r : Fin 128) (i : Fin 256) :
    (outsAt0 m c (pt bt j).val (pt bt j).isLt).2.1 (ix3 0 r.rev ⟨ch.val % 8 * 256 + i.val, by omega⟩)
      = Cert.Reference5Ideal.Step.b73 j.val (rs m c j.val) (ix4 (bw bt) (hd ch) r i) := by
  obtain ⟨M, S, h, hM, hr, hS⟩ := carry m c hg bt ch j.val j.isLt
  have u := unit_h m c hg (pt bt j) bt j rfl ch M S hM hr hS r i
  have hb : Units.bwd ch = true := by rcases bwd_cases ch with h | h <;> [skip; skip] <;> first | exact h.1 | omega
  unfold copy ord at u
  rw [hb] at u
  exact (h.bwd hc r.rev i).trans u

end Cert.Proof.Long.Carry
-- ==== Proof.LongResult.lean ====
/-
  The kernel's two result arrays are the reference's.
-/
module
public import proofs.«01_k».proof.Proof.LongCarry
public import Idealize.ShloMosaic.Lib.Pipeline.Covers

@[expose] public section

set_option maxRecDepth 16384
set_option maxHeartbeats 4000000

noncomputable section

namespace Cert.Proof.Long.Result

open Idealize.ShloMosaic Idealize.ShloMosaic.TcCoe Idealize.ShloMosaic.Tactic
open Cert.Kernel5Ideal Cert.Kernel5Ideal.Gen Cert.Proof.Long.Batch Cert.Proof.Long.Inputs Cert.Proof.Long.Carry
open Cert.Proof.Long.RefInit Cert.Proof.Long.RefStep Cert.Proof.Long.RefSeq

variable (m : (ℓ : Loc nD τ sig) → Buf (Elt Ideal) ℓ) (c : Dev nD) (hg : Tame m c)

/-- A grid point is the point of its batch and its chunk. -/
theorem pt_eq (t : Fin cfg0.N) : ∃ bt j, t = pt bt j := by
  have h : t.val < 256 := lt_of_lt_of_eq t.isLt N_0
  exact ⟨⟨t.val / 128, by omega⟩, ⟨t.val % 128, by omega⟩, Fin.ext (by show t.val = 128 * (t.val / 128) + t.val % 128; omega)⟩

include hg

theorem hs_at (j : Fin 128) (x : Fin 4) (h : Fin 8) (r : Fin 128) (i : Fin 256) :
    (rs m c 128).main_v46_11 (ix5 j x h r i) = Cert.Reference5Ideal.Step.b73 j.val (rs m c j.val) (ix4 x h r i) :=
  hidden_kept _ _ _ _ _ x h j 128 le_rfl j.isLt r i

theorem fwd : (dats m 0 c).arrAt 10 cfg0.N = Cert.Reference5Ideal.Step.R_main_v53 (rs m c 128) := by
  refine (dats m 0 c).arrAt_eq_of_covers 10 _ (by decide +kernel) fun t hf y => ?_
  blk_simp
  obtain ⟨bt, j, rfl⟩ := pt_eq t
  have h1 : (y 1).val < 128 := (y 1).isLt
  have h2 : (y 2).val < 2048 := (y 2).isLt
  have t1 : (pt bt j).val / 128 = bt.val := by show (128 * bt.val + j.val) / 128 = bt.val; omega
  have t2 : (pt bt j).val % 128 = j.val := by show (128 * bt.val + j.val) % 128 = j.val; omega
  obtain ⟨r, hr⟩ : ∃ r : Fin 128, r.val = (y 1).val := ⟨⟨(y 1).val, h1⟩, rfl⟩
  obtain ⟨ch, hc, hh⟩ : ∃ ch : Fin 16, ch.val < 8 ∧ ch.val % 8 = (y 2).val / 256 :=
    ⟨⟨(y 2).val / 256, by omega⟩, by show (y 2).val / 256 < 8; omega, by show (y 2).val / 256 % 8 = _; omega⟩
  obtain ⟨i, hi⟩ : ∃ i : Fin 256, i.val = (y 2).val % 256 := ⟨⟨(y 2).val % 256, by omega⟩, rfl⟩
  have hl : ch.val % 8 * 256 + i.val = (y 2).val := by omega
  have ey : y = (ix3 0 r ⟨ch.val % 8 * 256 + i.val, by omega⟩ : S1x128x2048.Idx) := by
    funext a
    match a with
    | 0 => exact Fin.ext (by have : (y 0).val < 1 := (y 0).isLt; show (y 0).val = 0; omega)
    | 1 => exact Fin.ext hr.symm
    | 2 => exact Fin.ext hl.symm
  have ee : (win0_10.blk (pt bt j)).view.emb y = ix3 bt (at_ j r) ⟨(Point.hd ch).val * 256 + i.val, by show ch.val % 8 * 256 + i.val < 2048; omega⟩ := by
    refine (congrArg _ ey).trans ?_
    have := (idx_out (pt bt j)).1

    blk_ext [this, at_, Point.hd]
  refine Eq.trans ?_ (congrArg _ ee).symm
  refine Eq.trans ?_ (res_fw bt (Point.hd ch) j r (rs m c 128) i).symm
  rw [hs_at m c hg]
  refine (congrArg _ ey).trans ?_
  exact hidden_fwd m c hg bt ch hc j r i

theorem bwd : (dats m 0 c).arrAt 11 cfg0.N = Cert.Reference5Ideal.Step.R_main_v55 (rs m c 128) := by
  refine (dats m 0 c).arrAt_eq_of_covers 11 _ (by decide +kernel) fun t hf y => ?_
  blk_simp
  obtain ⟨bt, j, rfl⟩ := pt_eq t
  have h1 : (y 1).val < 128 := (y 1).isLt
  have h2 : (y 2).val < 2048 := (y 2).isLt
  have t1 : (pt bt j).val / 128 = bt.val := by show (128 * bt.val + j.val) / 128 = bt.val; omega
  have t2 : (pt bt j).val % 128 = j.val := by show (128 * bt.val + j.val) % 128 = j.val; omega
  obtain ⟨r, hr⟩ : ∃ r : Fin 128, r.rev.val = (y 1).val := ⟨⟨127 - (y 1).val, by omega⟩, by simp only [Fin.val_rev]; omega⟩
  obtain ⟨ch, hc, hh⟩ : ∃ ch : Fin 16, 8 ≤ ch.val ∧ ch.val % 8 = (y 2).val / 256 :=
    ⟨⟨8 + (y 2).val / 256, by omega⟩, by show 8 ≤ 8 + (y 2).val / 256; omega, by show (8 + (y 2).val / 256) % 8 = _; omega⟩
  obtain ⟨i, hi⟩ : ∃ i : Fin 256, i.val = (y 2).val % 256 := ⟨⟨(y 2).val % 256, by omega⟩, rfl⟩
  have hl : ch.val % 8 * 256 + i.val = (y 2).val := by omega
  have ey : y = (ix3 0 r.rev ⟨ch.val % 8 * 256 + i.val, by omega⟩ : S1x128x2048.Idx) := by
    funext a
    match a with
    | 0 => exact Fin.ext (by have : (y 0).val < 1 := (y 0).isLt; show (y 0).val = 0; omega)
    | 1 => exact Fin.ext hr.symm
    | 2 => exact Fin.ext hl.symm
  have ee : (win0_11.blk (pt bt j)).view.emb y = ix3 bt (at_ j.rev r.rev) ⟨(Point.hd ch).val * 256 + i.val, by show ch.val % 8 * 256 + i.val < 2048; omega⟩ := by
    refine (congrArg _ ey).trans ?_
    have := (idx_out (pt bt j)).2
    have hj : (Fin.rev j).val = 127 - j.val := by simp only [Fin.val_rev]; omega
    blk_ext [this, at_, Point.hd]
  refine Eq.trans ?_ (congrArg _ ee).symm
  refine Eq.trans ?_ (res_bw bt (Point.hd ch) j r (rs m c 128) i).symm
  rw [hs_at m c hg]
  refine (congrArg _ ey).trans ?_
  exact hidden_bwd m c hg bt ch hc j r i

end Cert.Proof.Long.Result
-- ==== Proof.Mix.lean ====
/-
  The channel mixer as functions of its arrays: the root-mean-square norm of a row, the SwiGLU's hidden row, its
  product with the second weight, and the residual.
-/
module
public import Idealize.ShloMosaic.Lib.Pipeline.ValueKit
public import Idealize.ShloMosaic.Lib.Pointwise

@[expose] public section

noncomputable section

namespace Cert.Proof.Mix

open Idealize.ShloMosaic

/-- One over the root of a row's mean square, the constant under the root included. -/
def inv (f : Fin 2048 → EReal) : EReal :=
  Ideal.rsqrt (Ideal.div (∑ k, f k * f k) (Ideal.ofBits .f32 1157627904#32) + Ideal.ofBits .f32 897988541#32)

section
variable (x g : Fin 2048 → EReal) (w : Fin 2048 → Fin 11264 → EReal) (o : Fin 5632 → Fin 2048 → EReal) (h : Fin 2048 → EReal)

/-- The normed and scaled row. -/
def normed (k : Fin 2048) : EReal := x k * inv x * g k

/-- The row's product with column `n` of the first weight. -/
def proj (n : Fin 11264) : EReal := ∑ k, normed x g k * w k n

/-- The gated hidden row. -/
def act (f : Fin 5632) : EReal :=
  proj x g w ⟨f.val, by omega⟩ * Ideal.logistic (proj x g w ⟨f.val, by omega⟩) * proj x g w ⟨5632 + f.val, by omega⟩

/-- The row's product with the second weight. -/
def ff (d : Fin 2048) : EReal := ∑ f, act x g w f * o f d

/-- The part of that product that tile `j` of the hidden width contributes. -/
def tile (d : Fin 2048) (j : ℕ) : EReal :=
  if hj : j < 22 then ∑ l : Fin 256, act x g w ⟨j * 256 + l.val, by omega⟩ * o ⟨j * 256 + l.val, by omega⟩ d else 0

/-- The layer's result row. -/
def out (d : Fin 2048) : EReal := x d + normed (ff x g w o) h d

/-- The tiles' parts add up to the product. -/
theorem sum_tile (d : Fin 2048) : ∑ j ∈ Finset.range 22, tile x g w o d j = ff x g w o d := by
  rw [← Fin.sum_univ_eq_sum_range]
  unfold ff
  refine Eq.trans (Finset.sum_congr rfl fun j _ => ?_)
    (Fin.sum_mul_add_congr (S := 22) (n := 256) (F := fun j l => act x g w ⟨j.val * 256 + l.val, by omega⟩ * o ⟨j.val * 256 + l.val, by omega⟩ d)
      (fun s k hl => rfl) (by decide))
  exact dif_pos j.isLt

end

end Cert.Proof.Mix

end
-- ==== Proof.MixPoint.lean ====
/-
  The channel mixer's kernel point by point: the scratch holds the normed rows of the row block, the output's block the
  sum of the hidden tiles passed so far, and after the last tile the layer's result.
-/
module
public import proofs.«01_k».proof.Proof.Mix
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.Mix

open Idealize.ShloMosaic Idealize.ShloMosaic.TcCoe Idealize.ShloMosaic.Tactic
open Cert.Kernel2Ideal Cert.Kernel2Ideal.Gen

/-! ## The stored values at an index -/

theorem pay1_apply (x : Vec Ideal S1024x2048 .f32) (g : Vec Ideal S1x2048 .f32) (p : Fin 1024) (k : Fin 2048) :
    k0_pay1 x g (ix2 p k) = normed (fun k => x (ix2 p k)) (fun k => g (ix2 0 k)) k := by
  pointwise [k0_pay1]
  rfl

theorem pay2_apply (p : Fin 1024) (d : Fin 2048) : (k0_pay2 (F := Ideal)) (ix2 p d) = 0 := by
  pointwise [k0_pay2]

theorem pay4_apply (a x : Vec Ideal S1024x2048 .f32) (h : Vec Ideal S1x2048 .f32) (p : Fin 1024) (d : Fin 2048) :
    k0_pay4 a x h (ix2 p d) = x (ix2 p d) + normed (fun d => a (ix2 p d)) (fun d => h (ix2 0 d)) d := by
  pointwise [k0_pay4]
  rfl

theorem pay3_apply (h : Vec Ideal S1024x2048 .bf16) (wg wu : Vec Ideal S2048x256 .bf16) (a : Vec Ideal S1024x2048 .f32)
    (wo : Vec Ideal S256x2048 .bf16) (p : Fin 1024) (d : Fin 2048) :
    k0_pay3 h wg wu a wo (ix2 p d) = a (ix2 p d) + ∑ l : Fin 256,
      ((∑ k : Fin 2048, h (ix2 p k) * wg (ix2 k l)) * Ideal.logistic (∑ k : Fin 2048, h (ix2 p k) * wg (ix2 k l))
        * ∑ k : Fin 2048, h (ix2 p k) * wu (ix2 k l)) * wo (ix2 l d) := by
  pointwise [k0_pay3]

section
variable (m : (ℓ : Loc nD τ sig) → Buf (Elt Ideal) ℓ) (c : Dev nD)

/-! ## The arrays and the blocks of a point -/

def xs (r : Fin 32768) (k : Fin 2048) : EReal := m ((c : Thread nD τ).loc main_arg0) (ix2 r k)
def gs (k : Fin 2048) : EReal := m ((c : Thread nD τ).loc main_arg1) (ix1 k)
def ws (k : Fin 2048) (n : Fin 11264) : EReal := m ((c : Thread nD τ).loc main_arg2) (ix2 k n)
def os (f : Fin 5632) (d : Fin 2048) : EReal := m ((c : Thread nD τ).loc main_arg3) (ix2 f d)
def hs (d : Fin 2048) : EReal := m ((c : Thread nD τ).loc main_arg4) (ix1 d)

theorem lt_points (t : Fin cfg0.N) : t.val < 704 := lt_of_lt_of_eq t.isLt N_0

/-- The array row of row `p` of point `t`'s block. -/
def row (t : Fin cfg0.N) (p : Fin 1024) : Fin 32768 := ⟨t.val / 22 * 1024 + p.val, by have := lt_points t; omega⟩

theorem idx0 : ∀ t : Fin cfg0.N, win0_0.index t = ![t.val / 22, 0] := by decide +kernel
theorem idx1 : ∀ t : Fin cfg0.N, win0_1.index t = ![0, 0] := by decide +kernel
theorem idx2 : ∀ t : Fin cfg0.N, win0_2.index t = ![0, t.val % 22] := by decide +kernel
theorem idx3 : ∀ t : Fin cfg0.N, win0_3.index t = ![0, t.val % 22 + 22] := by decide +kernel
theorem idx4 : ∀ t : Fin cfg0.N, win0_4.index t = ![t.val % 22, 0] := by decide +kernel
theorem idx5 : ∀ t : Fin cfg0.N, win0_5.index t = ![0, 0] := by decide +kernel
theorem idx6 : ∀ t : Fin cfg0.N, win0_6.index t = ![t.val / 22, 0] := by decide +kernel

theorem blk0 (t : Fin cfg0.N) (p : Fin 1024) (k : Fin 2048) : iblk m c 0 t (ix2 p k) = xs m c (row t p) k := by
  unfold xs row
  blk_ext [iblk, V, idx0 t]
theorem blk1 (t : Fin cfg0.N) (k : Fin 2048) : iblk m c 1 t (ix2 0 k) = gs m c k := by
  unfold gs
  blk_ext! [iblk, idx1 t]
theorem blk2 (t : Fin cfg0.N) (k : Fin 2048) (l : Fin 256) :
    iblk m c 2 t (ix2 k l) = ws m c k ⟨t.val % 22 * 256 + l.val, by omega⟩ := by
  unfold ws
  blk_ext! [iblk, idx2 t]
theorem blk3 (t : Fin cfg0.N) (k : Fin 2048) (l : Fin 256) :
    iblk m c 3 t (ix2 k l) = ws m c k ⟨5632 + (t.val % 22 * 256 + l.val), by omega⟩ := by
  unfold ws
  blk_ext! [iblk, idx3 t]
theorem blk4 (t : Fin cfg0.N) (l : Fin 256) (d : Fin 2048) :
    iblk m c 4 t (ix2 l d) = os m c ⟨t.val % 22 * 256 + l.val, by omega⟩ d := by
  unfold os
  blk_ext! [iblk, idx4 t]
theorem blk5 (t : Fin cfg0.N) (d : Fin 2048) : iblk m c 5 t (ix2 0 d) = hs m c d := by
  unfold hs
  blk_ext! [iblk, idx5 t]

/-! ## The scratch -/

/-- What a block of normed rows gives the accumulator at one tile: the tile's part. -/
theorem step_apply (t : Fin cfg0.N) (h : Vec Ideal S1024x2048 .bf16) (a : Vec Ideal S1024x2048 .f32)
    (hh : ∀ p k, h (ix2 p k) = normed (xs m c (row t p)) (gs m c) k) (p : Fin 1024) (d : Fin 2048) :
    k0_pay3 h (iblk m c 2 t) (iblk m c 3 t) a (iblk m c 4 t) (ix2 p d)
      = a (ix2 p d) + tile (xs m c (row t p)) (gs m c) (ws m c) (os m c) d (t.val % 22) := by
  rw [pay3_apply]
  unfold tile
  rw [dif_pos (Nat.mod_lt _ (by decide))]
  refine congrArg _ (Finset.sum_congr rfl fun l _ => ?_)
  rw [blk4]
  refine congrArg (· * _) ?_
  unfold act proj
  simp only [hh, blk2, blk3]

theorem first_norm (t : Fin cfg0.N) (p : Fin 1024) (k : Fin 2048) :
    k0_pay1 (iblk m c 0 t) (iblk m c 1 t) (ix2 p k) = normed (xs m c (row t p)) (gs m c) k := by
  refine (pay1_apply _ _ p k).trans ?_
  simp only [blk0, blk1]

theorem row_pred (n : ℕ) (h : n + 1 < cfg0.N) (hn : ¬(n + 1) % 22 = 0) (p : Fin 1024) :
    row ⟨n + 1, h⟩ p = row ⟨n, Nat.lt_of_succ_lt h⟩ p :=
  Fin.ext (by show (n + 1) / 22 * 1024 + p.val = n / 22 * 1024 + p.val; rw [show (n + 1) / 22 = n / 22 by omega])

/-- After every point the scratch holds the normed rows of the point's row block. -/
theorem scratch : ∀ (n : ℕ) (h : n < cfg0.N) (p : Fin 1024) (k : Fin 2048),
    (outsAt0 m c n h).2 (ix2 p k) = normed (xs m c (row ⟨n, h⟩ p)) (gs m c) k := by
  intro n
  induction n with
  | zero =>
    intro h p k
    rw [outsAt0_A m c ⟨0, h⟩ (Nat.zero_mod _) (by decide : ¬(0 % 22 = 21))]
    dsimp only
    frame_out
    exact first_norm m c ⟨0, h⟩ p k
  | succ n ih =>
    intro h p k
    by_cases h0 : (n + 1) % 22 = 0
    · rw [outsAt0_A m c ⟨n + 1, h⟩ h0 (by show ¬(n + 1) % 22 = 21; omega)]
      dsimp only
      frame_out
      exact first_norm m c ⟨n + 1, h⟩ p k
    · rw [row_pred n h h0 p, ← ih (Nat.lt_of_succ_lt h) p k]
      by_cases h1 : (n + 1) % 22 = 21
      · rw [outsAt0_C m c ⟨n + 1, h⟩ h0 h1]
        rfl
      · rw [outsAt0_B m c ⟨n + 1, h⟩ h0 h1]
        rfl

/-! ## The output's block -/

/-- Before the last tile the output's block holds the sum of the tiles' parts so far. -/
theorem partial_sum : ∀ (n : ℕ) (h : n < cfg0.N), n % 22 ≠ 21 → ∀ (p : Fin 1024) (d : Fin 2048),
    (outsAt0 m c n h).1 (ix2 p d)
      = ∑ j ∈ Finset.range (n % 22 + 1), tile (xs m c (row ⟨n, h⟩ p)) (gs m c) (ws m c) (os m c) d j := by
  have first : ∀ (t : Fin cfg0.N), t.val % 22 = 0 → ∀ (p : Fin 1024) (d : Fin 2048), (outsAt0 m c t.val t.isLt).1 (ix2 p d)
      = ∑ j ∈ Finset.range (t.val % 22 + 1), tile (xs m c (row t p)) (gs m c) (ws m c) (os m c) d j := by
    intro t h0 p d
    rw [outsAt0_A m c t h0 (by omega)]
    dsimp only
    frame_out
    rw [step_apply m c t _ _ (first_norm m c t) p d, pay2_apply, zero_add, h0, zero_add, Finset.sum_range_one]
  intro n
  induction n with
  | zero => exact fun h _ p d => first ⟨0, h⟩ (Nat.zero_mod _) p d
  | succ n ih =>
    intro h h1 p d
    by_cases h0 : (n + 1) % 22 = 0
    · exact first ⟨n + 1, h⟩ h0 p d
    · rw [outsAt0_B m c ⟨n + 1, h⟩ h0 h1]
      dsimp only
      frame_out
      simp only [read_unread_whole]
      refine (step_apply m c ⟨n + 1, h⟩ _ _ (fun p k => ?_) p d).trans ?_
      · rw [row_pred n h h0 p]
        exact scratch m c n (Nat.lt_of_succ_lt h) p k
      · have e : (n + 1) % 22 = n % 22 + 1 := by omega
        rw [row_pred n h h0 p]
        show _ + tile _ _ _ _ d ((n + 1) % 22) = ∑ j ∈ Finset.range ((n + 1) % 22 + 1), _
        rw [Finset.sum_range_succ, e]
        exact congrArg (· + _) (ih (Nat.lt_of_succ_lt h) (by omega) p d)

/-- After the last tile it holds the layer's result rows. -/
theorem last (t : Fin cfg0.N) (h1 : t.val % 22 = 21) (p : Fin 1024) (d : Fin 2048) :
    (outsAt0 m c t.val t.isLt).1 (ix2 p d) = out (xs m c (row t p)) (gs m c) (ws m c) (os m c) (hs m c) d := by
  obtain ⟨n, h⟩ := t
  cases n with
  | zero => exact absurd h1 (by decide : ¬(0 % 22 = 21))
  | succ n =>
    have h1' : (n + 1) % 22 = 21 := h1
    have h0 : ¬(n + 1) % 22 = 0 := by omega
    rw [outsAt0_C m c ⟨n + 1, h⟩ h0 h1]
    dsimp only
    frame_out
    simp only [read_unread_whole]
    refine (pay4_apply _ _ _ p d).trans ?_
    unfold out
    refine congrArg₂ (· + ·) (blk0 m c ⟨n + 1, h⟩ p d) ?_
    refine congrArg₂ (fun f g => normed f g d) (funext fun d => ?_) (funext fun d => blk5 m c ⟨n + 1, h⟩ d)
    refine (step_apply m c ⟨n + 1, h⟩ _ _ (fun p k => ?_) p d).trans ?_
    · rw [row_pred n h h0 p]
      exact scratch m c n (Nat.lt_of_succ_lt h) p k
    · rw [← sum_tile, Finset.sum_range_succ]
      show _ + tile _ _ _ _ d ((n + 1) % 22) = _
      rw [h1']
      refine congrArg (· + _) ?_
      have hp := partial_sum m c n (Nat.lt_of_succ_lt h) (by omega) p d
      rw [show n % 22 + 1 = 21 by omega] at hp
      rw [row_pred n h h0 p]
      exact hp

/-- The result array of the run, at an index. -/
theorem result : (dats m 0 c).arrAt 6 cfg0.N = fun i => out (xs m c (i 0)) (gs m c) (ws m c) (os m c) (hs m c) (i 1) := by
  refine (dats m 0 c).arrAt_eq_of_covers 6 _ (by decide +kernel) fun t hf y => ?_
  blk_simp
  rw [after0_6]
  idx_vars y
  refine (last m c t ((flush0_6 t).mp hf) _ _).trans ?_
  have h := idx6 t
  have e0 : ((View.whole main_v4).slice (win0_6.rect t)).emb (ix2 y0 y1) 0 = row t y0 := Fin.ext (by
    show win0_6.index t 0 * 1024 + 1 * y0.val = t.val / 22 * 1024 + y0.val
    rw [h]
    show t.val / 22 * 1024 + 1 * y0.val = _
    omega)
  have e1 : ((View.whole main_v4).slice (win0_6.rect t)).emb (ix2 y0 y1) 1 = y1 := Fin.ext (by
    show win0_6.index t 1 * 2048 + 1 * y1.val = y1.val
    rw [h]
    show 0 * 2048 + 1 * y1.val = _
    omega)
  exact congrArg₂ (fun r d => out (xs m c r) (gs m c) (ws m c) (os m c) (hs m c) d) e0.symm e1.symm

end

end Cert.Proof.Mix

end
-- ==== Proof.MixRef.lean ====
/-
  The channel mixer's reference read at an index: the same function of its arrays.
-/
module
public import proofs.«01_k».proof.Proof.Mix
public import proofs.«01_k».proof.Proof.Gen.Reference2Ideal.Run
public import Idealize.ShloMosaic.Lib.Pointwise

@[expose] public section

set_option maxRecDepth 16384

noncomputable section

namespace Cert.Proof.Mix

open Idealize.ShloMosaic Idealize.ShloMosaic.TcCoe
open Cert.Reference2Ideal Cert.Reference2Ideal.Gen

variable (m : (ℓ : Loc nD τ sig) → Buf (Elt Ideal) ℓ) (c : Dev nD)

theorem ref_apply (r : Fin 32768) (d : Fin 2048) : Value.res_main_v32 m c (ix2 r d)
    = out (fun k => m (c.tc.loc main_arg0) (ix2 r k)) (fun k => m (c.tc.loc main_arg1) (ix1 k))
        (fun k n => m (c.tc.loc main_arg2) (ix2 k n)) (fun f d => m (c.tc.loc main_arg3) (ix2 f d))
        (fun d => m (c.tc.loc main_arg4) (ix1 d)) d := by
  pointwise [Value.res_main_v32]
  rfl

end Cert.Proof.Mix

end
-- ==== Proof.Head.lean ====
/-
  The input projection as functions of its arrays: the normed row's product with a column of the weight, and the order in
  which the layer's calls take the columns.
-/
module
public import proofs.«01_k».proof.Proof.Mix

@[expose] public section

noncomputable section

namespace Cert.Proof.Head

open Idealize.ShloMosaic

/-- The weight's column that stands at column `n`: the gates' columns left out, the Fourier channels moved last. -/
def col (n : Fin 11264) : Fin 11296 :=
  if n.val < 6144 then ⟨n.val, by omega⟩
  else if h : n.val < 10240 then ⟨7200 + (n.val - 6144), by omega⟩ else ⟨6176 + (n.val - 10240), by omega⟩

section
variable (x g : Fin 2048 → EReal) (w : Fin 2048 → Fin 11296 → EReal)

/-- The normed row's product with column `n`. -/
def proj (n : Fin 11296) : EReal := ∑ k, Mix.normed x g k * w k n

/-- The gates' columns, over zeros. -/
def gate (n : Fin 128) : EReal := if h : n.val < 32 then proj x g w ⟨6144 + n.val, by omega⟩ else 0

end

end Cert.Proof.Head

end
-- ==== Proof.HeadRunIdeal.lean ====
/-
  The input projection's kernel as a pipeline: what each grid point leaves in the three outputs' blocks and in the scratch
  holding the normed rows, the body's triple in its two cases, and the run of the whole program.
-/
module
public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.ValueKit

@[expose] public section

set_option maxRecDepth 16384

noncomputable section

namespace Cert.Proof.HeadRun.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem points (t : Fin cfg0.N) : t.val < 352 := lt_of_lt_of_eq t.isLt N_0

/-- The rows are normed at the first column tile of a row block. -/
theorem first_iff (t : Fin cfg0.N) : k0_cond1 (grid0.coords t) = 1#1 ↔ t.val % 11 = 0 := by
  have ht : t.val < 352 := points t
  have e1 : (grid0.coords t 1).val = t.val / 1 % 11 := Pipeline.Grid.coords_val t 1 (by decide) rfl
  simp only [k0_cond1, e1]
  word_cmp

/-- A buffer last written over its whole shape reads back what was written. -/
theorem read_last {sig : RefSig} {κ : Kind} {sp : Space} {s : Shape} {e : EltTy} {Val : EltTy → Type} (v : View sig κ sp s e)
    (f : v.ty.Contents Val) {off : Fin s.rank → ℕ} (inb : ∀ a, off a + s.size a ≤ s.size a) (w : s.Idx → Val e)
    (L : List (View.Piece Val s e)) (h : ∀ a, off a = 0) :
    v.read Val (v.writes Val f ((⟨Rect.unit off s.size inb, w⟩ : View.Piece Val s e) :: L)) = w :=
  funext fun y => View.read_writes_cons_hit_of_coords v f (Rect.unit off s.size inb) w L y y fun a => by
    show (y a).val = off a + 1 * (y a).val
    rw [h a]; omega

/-- A load of the whole shape, after such a write, reads what was written. -/
theorem load_last {sig : RefSig} {κ : Kind} {sp : Space} {s : Shape} {e : EltTy} {Val : EltTy → Type} [∀ e, Nonempty (Val e)]
    (v : View sig κ sp s e) {off off' : Fin s.rank → ℕ} (inb : ∀ a, off a + s.size a ≤ s.size a)
    (inb' : ∀ a, off' a + s.size a ≤ s.size a) (w : s.Idx → Val e)
    (L : List (View.Piece Val s e)) (h : ∀ a, off a = 0) (h' : ∀ a, off' a = 0) :
    v.readCov ((⟨Rect.unit off s.size inb, w⟩ : View.Piece Val s e) :: L) (Rect.unit off' s.size inb').toLoadRect = w :=
  View.readCov_cons_unit_lit' v inb inb' w L h h'

theorem zeros : ∀ a : Fin 2, (![0, 0] : Fin 2 → ℕ) a = 0 := by decide

/-! ## The body -/

set_option maxHeartbeats 1000000 in
theorem bodyFirst (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x2048 .bf16) (harg9 : arg9.IsWhole) (hc0 : k0_cond1 i = 1#1)
    (x0 : Vec F S1024x2048 .f32) (x1 : Vec F S1x2048 .f32) (x2 : Vec F S2048x1024 .bf16) (x3 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (k0_pay2 x0 x1) x2) ∗ owns (c : Thread nD τ) arg7 fullShare (k0_pay4 (k0_pay2 x0 x1) x2) ∗ owns (c : Thread nD τ) arg8 fullShare (k0_pay3 x0 x1 x3) ∗ owns (c : Thread nD τ) arg9 fullShare (k0_pay2 x0 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_last _ _ _ _ _ zeros).trans ?_
    unfold bodyFirst.sl.v3 bodyFirst.sl.HS0_1
    rw [load_last (s := S1024x2048) _ _ _ _ _ zeros zeros]
    simp only [View.readAt_eq_ld, Memref.IsWhole.read_unread]
    rw [View.ld_unit_lit' _ _ zeros, View.ld_unit_lit' _ _ zeros, View.ld_unit_lit' _ _ zeros]
  isplitl [H5]
  · iexists _; isplitr
    swap; · iexact H5
    ipureintro
    refine (read_last _ _ _ _ _ zeros).trans ?_
    unfold bodyFirst.sl.v3 bodyFirst.sl.HS0_1
    rw [load_last (s := S1024x2048) _ _ _ _ _ zeros zeros]
    simp only [View.readAt_eq_ld, Memref.IsWhole.read_unread]
    rw [View.ld_unit_lit' _ _ zeros, View.ld_unit_lit' _ _ zeros, View.ld_unit_lit' _ _ zeros]
  isplitl [H6]
  · iexists _; isplitr
    swap; · iexact H6
    ipureintro
    refine (read_last _ _ _ _ _ zeros).trans ?_
    simp only [View.readAt_eq_ld, Memref.IsWhole.read_unread]
    rw [View.ld_unit_lit' _ _ zeros, View.ld_unit_lit' _ _ zeros, View.ld_unit_lit' _ _ zeros]
  iexists _; isplitr
  swap; · iexact HS0
  ipureintro
  refine (read_last _ _ _ _ _ zeros).trans ?_
  simp only [View.readAt_eq_ld, Memref.IsWhole.read_unread]
  rw [View.ld_unit_lit' _ _ zeros, View.ld_unit_lit' _ _ zeros]

set_option maxHeartbeats 1000000 in
theorem bodyLater (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x2048 .bf16) (harg9 : arg9.IsWhole) (hc0 : ¬k0_cond1 i = 1#1)
    (x0 : Vec F S1024x2048 .f32) (x1 : Vec F S1x2048 .f32) (x2 : Vec F S2048x1024 .bf16) (x3 : Vec F S2048x128 .bf16) (x6 : Vec F S1024x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 xs x2) ∗ owns (c : Thread nD τ) arg7 fullShare (k0_pay4 xs x2) ∗ owns (c : Thread nD τ) arg8 fullShare x6 ∗ owns (c : Thread nD τ) arg9 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_last _ _ _ _ _ zeros).trans ?_
    simp only [View.readAt_eq_ld, Memref.IsWhole.read_unread]
    rw [View.ld_unit_lit' _ _ zeros, View.ld_unit_lit' _ _ zeros]
  isplitl [H5]
  · iexists _; isplitr
    swap; · iexact H5
    ipureintro
    refine (read_last _ _ _ _ _ zeros).trans ?_
    simp only [View.readAt_eq_ld, Memref.IsWhole.read_unread]
    rw [View.ld_unit_lit' _ _ zeros, View.ld_unit_lit' _ _ zeros]
  isplitl [H6]
  · iexists _; isplitr; · ipureintro; exact harg8.read_unread _
    iexact H6
  iexists _; isplitr; · ipureintro; exact harg9.read_unread _
  iexact HS0

section
variable (m : (ℓ : Loc nD τ sig) → Buf (Elt F) ℓ) (ρ : Dev nD → PrngReg)

/-! ## What a point leaves -/

abbrev scr : Memref sig .tc .vmem S1024x2048 .bf16 := Memref.whole cc0_scratch0

/-- The normed rows of point `t`'s row block. -/
def rows (c : Dev nD) (t : Fin cfg0.N) : Vec F S1024x2048 .bf16 := k0_pay2 (iblk m c 0 t) (iblk m c 1 t)

/-- The region's invariant before point `n`: after a point the scratch holds that point's normed rows. -/
def Inv (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem inv_zero (c : Dev nD) (n : ℕ) (h : n ≤ cfg0.N) (hz : n = 0) : Inv m c n h = Pipeline.ΦA spec0 c := by
  subst hz; rfl

theorem inv_pos (c : Dev nD) (n : ℕ) (h : n ≤ cfg0.N) (hz : n ≠ 0) :
    Inv m c n h = iprop(iprop(owns (c : Thread nD τ) scr fullShare (rows m c ⟨n - 1, by omega⟩)) ∗ (∃ r, prngReg c r)) := by
  cases n with
  | zero => exact absurd rfl hz
  | succ n => rfl

theorem any_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The arrays as the region finds them, and after the body at each point every window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (rows m c t) (iblk m c 2 t)
    | ⟨5, _⟩ => k0_pay4 (rows m c t) (iblk m c 2 t)
    | ⟨6, _⟩ => k0_pay3 (iblk m c 0 t) (iblk m c 1 t) (iblk m c 3 t)
  Φ t := Inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem inv_at (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay5 (rows m c t) (iblk m c 2 t) := by dsimp only [dats]
theorem after5 (c : Dev nD) (t : Fin cfg0.N) : (dats m 0 c).after 5 t = k0_pay4 (rows m c t) (iblk m c 2 t) := by dsimp only [dats]
theorem after6 (c : Dev nD) (t : Fin cfg0.N) :
    (dats m 0 c).after 6 t = k0_pay3 (iblk m c 0 t) (iblk m c 1 t) (iblk m c 3 t) := by dsimp only [dats]

theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d

/-! ## Within a row block the first three operands stay -/

theorem index0 : ∀ t : Fin cfg0.N, win0_0.index t = ![t.val / 11, 0] := by decide +kernel
theorem index1 : ∀ t : Fin cfg0.N, win0_1.index t = ![0, 0] := by decide +kernel
theorem index3 : ∀ t : Fin cfg0.N, win0_3.index t = ![0, 0] := by decide +kernel

abbrev pred (t : Fin cfg0.N) : Fin cfg0.N := ⟨t.val - 1, Nat.lt_of_le_of_lt (Nat.sub_le _ _) t.isLt⟩

theorem before_fetched0 (c : Dev nD) (t : Fin cfg0.N) (d) : (dats m 0 c).fetched 0 t d = iblk m c 0 t := by
  unfold Dat.fetched Dat.blockOf iblk; rw [dats_A]; rfl
theorem before_fetched1 (c : Dev nD) (t : Fin cfg0.N) (d) : (dats m 0 c).fetched 1 t d = iblk m c 1 t := by
  unfold Dat.fetched Dat.blockOf iblk; rw [dats_A]; rfl
theorem before_fetched3 (c : Dev nD) (t : Fin cfg0.N) (d) : (dats m 0 c).fetched 3 t d = iblk m c 3 t := by
  unfold Dat.fetched Dat.blockOf iblk; rw [dats_A]; rfl

theorem same0 (c : Dev nD) (t : Fin cfg0.N) (h : ¬t.val % 11 = 0) : iblk m c 0 t = iblk m c 0 (pred t) := by
  have hi : (cfg0.win 0).index t = (cfg0.win 0).index (pred t) := by
    show win0_0.index t = win0_0.index (pred t)
    rw [index0, index0]
    have : t.val / 11 = (t.val - 1) / 11 := by omega
    rw [this]
  exact (before_fetched0 m c t (iblk m c 0 t)).symm.trans
    (((dats m 0 c).fetched_congr 0 hi rfl (iblk m c 0 t)).trans (before_fetched0 m c (pred t) (iblk m c 0 t)))
theorem same1 (c : Dev nD) (t : Fin cfg0.N) : iblk m c 1 t = iblk m c 1 (pred t) := by
  have hi : (cfg0.win 1).index t = (cfg0.win 1).index (pred t) := by
    show win0_1.index t = win0_1.index (pred t)
    rw [index1, index1]
  exact (before_fetched1 m c t (iblk m c 1 t)).symm.trans
    (((dats m 0 c).fetched_congr 1 hi rfl (iblk m c 1 t)).trans (before_fetched1 m c (pred t) (iblk m c 1 t)))
theorem same3 (c : Dev nD) (t : Fin cfg0.N) : iblk m c 3 t = iblk m c 3 (pred t) := by
  have hi : (cfg0.win 3).index t = (cfg0.win 3).index (pred t) := by
    show win0_3.index t = win0_3.index (pred t)
    rw [index3, index3]
  exact (before_fetched3 m c t (iblk m c 3 t)).symm.trans
    (((dats m 0 c).fetched_congr 3 hi rfl (iblk m c 3 t)).trans (before_fetched3 m c (pred t) (iblk m c 3 t)))

theorem rows_same (c : Dev nD) (t : Fin cfg0.N) (h : ¬t.val % 11 = 0) : rows m c (pred t) = rows m c t := by
  unfold rows
  rw [same0 m c t h, same1 m c t]

theorem after6_same (c : Dev nD) (t : Fin cfg0.N) (h : ¬t.val % 11 = 0) :
    (dats m 0 c).after 6 (pred t) = (dats m 0 c).after 6 t := by
  rw [after6, after6, same0 m c t h, same1 m c t, same3 m c t]

/-! ## The gates' block, stored at a row block's first point and written back at its last -/

theorem idle6 (t : Fin cfg0.N) : cfg0.idle 6 (cfg0.grid.coords t) = !decide (t.val % 11 = 0) := by
  show (!(k0_cond1 (grid0.coords t) == 1#1)) = _
  by_cases h : t.val % 11 = 0
  · rw [(first_iff t).mpr h, decide_eq_true h]; rfl
  · have := mt (first_iff t).mp h
    rw [decide_eq_false h, beq_eq_false_iff_ne.mpr this]

theorem flush6 : ∀ t : Fin cfg0.N, (cfg0.win 6).flushF t = decide (t.val % 11 = 10) := by decide +kernel

theorem fresh6 : ∀ n, n ≤ cfg0.N → cfg0.fresh 6 n = decide (n % 11 = 0) :=
  cfg0.fresh_tab 6 (fun n => decide (n % 11 = 0)) rfl fun t => by
    rw [Window.flush_eq_flushF, flush6, idle6]
    by_cases h0 : t.val % 11 = 0
    · have : ¬(t.val + 1) % 11 = 0 := by omega
      have h1 : ¬t.val % 11 = 10 := by omega
      simp [h0, this]
    · by_cases h1 : t.val % 11 = 10
      · have : (t.val + 1) % 11 = 0 := by omega
        simp [h1, this]
      · have : ¬(t.val + 1) % 11 = 0 := by omega
        simp [h0, h1, this]

theorem before6 (c : Dev nD) (t : Fin cfg0.N) (h : ¬t.val % 11 = 0) (d) :
    (dats m 0 c).before 6 t d = (dats m 0 c).after 6 t := by
  rw [(dats m 0 c).before_out_traj 6 rfl (fun _ _ => rfl) (fun t' h' hi _ => by
    rw [idle6] at hi
    exact (after6_same m c t' (by simpa using hi)).symm) t.val t rfl d, fresh6 t.val (le_of_lt t.isLt), decide_eq_false h]
  rw [if_neg Bool.false_ne_true]
  exact after6_same m c t h

/-! ## The body at a point -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x1024 .f32 := win0_5.stage (cfg0.slots t 5)
abbrev ms6 (t : Fin cfg0.N) : Memref sig .tc .vmem S1024x128 .f32 := win0_6.stage (cfg0.slots t 6)

def Pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def Post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

/-- The gates' block at a point, held at what the point leaves, is what is asked of it. -/
theorem leave6 (c : Dev nD) (t : Fin cfg0.N) :
    owns (c : Thread nD τ) (ms6 t) fullShare ((dats m 0 c).after 6 t) ⊢ ((dats m 0 c).leavesExact 6 t : sProp 𝕄) := by
  unfold Dat.leavesExact
  rw [idle6]
  by_cases h : t.val % 11 = 0
  · rw [decide_eq_true h]; exact .rfl
  · rw [decide_eq_false h, Bool.not_false]
    cases (cfg0.win 6).flush t
    · iintro H
      iexists ((dats m 0 c).after 6 t)
      rw [before6 m c t h]
      iexact H
    · exact .rfl

set_option maxHeartbeats 4000000 in
theorem body_at (c : Dev nD) (t : Fin cfg0.N) :
    Pre m c t ⊢ wp frame (wpE (defs₀ (F := F)) Variants.none c none) Set.univ (bodyAt0 t) (fun _ => Post m c t) := by
  have hN : t.val < 352 := points t
  unfold Pre Post bodyAt0
  simp only [before0, before1, before2, before3]
  rw [show (dats m 0 c).owesAt () t.succ = (dats m 0 c).owesAt () t.castSucc from rfl,
    after0, after1, after2, after3, after4, after5]
  rw [show (dats m 0 c).Φ t.succ = iprop(iprop(owns (c : Thread nD τ) scr fullShare (rows m c t)) ∗ (∃ r, prngReg c r)) from rfl]
  by_cases h0 : t.val % 11 = 0
  · have start : (dats m 0 c).Φ t.castSucc ⊢ (iprop(iprop((∃ d, owns (c : Thread nD τ) scr fullShare d)) ∗ (∃ r, prngReg c r)) : sProp 𝕄) := by
      rw [inv_at]
      by_cases hz : t.val = 0
      · rw [inv_zero m c _ _ hz, any_eq]
      · rw [inv_pos m c _ _ hz]
        iintro ⟨HS0, Hg⟩
        isplitl [HS0]
        · iexists _; iexact HS0
        iexact Hg
    refine (sep_mono start .rfl).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (bodyFirst c (grid0.coords t) _ _ _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leave6 m c t)
    rw [after6]
    iexact H6
  · have hz : t.val ≠ 0 := fun h => h0 (by rw [h])
    rw [inv_at, inv_pos m c _ _ hz, show rows m c ⟨t.val - 1, _⟩ = rows m c t from rows_same m c t h0]
    simp only [before6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (bodyLater c (grid0.coords t) _ _ _ _ _ _ _ _ _ _ _ _ _ _ _ _ (mt (first_iff t).mp h0) (iblk m c 0 t) (iblk m c 1 t) (iblk m c 2 t) (iblk m c 3 t) ((dats m 0 c).after 6 t) (rows m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leave6 m c t)
    iexact H6

theorem table_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_at m c t) rfl .rfl fun _ => .rfl

theorem enter (c : Dev nD) : Pipeline.ΦA spec0 c ⊢ (dats m 0 c).Φ 0 := by
  rw [show (dats m 0 c).Φ 0 = Inv m c 0 (Nat.zero_le _) from rfl, inv_zero m c 0 _ rfl]

theorem leave (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    inv_pos m c _ _ (by rw [Fin.val_last]; have : cfg0.N = 352 := N_0; omega), any_eq]
  iintro ⟨HS0, Hg⟩
  isplitl [HS0]
  · iexists _; iexact HS0
  iexact Hg

/-! ## The run -/

set_option backward.isDefEq.respectTransparency.types false in
theorem run_idle : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun _ w => by unfold Dat.share; split <;> rfl)
    (howed := fun _ _ => rfl) (V := V m) (hmain := hmain m Variants.none) (hA := dats_A m) (hin := enter m) (hout := leave m)

theorem run_post : θ_run defs (onTc (τ := τ) (main (F := F))) (s₀ m ρ) (Pipeline.FramePost cfgs (dats m) 0 (V m)) :=
  (θ_run defs _ _).mono (fun _ h => h.1) (run_idle m ρ)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_post m ρ)) ((θ_run defs _ _).mono (fun _ h => h.2) (run_idle m ρ))

end

end Cert.Proof.HeadRun.Kernel3Ideal

end
-- ==== Proof.HeadPoint.lean ====
/-
  The input projection's kernel point by point: every block holds the normed rows' products with the columns of its tile.
-/
module
public import proofs.«01_k».proof.Proof.Head
public import proofs.«01_k».proof.Proof.HeadRunIdeal
public import Idealize.ShloMosaic.Lib.Pointwise
public import Idealize.ShloMosaic.Lib.Claim

@[expose] public section

set_option maxRecDepth 16384

noncomputable section

namespace Cert.Proof.Head

open Idealize.ShloMosaic Idealize.ShloMosaic.TcCoe Idealize.ShloMosaic.Tactic
open Cert.Kernel3Ideal Cert.Kernel3Ideal.Gen
open Cert.Proof.Mix (normed)
open Cert.Proof.HeadRun.Kernel3Ideal

/-! ## The stored values at an index -/

theorem pay1_apply (x : Vec Ideal S1024x2048 .f32) (g : Vec Ideal S1x2048 .f32) (p : Fin 1024) (k : Fin 2048) :
    k0_pay1 x g (ix2 p k) = normed (fun k => x (ix2 p k)) (fun k => g (ix2 0 k)) k := by
  pointwise [k0_pay1]
  rfl

theorem pay2_apply (x : Vec Ideal S1024x2048 .f32) (g : Vec Ideal S1x2048 .f32) (p : Fin 1024) (k : Fin 2048) :
    k0_pay2 x g (ix2 p k) = normed (fun k => x (ix2 p k)) (fun k => g (ix2 0 k)) k := by
  pointwise [k0_pay2]
  exact pay1_apply x g p k

theorem pay3_apply (x : Vec Ideal S1024x2048 .f32) (g : Vec Ideal S1x2048 .f32) (w : Vec Ideal S2048x128 .bf16) (p : Fin 1024) (n : Fin 128) :
    k0_pay3 x g w (ix2 p n) = ∑ k : Fin 2048, normed (fun k => x (ix2 p k)) (fun k => g (ix2 0 k)) k * w (ix2 k n) := by
  pointwise [k0_pay3]
  simp only [pay1_apply]

theorem pay4_apply (h : Vec Ideal S1024x2048 .bf16) (w : Vec Ideal S2048x1024 .bf16) (p : Fin 1024) (n : Fin 1024) :
    k0_pay4 h w (ix2 p n) = ∑ k : Fin 2048, h (ix2 p k) * w (ix2 k n) := by
  pointwise [k0_pay4]

theorem pay5_apply (h : Vec Ideal S1024x2048 .bf16) (w : Vec Ideal S2048x1024 .bf16) (p : Fin 1024) (n : Fin 1024) :
    k0_pay5 h w (ix2 p n) = ∑ k : Fin 2048, h (ix2 p k) * w (ix2 k n) := by
  pointwise [k0_pay5]
  exact pay4_apply h w p n

section
variable (m : (ℓ : Loc nD τ sig) → Buf (Elt Ideal) ℓ) (c : Dev nD)

/-! ## The arrays and the blocks of a point -/

def xs (r : Fin 32768) (k : Fin 2048) : EReal := m ((c : Thread nD τ).loc main_arg0) (ix2 r k)
def gs (k : Fin 2048) : EReal := m ((c : Thread nD τ).loc main_arg1) (ix1 k)
def ws (k : Fin 2048) (n : Fin 11296) : EReal := m ((c : Thread nD τ).loc main_arg2) (ix2 k n)

/-- The array row of row `p` of point `t`'s block, and the column of column `l`. -/
def row (t : Fin cfg0.N) (p : Fin 1024) : Fin 32768 := ⟨t.val / 11 * 1024 + p.val, by have := points t; omega⟩
def column (t : Fin cfg0.N) (l : Fin 1024) : Fin 11264 := ⟨t.val % 11 * 1024 + l.val, by omega⟩

theorem index2 : ∀ t : Fin cfg0.N, win0_2.index t = ![0, t.val % 11] := by decide +kernel
theorem index4 : ∀ t : Fin cfg0.N, win0_4.index t = ![t.val / 11, t.val % 11] := by decide +kernel
theorem index5 : ∀ t : Fin cfg0.N, win0_5.index t = ![t.val / 11, 0] := by decide +kernel
theorem index6 : ∀ t : Fin cfg0.N, win0_6.index t = ![t.val / 11, 0] := by decide +kernel

theorem blk0 (t : Fin cfg0.N) (p : Fin 1024) (k : Fin 2048) : iblk m c 0 t (ix2 p k) = xs m c (row t p) k := by
  unfold xs row
  blk_ext [iblk, V, index0 t]
theorem wide_weight : V m c main_v4 = (truncf (F := Ideal) (φ := .f32) .bf16 (concatenate S2048x11264 1 [⟨S2048x6144, extractStridedSlice S2048x6144 ![0, 0] (m ((c : Thread nD τ).loc main_arg2) : FVec Ideal S2048x11296 .f32) slices_S2048x11296_S2048x6144_0_0⟩, ⟨S2048x4096, extractStridedSlice S2048x4096 ![0, 7200] (m ((c : Thread nD τ).loc main_arg2) : FVec Ideal S2048x11296 .f32) slices_S2048x11296_S2048x4096_0_7200⟩, ⟨S2048x1024, extractStridedSlice S2048x1024 ![0, 6176] (m ((c : Thread nD τ).loc main_arg2) : FVec Ideal S2048x11296 .f32) slices_S2048x11296_S2048x1024_0_6176⟩] concatenates_S2048x6144_S2048x4096_S2048x1024_S2048x11264_d1) bitsLt_bf16_f32 : FVec Ideal S2048x11264 .bf16) := by
  show StableHlo.after _ _ _ = _
  simp only [hostOps0, hostOps0_1, hostOps0_2, List.flatten_cons, List.flatten_nil, List.append_nil, List.cons_append, List.nil_append]
  after_results <;> rfl

theorem gain : V m c main_v8 = (broadcastInDim S1x2048 ![1] bcast_S2048_S1x2048_1 (m ((c : Thread nD τ).loc main_arg1) : FVec Ideal S2048 .f32) : FVec Ideal S1x2048 .f32) := by
  show StableHlo.after _ _ _ = _
  simp only [hostOps0, hostOps0_1, hostOps0_2, List.flatten_cons, List.flatten_nil, List.append_nil, List.cons_append, List.nil_append]
  after_results <;> rfl

theorem narrow_weight : V m c main_v7 = (truncf (F := Ideal) (φ := .f32) .bf16 (pad S2048x128 ![0, 0] ![0, 96] ![0, 0] (extractStridedSlice S2048x32 ![0, 6144] (m ((c : Thread nD τ).loc main_arg2) : FVec Ideal S2048x11296 .f32) slices_S2048x11296_S2048x32_0_6144) (sitofp (F := Ideal) .f32 (constantI S_ 32 0#32)) pads_S2048x32_S2048x128_000_0960 h_S_) bitsLt_bf16_f32 : FVec Ideal S2048x128 .bf16) := by
  show StableHlo.after _ _ _ = _
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results <;> rfl

theorem blk1 (t : Fin cfg0.N) (k : Fin 2048) : iblk m c 1 t (ix2 0 k) = gs m c k := by
  have e : iblk m c 1 t (ix2 0 k) = V m c main_v8 (ix2 0 k) := by
    blk_ext [iblk, index1 t]
  rw [e, gain]
  unfold gs
  pointwise

theorem wide_apply (k : Fin 2048) (n : Fin 11264) : V m c main_v4 (ix2 k n) = ws m c k (col n) := by
  rw [wide_weight]
  unfold ws col
  pointwise
  by_cases h : n.val < 6144
  · rw [dif_pos h, if_pos h]
  · rw [dif_neg h, if_neg h]
    by_cases h' : n.val < 10240
    · rw [dif_pos (by omega), dif_pos h']
    · rw [dif_neg (by omega), dif_neg h']
      exact congrArg (fun n => m ((c : Thread nD τ).loc main_arg2) (ix2 k n)) (Fin.ext (by show 6176 + (n.val - 6144 - 4096) = 6176 + (n.val - 10240); omega))

theorem narrow_apply (k : Fin 2048) (n : Fin 128) :
    V m c main_v7 (ix2 k n) = if h : n.val < 32 then ws m c k ⟨6144 + n.val, by omega⟩ else 0 := by
  rw [narrow_weight]
  unfold ws
  pointwise
  refine dite_congr rfl (fun _ => rfl) fun _ => ?_
  show ((((0#32 : BitVec 32).toInt : ℝ)) : EReal) = 0
  simp

theorem blk2 (t : Fin cfg0.N) (k : Fin 2048) (l : Fin 1024) :
    iblk m c 2 t (ix2 k l) = V m c main_v4 (ix2 k (column t l)) := by
  unfold column
  blk_ext [iblk, index2 t]

theorem blk3 (t : Fin cfg0.N) (k : Fin 2048) (n : Fin 128) :
    iblk m c 3 t (ix2 k n) = V m c main_v7 (ix2 k n) := by
  blk_ext [iblk, index3 t]

/-! ## The blocks a point leaves -/

theorem rows_apply (t : Fin cfg0.N) (p : Fin 1024) (k : Fin 2048) :
    rows m c t (ix2 p k) = normed (xs m c (row t p)) (gs m c) k := by
  unfold rows
  refine (pay2_apply _ _ p k).trans ?_
  simp only [blk0, blk1]

theorem main_at (t : Fin cfg0.N) (p l : Fin 1024) :
    k0_pay4 (rows m c t) (iblk m c 2 t) (ix2 p l) = proj (xs m c (row t p)) (gs m c) (ws m c) (col (column t l)) := by
  refine (pay4_apply _ _ p l).trans ?_
  unfold proj
  exact Finset.sum_congr rfl fun k _ => congrArg₂ (· * ·) (rows_apply m c t p k) ((blk2 m c t k l).trans (wide_apply m c k (column t l)))

theorem gate_at (t : Fin cfg0.N) (p : Fin 1024) (n : Fin 128) :
    k0_pay3 (iblk m c 0 t) (iblk m c 1 t) (iblk m c 3 t) (ix2 p n) = gate (xs m c (row t p)) (gs m c) (ws m c) n := by
  refine (pay3_apply _ _ _ p n).trans ?_
  simp only [blk0, blk1, blk3]
  unfold gate proj
  by_cases h : n.val < 32
  · rw [dif_pos h]
    exact Finset.sum_congr rfl fun k _ => congrArg₂ (· * ·) rfl ((narrow_apply m c k n).trans (dif_pos h))
  · rw [dif_neg h]
    exact Finset.sum_eq_zero fun k _ => (congrArg₂ (· * ·) rfl ((narrow_apply m c k n).trans (dif_neg h))).trans (mul_zero _)

/-! ## The results of the run -/

theorem emb0 (t : Fin cfg0.N) (y : Fin 1024) : t.val / 11 * 1024 + 1 * y.val = (row t y).val := by
  show _ = t.val / 11 * 1024 + y.val
  omega

theorem flush5 : ∀ t : Fin cfg0.N, (cfg0.win 5).flush t = true → t.val % 11 = 10 := by decide +kernel

theorem result4 : (dats m 0 c).arrAt 4 cfg0.N = fun i => proj (xs m c (i 0)) (gs m c) (ws m c) (col (i 1)) := by
  refine (dats m 0 c).arrAt_eq_of_covers 4 _ (by decide +kernel) fun t hf y => ?_
  blk_simp
  rw [after4]
  idx_vars y
  refine ((pay5_apply _ _ y0 y1).trans (pay4_apply _ _ y0 y1).symm).trans ((main_at m c t y0 y1).trans ?_)
  have h := index4 t
  have e0 : ((View.whole main_v9_0).slice (win0_4.rect t)).emb (ix2 y0 y1) 0 = row t y0 := Fin.ext (by
    show win0_4.index t 0 * 1024 + 1 * y0.val = _
    rw [h]
    exact emb0 t y0)
  have e1 : ((View.whole main_v9_0).slice (win0_4.rect t)).emb (ix2 y0 y1) 1 = column t y1 := Fin.ext (by
    show win0_4.index t 1 * 1024 + 1 * y1.val = t.val % 11 * 1024 + y1.val
    rw [h]
    show t.val % 11 * 1024 + 1 * y1.val = _
    omega)
  exact congrArg₂ (fun r n => proj (xs m c r) (gs m c) (ws m c) (col n)) e0.symm e1.symm

theorem result5 : (dats m 0 c).arrAt 5 cfg0.N
    = fun i => proj (xs m c (i 0)) (gs m c) (ws m c) ⟨6176 + (i 1).val, by have : (i 1).val < 1024 := (i 1).isLt; omega⟩ := by
  refine (dats m 0 c).arrAt_eq_of_covers 5 _ (by decide +kernel) fun t hf y => ?_
  blk_simp
  rw [after5]
  idx_vars y
  refine (main_at m c t y0 y1).trans ?_
  have h := index5 t
  have e0 : ((View.whole main_v9_1).slice (win0_5.rect t)).emb (ix2 y0 y1) 0 = row t y0 := Fin.ext (by
    show win0_5.index t 0 * 1024 + 1 * y0.val = _
    rw [h]
    exact emb0 t y0)
  refine congrArg₂ (fun r n => proj (xs m c r) (gs m c) (ws m c) n) e0.symm (Fin.ext ?_)
  show (col (column t y1)).val = 6176 + (win0_5.index t 1 * 1024 + y1.val)
  rw [h]
  show (col (column t y1)).val = 6176 + (0 * 1024 + y1.val)
  have hc : (column t y1).val = 10240 + y1.val := by
    show t.val % 11 * 1024 + y1.val = _
    rw [flush5 t hf]
  unfold col
  rw [if_neg (by omega), dif_neg (by omega)]
  show 6176 + ((column t y1).val - 10240) = 6176 + (0 * 1024 + y1.val)
  omega

theorem result6 : (dats m 0 c).arrAt 6 cfg0.N = fun i => gate (xs m c (i 0)) (gs m c) (ws m c) (i 1) := by
  refine (dats m 0 c).arrAt_eq_of_covers 6 _ (by decide +kernel) fun t hf y => ?_
  blk_simp
  rw [after6]
  idx_vars y
  refine (gate_at m c t y0 y1).trans ?_
  have h := index6 t
  have e0 : ((View.whole main_v9_2).slice (win0_6.rect t)).emb (ix2 y0 y1) 0 = row t y0 := Fin.ext (by
    show win0_6.index t 0 * 1024 + 1 * y0.val = _
    rw [h]
    exact emb0 t y0)
  have e1 : ((View.whole main_v9_2).slice (win0_6.rect t)).emb (ix2 y0 y1) 1 = y1 := Fin.ext (by
    show win0_6.index t 1 * 128 + 1 * y1.val = y1.val
    rw [h]
    show 0 * 128 + 1 * y1.val = _
    omega)
  exact congrArg₂ (fun r n => gate (xs m c r) (gs m c) (ws m c) n) e0.symm e1.symm

/-- The run with its three results and the arguments as they were. -/
theorem run (ρ : Dev nD → PrngReg) : θ_run defs (onTc (τ := τ) (main (F := Ideal))) ⟨m, fun _ => 0, ρ⟩ fun r => ∀ c : Dev nD,
    r.2.mem ((c : Thread nD τ).loc main_v9_0) = (fun i => proj (xs m c (i 0)) (gs m c) (ws m c) (col (i 1)))
    ∧ r.2.mem ((c : Thread nD τ).loc main_v9_1)
        = (fun i => proj (xs m c (i 0)) (gs m c) (ws m c) ⟨6176 + (i 1).val, by have : (i 1).val < 1024 := (i 1).isLt; omega⟩)
    ∧ r.2.mem ((c : Thread nD τ).loc main_v9_2) = (fun i => gate (xs m c (i 0)) (gs m c) (ws m c) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨((h.1 c).1 4).trans (result4 m c), ((h.1 c).1 5).trans (result5 m c),
      ((h.1 c).1 6).trans (result6 m c), h.2 c⟩)
    (θ_run_and (run_post m ρ) (frame_of m ρ (dats m) (dats_A m) (run_post m ρ)))

end

end Cert.Proof.Head

end
-- ==== Proof.HeadRef.lean ====
/-
  The input projection's reference run, its three results read at an index.
-/
module
public import proofs.«01_k».proof.Proof.Head
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Proof.Head

open Idealize.ShloMosaic Idealize.ShloMosaic.TcCoe Idealize.SL.Sem
open Cert.Reference3Ideal Cert.Reference3Ideal.Gen

section
variable (m : (ℓ : Loc nD τ sig) → Buf (Elt Ideal) ℓ) (c : Dev nD)

def rx (r : Fin 32768) (k : Fin 2048) : EReal := m ((c : Thread nD τ).loc main_arg0) (ix2 r k)
def rg (k : Fin 2048) : EReal := m ((c : Thread nD τ).loc main_arg1) (ix1 k)
def rw_in (k : Fin 2048) (n : Fin 11296) : EReal := m ((c : Thread nD τ).loc main_arg2) (ix2 k n)

theorem ref_run (ρ : Dev nD → PrngReg) : θ_run defs (onTc (τ := τ) (main (F := Ideal))) ⟨m, fun _ => 0, ρ⟩ fun r => ∀ c : Dev nD,
    r.2.mem ((c : Thread nD τ).loc main_v20) = (fun i => proj (rx m c (i 0)) (rg m c) (rw_in m c) (col (i 1)))
    ∧ r.2.mem ((c : Thread nD τ).loc main_v14)
        = (fun i => proj (rx m c (i 0)) (rg m c) (rw_in m c) ⟨6176 + (i 1).val, by have : (i 1).val < 1024 := (i 1).isLt; omega⟩)
    ∧ r.2.mem ((c : Thread nD τ).loc main_v19) = (fun i => gate (rx m c (i 0)) (rg m c) (rw_in m c) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ?_) (Value.run m ρ)
  obtain ⟨h0, h1, h2, hk⟩ := h c
  refine ⟨h0.trans (funext fun i => ?_), h1.trans (funext fun i => ?_), h2.trans (funext fun i => ?_), hk⟩
  · clear h0 h1 h2 hk
    idx_vars i
    show _ = proj (rx m c i0) (rg m c) (rw_in m c) (col i1)
    unfold col
    pointwise
    by_cases h : i1.val < 6144
    · rw [dif_pos h, if_pos h]
      rfl
    · rw [dif_neg h, if_neg h]
      by_cases h' : i1.val < 10240
      · rw [dif_pos (by omega), dif_pos h']
        rfl
      · rw [dif_neg (by omega), dif_neg h']
        exact congrArg (proj (rx m c i0) (rg m c) (rw_in m c))
          (Fin.ext (by show 6176 + (i1.val - 6144 - 4096) = 6176 + (i1.val - 10240); omega))
  · clear h0 h1 h2 hk
    idx_vars i
    show _ = proj (rx m c i0) (rg m c) (rw_in m c) ⟨6176 + i1.val, _⟩
    pointwise
    rfl
  · clear h0 h1 h2 hk
    idx_vars i
    show _ = gate (rx m c i0) (rg m c) (rw_in m c) i1
    pointwise
    refine dite_congr rfl (fun _ => rfl) fun _ => ?_
    show ((((0#32 : BitVec 32).toInt : ℝ)) : EReal) = 0
    simp

end

end Cert.Proof.Head

end
-- ==== Proof.Merge.lean ====
/-
  The output projection as functions of its arrays: the per-head norm of the two directions' sum, its gate, the two
  token mixers' products and their gates, the joint product, and the residual.
-/
module
public import proofs.«01_k».proof.Proof.Mix

@[expose] public section

noncomputable section

namespace Cert.Proof.Merge

open Idealize.ShloMosaic

/-- The small constant under each root. -/
def eps : EReal := Ideal.ofBits .f32 897988541#32

/-- A sum over 256 lanes scaled by 1/256, and divided by 256. -/
theorem scale_eq (x : EReal) : x * Ideal.ofBits .f32 998244352#32 = Ideal.div x (Ideal.ofBits .f32 1132462080#32) := by
  have h1 : Ideal.ofBits .f32 1132462080#32 = ((256 : ℝ) : EReal) := by
    simp [Ideal.ofBits, Ideal.ieee, -EReal.coe_mul]
    norm_num
  have h2 : Ideal.ofBits .f32 998244352#32 = ((1 / 256 : ℝ) : EReal) := by
    simp [Ideal.ofBits, Ideal.ieee, -EReal.coe_mul]
    norm_num
  rw [h1, h2, Ideal.div_coe (by norm_num)]

section
variable (s : Fin 2048 → EReal)

/-- A row normed head by head, 256 lanes each. -/
def headed (k : Fin 2048) : EReal :=
  s k * Ideal.rsqrt (Ideal.div (∑ x : Fin 256, s ⟨k.val / 256 * 256 + x.val, by omega⟩ * s ⟨k.val / 256 * 256 + x.val, by omega⟩)
    (Ideal.ofBits .f32 1132462080#32) + eps)

/-- Lane `l` of the head that begins at column `b`. -/
def lane (b : ℕ) (h : b ≤ 1792) (l : Fin 256) : Fin 2048 := ⟨b + l.val, by omega⟩

/-- The mean of a head's squares, plus the constant. -/
def power (b : ℕ) (h : b ≤ 1792) : EReal :=
  (∑ x : Fin 256, s (lane b h x) * s (lane b h x)) * Ideal.ofBits .f32 998244352#32 + eps

/-- The head that begins at column `b`, normed. -/
def piece (b : ℕ) (h : b ≤ 1792) (l : Fin 256) : EReal := s (lane b h l) * Ideal.rsqrt (power s b h)

theorem piece_eq (k : Fin 2048) (b : ℕ) (h : b ≤ 1792) (l : Fin 256) (hb : k.val / 256 * 256 = b) (hl : b + l.val = k.val) :
    piece s b h l = headed s k := by
  subst hb
  unfold piece headed power
  rw [scale_eq, show lane _ h l = k from Fin.ext hl]
  rfl

end

section
variable (a b o ma mb x : Fin 2048 → EReal) (f : Fin 1024 → EReal) (gh : Fin 2048 → EReal)
  (wa : Fin 2048 → Fin 2048 → EReal) (wb : Fin 1024 → Fin 2048 → EReal) (ba bb : Fin 2048 → EReal)
  (wo : Fin 2048 → Fin 2048 → EReal) (gp : Fin 2048 → EReal)

/-- The gated row of the first mixer, before its product. -/
def gated (k : Fin 2048) : EReal := headed (fun k => a k + b k) k * gh k * Ideal.logistic (o k)

/-- The two mixers' products under their gates. -/
def mixed (n : Fin 2048) : EReal :=
  Ideal.logistic (ma n + ba n) * (∑ k, gated a b o gh k * wa k n) + Ideal.logistic (mb n + bb n) * ∑ k, f k * wb k n

/-- The joint product. -/
def joint (d : Fin 2048) : EReal := ∑ n, mixed a b o ma mb f gh wa wb ba bb n * wo n d

/-- The result row. -/
def out (d : Fin 2048) : EReal := x d + Mix.normed (joint a b o ma mb f gh wa wb ba bb wo) gp d

end

end Cert.Proof.Merge

end
-- ==== Proof.MergePoint.lean ====
/-
  The output projection's kernel: what a point stores, read at an index, is the result row of the point's rows.
-/
module
public import proofs.«01_k».proof.Proof.Merge
public import proofs.«01_k».proof.Proof.Gen.Kernel4Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.Merge

open Idealize.ShloMosaic Idealize.ShloMosaic.TcCoe Idealize.ShloMosaic.Tactic
open Cert.Kernel4Ideal Cert.Kernel4Ideal.Gen

/-! ## The heads -/

section
variable (a b : Vec Ideal S256x2048 .bf16) (p : Fin 256)

theorem pay3_apply (k : Fin 2048) : k0_pay3 (F := Ideal) a b (ix2 p k) = (a (ix2 p k) + b (ix2 p k) : EReal) := by
  pointwise [k0_pay3]

theorem pay4_apply (l : Fin 256) : k0_pay4 (F := Ideal) a b (ix2 p l) = piece (fun k => (a (ix2 p k) + b (ix2 p k) : EReal)) 0 (by decide) l := by
  pointwise [k0_pay4, k0_pay3, k0_pay2, piece, power, lane]
  simp only [Nat.zero_add, dite_eq_ite, ite_self]
  rfl
theorem pay5_apply (l : Fin 256) : k0_pay5 (F := Ideal) a b (ix2 p l) = piece (fun k => (a (ix2 p k) + b (ix2 p k) : EReal)) 256 (by decide) l := by
  pointwise [k0_pay5, k0_pay3, k0_pay2, piece, power, lane]
  simp only [dite_eq_ite, ite_self]
  rfl
theorem pay6_apply (l : Fin 256) : k0_pay6 (F := Ideal) a b (ix2 p l) = piece (fun k => (a (ix2 p k) + b (ix2 p k) : EReal)) 512 (by decide) l := by
  pointwise [k0_pay6, k0_pay3, k0_pay2, piece, power, lane]
  simp only [dite_eq_ite, ite_self]
  rfl
theorem pay9_apply (l : Fin 256) : k0_pay9 (F := Ideal) (k0_pay7 (F := Ideal) a b) (k0_pay8 (F := Ideal) a b) (Scalar.ofBits .f32 0x3B800000#32) (ix2 p l)
    = piece (fun k => (a (ix2 p k) + b (ix2 p k) : EReal)) 768 (by decide) l := by
  pointwise [k0_pay9, k0_pay8, k0_pay7, k0_pay3, k0_pay2, piece, power, lane]
  simp only [dite_eq_ite, ite_self]
  rfl
end

section
variable (s : FVec Ideal S256x2048 .f32) (p : Fin 256)

theorem pay10_apply (l : Fin 256) : k0_pay10 k0_pay2 s (ix2 p l) = piece (fun k => s (ix2 p k)) 1024 (by decide) l := by
  pointwise [k0_pay10, k0_pay2, piece, power, lane]
  simp only [dite_eq_ite, ite_self]
  rfl
theorem pay11_apply (l : Fin 256) : k0_pay11 k0_pay2 s (ix2 p l) = piece (fun k => s (ix2 p k)) 1280 (by decide) l := by
  pointwise [k0_pay11, k0_pay2, piece, power, lane]
  simp only [dite_eq_ite, ite_self]
  rfl
theorem pay12_apply (l : Fin 256) : k0_pay12 k0_pay2 s (ix2 p l) = piece (fun k => s (ix2 p k)) 1536 (by decide) l := by
  pointwise [k0_pay12, k0_pay2, piece, power, lane]
  simp only [dite_eq_ite, ite_self]
  rfl
theorem pay13_apply (l : Fin 256) : k0_pay13 s (ix2 p l) = s (ix2 p (lane 1792 (by decide) l)) := by
  pointwise [k0_pay13, lane]
theorem pay14_apply (l : Fin 128) : k0_pay14 k0_pay2 s (ix2 p l) + (k0_pay15 (F := Ideal)) (ix2 p l)
    = power (fun k => s (ix2 p k)) 1792 (by decide) := by
  pointwise [k0_pay14, k0_pay13, k0_pay15, k0_pay2, power, lane]
  rfl
end

set_option maxHeartbeats 2000000 in
/-- The eight heads side by side, scaled, gated and through the products. -/
theorem pay16_apply (v16 v27 v38 v49 v60 v71 v82 v83 : FVec Ideal S256x256 .f32) (v88 v89 : FVec Ideal S256x128 .f32)
    (gh : Vec Ideal S1x2048 .f32) (o : Vec Ideal S256x2048 .bf16) (wa : Vec Ideal S2048x2048 .bf16) (f : Vec Ideal S256x1024 .f32)
    (wb : Vec Ideal S1024x2048 .bf16) (ma : Vec Ideal S256x2048 .bf16) (ba : Vec Ideal S1x2048 .f32) (mb : Vec Ideal S256x2048 .bf16)
    (bb : Vec Ideal S1x2048 .f32) (p : Fin 256) (a b : Fin 2048 → EReal)
    (h0 : ∀ l, v16 (ix2 p l) = piece (fun k => a k + b k) 0 (by decide) l)
    (h1 : ∀ l, v27 (ix2 p l) = piece (fun k => a k + b k) 256 (by decide) l)
    (h2 : ∀ l, v38 (ix2 p l) = piece (fun k => a k + b k) 512 (by decide) l)
    (h3 : ∀ l, v49 (ix2 p l) = piece (fun k => a k + b k) 768 (by decide) l)
    (h4 : ∀ l, v60 (ix2 p l) = piece (fun k => a k + b k) 1024 (by decide) l)
    (h5 : ∀ l, v71 (ix2 p l) = piece (fun k => a k + b k) 1280 (by decide) l)
    (h6 : ∀ l, v82 (ix2 p l) = piece (fun k => a k + b k) 1536 (by decide) l)
    (h7 : ∀ l, v83 (ix2 p l) = a (lane 1792 (by decide) l) + b (lane 1792 (by decide) l))
    (h8 : ∀ l, v88 (ix2 p l) + v89 (ix2 p l) = power (fun k => a k + b k) 1792 (by decide)) (n : Fin 2048) :
    k0_pay16 v16 v27 v38 v49 v60 v71 v82 v83 v88 v89 gh o wa f wb ma ba mb bb (ix2 p n)
      = mixed a b (fun k => o (ix2 p k)) (fun k => ma (ix2 p k)) (fun k => mb (ix2 p k)) (fun k => f (ix2 p k))
          (fun k => gh (ix2 0 k)) (fun k n => wa (ix2 k n)) (fun k n => wb (ix2 k n)) (fun k => ba (ix2 0 k)) (fun k => bb (ix2 0 k)) n := by
  pointwise [k0_pay16]
  unfold mixed gated
  refine congrArg (· + _) (congrArg _ (Finset.sum_congr rfl fun x _ => ?_))
  refine congrArg (· * _) (congrArg (· * _) (congrArg (· * _) ?_))
  simp only [h0, h1, h2, h3, h4, h5, h6, h7, h8, dite_eq_ite, ite_self]
  have hx := x.isLt
  split_ifs
  all_goals first
    | exact piece_eq _ x _ _ _ (by omega) (by simp only; omega)
    | exact piece_eq (fun k => a k + b k) x 1792 (by decide) ⟨x.val - 1792, by omega⟩ (by omega) (by simp only; omega)

theorem pay1_apply (v : FVec Ideal S256x2048 .bf16) (wo : Vec Ideal S2048x2048 .bf16) (x : Vec Ideal S256x2048 .f32)
    (gp : Vec Ideal S1x2048 .f32) (p : Fin 256) (d : Fin 2048) :
    k0_pay1 v wo x gp (ix2 p d)
      = x (ix2 p d) + Mix.normed (fun d => ∑ n : Fin 2048, v (ix2 p n) * wo (ix2 n d)) (fun d => gp (ix2 0 d)) d := by
  pointwise [k0_pay1]
  rfl

/-! ## The arrays, the blocks of a point, and the result array -/

section
variable (m : (ℓ : Loc nD τ sig) → Buf (Elt Ideal) ℓ) (c : Dev nD)

/-- Row `r` of the result, of the arrays at the call. -/
def row_out (r : Fin 32768) (d : Fin 2048) : EReal :=
  out (fun k => m (c.tc.loc main_arg0) (ix2 r k)) (fun k => m (c.tc.loc main_arg1) (ix2 r k))
    (fun k => m (c.tc.loc main_arg2) (ix2 r ⟨4096 + k.val, by omega⟩))
    (fun k => m (c.tc.loc main_arg2) (ix2 r ⟨6144 + k.val, by omega⟩))
    (fun k => m (c.tc.loc main_arg2) (ix2 r ⟨6144 + (2048 + k.val), by omega⟩))
    (fun k => m (c.tc.loc main_arg4) (ix2 r k)) (fun k => m (c.tc.loc main_arg3) (ix2 r k))
    (fun k => m (c.tc.loc main_arg5) (ix1 k)) (fun k n => m (c.tc.loc main_arg6) (ix2 k n))
    (fun k n => m (c.tc.loc main_arg7) (ix2 k n)) (fun k => m (c.tc.loc main_arg8) (ix1 ⟨k.val, by omega⟩))
    (fun k => m (c.tc.loc main_arg8) (ix1 ⟨2048 + k.val, by omega⟩)) (fun k n => m (c.tc.loc main_arg9) (ix2 k n))
    (fun d => m (c.tc.loc main_arg10) (ix1 d)) d

theorem lt_points (t : Fin cfg0.N) : t.val < 128 := lt_of_lt_of_eq t.isLt N_0

/-- The array row of row `p` of point `t`'s block. -/
def row (t : Fin cfg0.N) (p : Fin 256) : Fin 32768 := ⟨t.val * 256 + p.val, by have := lt_points t; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 2] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 3] := by decide +kernel
theorem idx6 : ∀ t : Fin cfg0.N, win0_6.index t = ![t.val, 4] := by decide +kernel
theorem idx7 : ∀ t : Fin cfg0.N, win0_7.index t = ![0, 0] := by decide +kernel
theorem idx8 : ∀ t : Fin cfg0.N, win0_8.index t = ![0, 1] := by decide +kernel
theorem idx9 : ∀ t : Fin cfg0.N, win0_9.index t = ![t.val, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![t.val, 0] := by decide +kernel

variable (t : Fin cfg0.N) (p : Fin 256)

theorem blk0 (k : Fin 2048) : iblk m c 0 t (ix2 p k) = m (c.tc.loc main_arg0) (ix2 (row t p) k) := by
  unfold row
  blk_ext [iblk, V, idx0 t]
theorem blk1 (k : Fin 2048) : iblk m c 1 t (ix2 p k) = m (c.tc.loc main_arg1) (ix2 (row t p) k) := by
  unfold row
  blk_ext [iblk, V, idx1 t]
theorem blk2 (k : Fin 2048) : X0_2 m c t (ix2 p k) = m (c.tc.loc main_arg2) (ix2 (row t p) ⟨4096 + k.val, by omega⟩) := by
  unfold row X0_2 Pipeline.Window.fill
  rw [dif_pos (moved0_2 t _)]
  blk_ext [iblk, V, idx2 t]
theorem blk3 (k : Fin 2048) : iblk m c 3 t (ix2 0 k) = m (c.tc.loc main_arg5) (ix1 k) := by
  blk_ext! [iblk, idx3 t]
theorem blk4 (k : Fin 1024) : iblk m c 4 t (ix2 p k) = m (c.tc.loc main_arg3) (ix2 (row t p) k) := by
  unfold row
  blk_ext [iblk, V, idx4 t]
theorem blk5 (k : Fin 2048) : X0_5 m c t (ix2 p k) = m (c.tc.loc main_arg2) (ix2 (row t p) ⟨6144 + k.val, by omega⟩) := by
  unfold row X0_5 Pipeline.Window.fill
  rw [dif_pos (moved0_5 t _)]
  blk_ext [iblk, V, idx5 t]
theorem blk6 (k : Fin 2048) : X0_6 m c t (ix2 p k) = m (c.tc.loc main_arg2) (ix2 (row t p) ⟨6144 + (2048 + k.val), by omega⟩) := by
  unfold row X0_6 Pipeline.Window.fill
  rw [dif_pos (moved0_6 t _)]
  blk_ext [iblk, V, idx6 t]
theorem blk7 (k : Fin 2048) : iblk m c 7 t (ix2 0 k) = m (c.tc.loc main_arg8) (ix1 ⟨k.val, by omega⟩) := by
  blk_ext! [iblk, idx7 t]
theorem blk8 (k : Fin 2048) : iblk m c 8 t (ix2 0 k) = m (c.tc.loc main_arg8) (ix1 ⟨2048 + k.val, by omega⟩) := by
  blk_ext! [iblk, idx8 t]
theorem blk9 (k : Fin 2048) : iblk m c 9 t (ix2 p k) = m (c.tc.loc main_arg4) (ix2 (row t p) k) := by
  unfold row
  blk_ext [iblk, V, idx9 t]
theorem blk10 (k n : Fin 2048) : iblk m c 10 t (ix2 k n) = m (c.tc.loc main_arg6) (ix2 k n) := by
  blk_ext! [iblk, idx10 t]
theorem blk11 (k : Fin 1024) (n : Fin 2048) : iblk m c 11 t (ix2 k n) = m (c.tc.loc main_arg7) (ix2 k n) := by
  blk_ext! [iblk, idx11 t]
theorem blk12 (k n : Fin 2048) : iblk m c 12 t (ix2 k n) = m (c.tc.loc main_arg9) (ix2 k n) := by
  blk_ext! [iblk, idx12 t]
theorem blk13 (k : Fin 2048) : iblk m c 13 t (ix2 0 k) = m (c.tc.loc main_arg10) (ix1 k) := by
  blk_ext! [iblk, idx13 t]

/-- What point `t` leaves in the output's block. -/
theorem stored (d : Fin 2048) : outsAt0 m c t (ix2 p d) = row_out m c (row t p) d := by
  unfold outsAt0
  frame_out
  refine (pay1_apply _ _ _ _ p d).trans ?_
  unfold row_out out joint
  refine congrArg₂ (· + ·) (blk9 m c t p d) ?_
  refine congrArg₂ (fun f g => Mix.normed f g d) (funext fun d => Finset.sum_congr rfl fun n _ => ?_) (funext fun d => blk13 m c t d)
  refine congrArg₂ (· * ·) ?_ (blk12 m c t n d)
  refine (pay16_apply _ _ _ _ _ _ _ _ _ _ _ _ _ _ _ _ _ _ _ p (fun k => iblk m c 0 t (ix2 p k)) (fun k => iblk m c 1 t (ix2 p k))
    (pay4_apply _ _ p) (pay5_apply _ _ p) (pay6_apply _ _ p) (pay9_apply _ _ p) ?_ ?_ ?_ ?_ ?_ n).trans ?_
  · intro l; refine (pay10_apply _ p l).trans ?_; simp only [pay3_apply]
  · intro l; refine (pay11_apply _ p l).trans ?_; simp only [pay3_apply]
  · intro l; refine (pay12_apply _ p l).trans ?_; simp only [pay3_apply]
  · intro l; exact (pay13_apply _ p l).trans (pay3_apply _ _ p _)
  · intro l; refine (pay14_apply _ p l).trans ?_; simp only [pay3_apply]
  · simp only [blk0, blk1, blk2, blk3, blk4, blk5, blk6, blk7, blk8, blk10, blk11]

/-- The result array of the run, at an index. -/
theorem result : (dats m 0 c).arrAt 14 cfg0.N = fun i => row_out m c (i 0) (i 1) := by
  refine (dats m 0 c).arrAt_eq_of_covers 14 _ (by decide +kernel) fun t hf y => ?_
  blk_simp
  rw [after0_14]
  idx_vars y
  refine (stored m c t _ _).trans ?_
  have h := idx14 t
  have e0 : ((View.whole main_v6).slice (win0_14.rect t)).emb (ix2 y0 y1) 0 = row t y0 := Fin.ext (by
    show win0_14.index t 0 * 256 + 1 * y0.val = t.val * 256 + y0.val
    rw [h]
    show t.val * 256 + 1 * y0.val = _
    omega)
  have e1 : ((View.whole main_v6).slice (win0_14.rect t)).emb (ix2 y0 y1) 1 = y1 := Fin.ext (by
    show win0_14.index t 1 * 2048 + 1 * y1.val = y1.val
    rw [h]
    show 0 * 2048 + 1 * y1.val = _
    omega)
  exact congrArg₂ (fun r d => row_out m c r d) e0.symm e1.symm

end

end Cert.Proof.Merge

end
-- ==== Proof.MergeRef.lean ====
/-
  The output projection's reference read at an index: the same function of its arrays.
-/
module
public import proofs.«01_k».proof.Proof.Merge
public import proofs.«01_k».proof.Proof.Gen.Reference4Ideal.Run
public import Idealize.ShloMosaic.Lib.Pointwise

@[expose] public section

set_option maxRecDepth 16384

noncomputable section

namespace Cert.Proof.Merge

open Idealize.ShloMosaic Idealize.ShloMosaic.TcCoe
open Cert.Reference4Ideal Cert.Reference4Ideal.Gen

variable (m : (ℓ : Loc nD τ sig) → Buf (Elt Ideal) ℓ) (c : Dev nD)

theorem ref_apply (r : Fin 32768) (d : Fin 2048) : Value.res_main_v59 m c (ix2 r d)
    = out (fun k => m (c.tc.loc main_arg0) (ix2 r k)) (fun k => m (c.tc.loc main_arg1) (ix2 r k))
        (fun k => m (c.tc.loc main_arg2) (ix2 r ⟨4096 + k.val, by omega⟩))
        (fun k => m (c.tc.loc main_arg2) (ix2 r ⟨6144 + k.val, by omega⟩))
        (fun k => m (c.tc.loc main_arg2) (ix2 r ⟨6144 + (2048 + k.val), by omega⟩))
        (fun k => m (c.tc.loc main_arg4) (ix2 r k)) (fun k => m (c.tc.loc main_arg3) (ix2 r k))
        (fun k => m (c.tc.loc main_arg5) (ix1 k)) (fun k n => m (c.tc.loc main_arg6) (ix2 k n))
        (fun k n => m (c.tc.loc main_arg7) (ix2 k n)) (fun k => m (c.tc.loc main_arg8) (ix1 ⟨k.val, by omega⟩))
        (fun k => m (c.tc.loc main_arg8) (ix1 ⟨2048 + k.val, by omega⟩)) (fun k n => m (c.tc.loc main_arg9) (ix2 k n))
        (fun d => m (c.tc.loc main_arg10) (ix1 d)) d := by
  pointwise [Value.res_main_v59]
  rfl

end Cert.Proof.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Result
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Step
public import proofs.«01_k».proof.Proof.LongResult
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.MixPoint
public import proofs.«01_k».proof.Proof.MixRef
public import proofs.«01_k».proof.Proof.HeadRun
public import proofs.«01_k».proof.Proof.HeadPoint
public import proofs.«01_k».proof.Proof.HeadRef
public import proofs.«01_k».proof.Proof.MergePoint
public import proofs.«01_k».proof.Proof.MergeRef
public import Idealize.ShloMosaic.Adequacy
public import Idealize.ShloMosaic.Init
public import Idealize.ShloMosaic.Lib.Quiescent
public import Idealize.ShloMosaic.Lib.Pointwise

@[expose] public section

set_option maxRecDepth 16384

noncomputable section

namespace Cert.Proof

open Idealize.ShloMosaic Idealize.ShloMosaic.TcCoe Idealize.SL.Sem

theorem preFacts : Cert.Pre_finite_gates.Facts := ⟨by decide, by decide⟩

theorem preFacts_long : Cert.Pre_finite_gates_long.Facts := ⟨by decide, by decide⟩

/-- An extended real of finite magnitude is a number. -/
theorem real_of_abs_lt (x : EReal) (h : FloatOps.absf (F := Ideal) (φ := .f32) x < ⊤) : ∃ y : ℝ, x = (y : EReal) := by
  induction x with
  | bot => exact absurd h (by simp [FloatOps.absf])
  | coe y => exact ⟨y, rfl⟩
  | top => exact absurd h (by simp [FloatOps.absf])

theorem top_lit : Ideal.ofBits .f32 0x7F800000#32 = ⊤ := by simp [Ideal.ofBits, Ideal.ieee]

/-- What the precondition says of the gates. -/
theorem tame (m : (ℓ : Loc Cert.KernelIdeal.nD Cert.KernelIdeal.τ Cert.KernelIdeal.sig) → Buf (Elt Ideal) ℓ)
    (h : Pre_KernelIdeal_finite_gates (hPre_finite_gates := preFacts) m) (c : Dev Cert.KernelIdeal.nD) : Batch.Tame m c := by
  intro bt r l hl
  have e := congrFun (h c) (ix3 bt r ⟨l.val, hl⟩)
  apply real_of_abs_lt
  revert e
  pointwise [Cert.Pre_finite_gates.fn]
  intro e
  rw [show Ideal.ofBits .f32 2139095040#32 = ⊤ from top_lit] at e
  by_contra hn
  rw [decide_eq_false hn] at e
  exact absurd e (by decide)

theorem frame_ref : quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩) (RefRun.run m g)

theorem algebraic : algebraic_KernelIdeal_ReferenceIdeal_pre_finite_gates (hKernelIdeal := Cert.KernelIdeal.Gen.facts)
    (hReferenceIdeal := Cert.ReferenceIdeal.Gen.facts) (hPre_finite_gates := preFacts) := by
  intro m g m' g' hpre hagree
  refine ⟨fun c => Cert.ReferenceIdeal.Step.R_main_v53 (Batch.rs m c 64), fun c => Cert.ReferenceIdeal.Step.R_main_v55 (Batch.rs m c 64),
    (θ_run _ _ _).mono (fun r h c => ?_) (Cert.KernelIdeal.Value.run_blocks m g), (θ_run _ _ _).mono (fun r h c => ?_) (RefRun.run m' g')⟩
  · obtain ⟨h0, h1, hk⟩ := h c
    exact ⟨h0.trans (Result.fwd m c (tame m hpre c)), h1.trans (Result.bwd m c (tame m hpre c)), hk⟩
  · obtain ⟨h0, h1, hk⟩ := h c
    obtain ⟨e0, e1, e2, e3, e4⟩ := hagree c
    have e : RefRun.state m' c 64 = Batch.rs m c 64 := by
      rw [RefSeq.state_eq, e0, e1, e2, e3, e4]
    exact ⟨h0.trans (congrArg _ e), h1.trans (congrArg _ e), hk⟩

theorem frame_ref2 : quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩) (Cert.Reference2Ideal.Value.run m g)

theorem algebraic2 : algebraic_Kernel2Ideal_Reference2Ideal (hKernel2Ideal := Cert.Kernel2Ideal.Gen.facts)
    (hReference2Ideal := Cert.Reference2Ideal.Gen.facts) := by
  intro m g m' g' _ hagree
  refine ⟨fun c i => Mix.out (Mix.xs m c (i 0)) (Mix.gs m c) (Mix.ws m c) (Mix.os m c) (Mix.hs m c) (i 1),
    (θ_run _ _ _).mono (fun r h c => ?_) (Cert.Kernel2Ideal.Value.run_blocks m g), (θ_run _ _ _).mono (fun r h c => ?_) (Cert.Reference2Ideal.Value.run m' g')⟩
  · obtain ⟨h0, hk⟩ := h c
    exact ⟨h0.trans (Mix.result m c), hk⟩
  · obtain ⟨h0, hk⟩ := h c
    obtain ⟨e0, e1, e2, e3, e4⟩ := hagree c
    refine ⟨h0.trans (funext fun i => ?_), hk⟩
    idx_vars i
    rw [Mix.ref_apply, e0, e1, e2, e3, e4]
    rfl

theorem frame_ref3 : quiescent_Reference3Ideal (hReference3Ideal := Cert.Reference3Ideal.Gen.facts) := fun m g _ =>
  (θ_run _ _ _).mono (fun r h => ⟨fun c => (h c).2.2.2, Idealize.ShloMosaic.sem_eq_zero_of_no_sems (by decide) r.2⟩) (Cert.Reference3Ideal.Value.run m g)

theorem algebraic3 : algebraic_Kernel3Ideal_Reference3Ideal (hKernel3Ideal := Cert.Kernel3Ideal.Gen.facts)
    (hReference3Ideal := Cert.Reference3Ideal.Gen.facts) := by
  intro m g m' g' _ hagree
  refine ⟨fun c i => Head.proj (Head.xs m c (i 0)) (Head.gs m c) (Head.ws m c) (Head.col (i 1)),
    fun c i => Head.proj (Head.xs m c (i 0)) (Head.gs m c) (Head.ws m c) ⟨6176 + (i 1).val, by have : (i 1).val < 1024 := (i 1).isLt; omega⟩,
    fun c i => Head.gate (Head.xs m c (i 0)) (Head.gs m c) (Head.ws m c) (i 1), Head.run m g, (θ_run _ _ _).mono (fun r h c => ?_) (Head.ref_run m' g')⟩
  obtain ⟨h0, h1, h2, hk⟩ := h c
  obtain ⟨e0, e1, e2⟩ := hagree c
  have ex : Head.rx m' c = Head.xs m c := funext fun r => funext fun k => congrFun e0 (ix2 r k)
  have eg : Head.rg m' c = Head.gs m c := funext fun k => congrFun e1 (ix1 k)
  have ew : Head.rw_in m' c = Head.ws m c := funext fun k => funext fun n => congrFun e2 (ix2 k n)
  rw [ex, eg, ew] at h0 h1 h2
  exact ⟨h0, h1, h2, hk⟩

theorem frame_ref4 : quiescent_Reference4Ideal (hReference4Ideal := Cert.Reference4Ideal.Gen.facts) := fun m g _ =>
  (θ_run _ _ _).mono (fun r h => ⟨fun c => (h c).2, Idealize.ShloMosaic.sem_eq_zero_of_no_sems (by decide) r.2⟩) (Cert.Reference4Ideal.Value.run m g)

theorem algebraic4 : algebraic_Kernel4Ideal_Reference4Ideal (hKernel4Ideal := Cert.Kernel4Ideal.Gen.facts)
    (hReference4Ideal := Cert.Reference4Ideal.Gen.facts) := by
  intro m g m' g' _ hagree
  refine ⟨fun c i => Merge.row_out m c (i 0) (i 1),
    (θ_run _ _ _).mono (fun r h c => ?_) (Cert.Kernel4Ideal.Value.run_blocks m g), (θ_run _ _ _).mono (fun r h c => ?_) (Cert.Reference4Ideal.Value.run m' g')⟩
  · obtain ⟨h0, hk⟩ := h c
    exact ⟨h0.trans (Merge.result m c), hk⟩
  · obtain ⟨h0, hk⟩ := h c
    obtain ⟨e0, e1, e2, e3, e4, e5, e6, e7, e8, e9, e10⟩ := hagree c
    refine ⟨h0.trans (funext fun i => ?_), hk⟩
    idx_vars i
    rw [Merge.ref_apply, e0, e1, e2, e3, e4, e5, e6, e7, e8, e9, e10]
    rfl

/-- What the precondition says of the gates, over the long sequences. -/
theorem tame_long (m : (ℓ : Loc Cert.Kernel5Ideal.nD Cert.Kernel5Ideal.τ Cert.Kernel5Ideal.sig) → Buf (Elt Ideal) ℓ)
    (h : Pre_Kernel5Ideal_finite_gates_long (hPre_finite_gates_long := preFacts_long) m) (c : Dev Cert.Kernel5Ideal.nD) : Long.Batch.Tame m c := by
  intro bt r l hl
  have e := congrFun (h c) (ix3 bt r ⟨l.val, hl⟩)
  apply real_of_abs_lt
  revert e
  pointwise [Cert.Pre_finite_gates_long.fn]
  intro e
  rw [show Ideal.ofBits .f32 2139095040#32 = ⊤ from top_lit] at e
  by_contra hn
  rw [decide_eq_false hn] at e
  exact absurd e (by decide)

theorem frame_ref5 : quiescent_Reference5Ideal (hReference5Ideal := Cert.Reference5Ideal.Gen.facts) := fun m g _ =>
  (θ_run _ _ _).mono (fun r h => ⟨fun c => (h c).2.2, Idealize.ShloMosaic.sem_eq_zero_of_no_sems (by decide) r.2⟩) (Long.RefRun.run m g)

theorem algebraic5 : algebraic_Kernel5Ideal_Reference5Ideal_pre_finite_gates_long (hKernel5Ideal := Cert.Kernel5Ideal.Gen.facts)
    (hReference5Ideal := Cert.Reference5Ideal.Gen.facts) (hPre_finite_gates_long := preFacts_long) := by
  intro m g m' g' hpre hagree
  refine ⟨fun c => Cert.Reference5Ideal.Step.R_main_v53 (Long.Batch.rs m c 128), fun c => Cert.Reference5Ideal.Step.R_main_v55 (Long.Batch.rs m c 128),
    (θ_run _ _ _).mono (fun r h c => ?_) (Cert.Kernel5Ideal.Value.run_blocks m g), (θ_run _ _ _).mono (fun r h c => ?_) (Long.RefRun.run m' g')⟩
  · obtain ⟨h0, h1, hk⟩ := h c
    exact ⟨h0.trans (Long.Result.fwd m c (tame_long m hpre c)), h1.trans (Long.Result.bwd m c (tame_long m hpre c)), hk⟩
  · obtain ⟨h0, h1, hk⟩ := h c
    obtain ⟨e0, e1, e2, e3, e4⟩ := hagree c
    have e : Long.RefRun.state m' c 128 = Long.Batch.rs m c 128 := by
      rw [Long.RefSeq.state_eq, e0, e1, e2, e3, e4]
    exact ⟨h0.trans (congrArg _ e), h1.trans (congrArg _ e), hk⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, preFacts_long,
    fun m g _ => Cert.Kernel.Gen.frame m g, fun m g _ => Cert.KernelIdeal.Gen.frame m g, fun m g _ => Cert.KernelIdeal.Gen.frame m g,
    frame_ref, fun m g _ => frame_ref m g trivial,
    fun m g _ => Cert.Kernel2.Gen.frame m g, fun m g _ => Cert.Kernel2Ideal.Gen.frame m g, frame_ref2,
    fun m g _ => HeadRun.Kernel3.frame m g, fun m g _ => HeadRun.Kernel3Ideal.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, fun m g _ => Cert.Kernel5Ideal.Gen.frame m g,
    frame_ref5, fun m g _ => frame_ref5 m g trivial,
    trivial, algebraic, trivial, algebraic2, trivial, algebraic3, trivial, algebraic4, trivial, algebraic5⟩

end Cert.Proof

end
